-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v27_0)) (v1 : (c : Dev Cert.Kernel5Ideal.nD) → Buf (Elt Ideal) ((c.tc : Thread Cert.Kernel5Ideal.nD Cert.Kernel5Ideal.τ).loc Cert.Kernel5Ideal.main_v27_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_v27_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8x16x8192x64 : Shape := ⟨4, ![8, 16, 8192, 64]⟩
abbrev S257x16 : Shape := ⟨2, ![257, 16]⟩
abbrev S_ : Shape := ⟨0, ![]⟩

class Facts : Prop where
  bcast_S_S8x16x8192x64 : S_.BroadcastsInDim S8x16x8192x64 (![] : Fin 0 → Fin S8x16x8192x64.rank)
  bcast_S_S257x16 : S_.BroadcastsInDim S257x16 (![] : Fin 0 → Fin S257x16.rank)

variable [Facts]

def fn {F : FTy → Type} [FloatOps F] (main_arg0 : FVec F S8x16x8192x64 .f32) (main_arg1 : FVec F S8x16x8192x64 .f32) (main_arg2 : FVec F S8x16x8192x64 .f32) (main_arg3 : FVec F S257x16 .f32) : IVec S8x16x8192x64 1 × IVec S8x16x8192x64 1 × IVec S257x16 1 :=
  let main_v0 : FVec F S8x16x8192x64 .f32 := Host.absf main_arg0
  let main_cst : FVec F S_ .f32 := constant S_ .f32 0x7F800000#32
  let main_v1 : FVec F S8x16x8192x64 .f32 := broadcastInDim S8x16x8192x64 ![] bcast_S_S8x16x8192x64 main_cst
  let main_v2 : IVec S8x16x8192x64 1 := cmpf .olt main_v0 main_v1
  let main_v3 : FVec F S8x16x8192x64 .f32 := Host.absf main_arg1
  let main_cst_0 : FVec F S_ .f32 := constant S_ .f32 0x7F800000#32
  let main_v4 : FVec F S8x16x8192x64 .f32 := broadcastInDim S8x16x8192x64 ![] bcast_S_S8x16x8192x64 main_cst_0
  let main_v5 : IVec S8x16x8192x64 1 := cmpf .olt main_v3 main_v4
  let main_v6 : FVec F S257x16 .f32 := Host.absf main_arg3
  let main_cst_1 : FVec F S_ .f32 := constant S_ .f32 0x7F800000#32
  let main_v7 : FVec F S257x16 .f32 := broadcastInDim S257x16 ![] bcast_S_S257x16 main_cst_1
  let main_v8 : IVec S257x16 1 := cmpf .olt main_v6 main_v7
  (main_v2, main_v5, main_v8)
-- ==== Kernel.lean ====
abbrev S8x16x8192x64 : Shape := ⟨4, ![8, 16, 8192, 64]⟩
abbrev S257x16 : Shape := ⟨2, ![257, 16]⟩
abbrev S8x8192x16x64 : Shape := ⟨4, ![8, 8192, 16, 64]⟩
abbrev S8x8192x1024 : Shape := ⟨3, ![8, 8192, 1024]⟩
abbrev S_ : Shape := ⟨0, ![]⟩
abbrev S8x8192x2048 : Shape := ⟨3, ![8, 8192, 2048]⟩
abbrev S8x16x64x8192 : Shape := ⟨4, ![8, 16, 64, 8192]⟩
abbrev S8x8x128x32x256 : Shape := ⟨5, ![8, 8, 128, 32, 256]⟩
abbrev S8x8x32x128x256 : Shape := ⟨5, ![8, 8, 32, 128, 256]⟩
abbrev S8x8x32x16x256 : Shape := ⟨5, ![8, 8, 32, 16, 256]⟩
abbrev S8x8x32x144x256 : Shape := ⟨5, ![8, 8, 32, 144, 256]⟩
abbrev S1024 : Shape := ⟨1, ![1024]⟩
abbrev S1024x1 : Shape := ⟨2, ![1024, 1]⟩
abbrev S1024x16 : Shape := ⟨2, ![1024, 16]⟩
abbrev S16x1024 : Shape := ⟨2, ![16, 1024]⟩
abbrev S1x16x1x1024 : Shape := ⟨4, ![1, 16, 1, 1024]⟩
abbrev S1x16x256x1024 : Shape := ⟨4, ![1, 16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x256 : Shape := ⟨3, ![16, 256, 256]⟩
abbrev S16x1x256x256 : Shape := ⟨4, ![16, 1, 256, 256]⟩
abbrev S16x3x256x256 : Shape := ⟨4, ![16, 3, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1 : Shape := ⟨1, ![1]⟩
abbrev S1x256x512 : Shape := ⟨3, ![1, 256, 512]⟩
abbrev S1x8192x512 : Shape := ⟨3, ![1, 8192, 512]⟩
abbrev S1x4x32x144x256 : Shape := ⟨5, ![1, 4, 32, 144, 256]⟩
abbrev S8x3x256x256 : Shape := ⟨4, ![8, 3, 256, 256]⟩
abbrev S4x3x256x512 : Shape := ⟨4, ![4, 3, 256, 512]⟩
abbrev S1x256x128 : Shape := ⟨3, ![1, 256, 128]⟩
abbrev S256x128 : Shape := ⟨2, ![256, 128]⟩
abbrev S512x128 : Shape := ⟨2, ![512, 128]⟩
abbrev S256x512 : Shape := ⟨2, ![256, 512]⟩
abbrev S1x1x256x256 : Shape := ⟨4, ![1, 1, 256, 256]⟩
abbrev S1x1x256x512 : Shape := ⟨4, ![1, 1, 256, 512]⟩
abbrev S512 : Shape := ⟨1, ![512]⟩
abbrev S1x512 : Shape := ⟨2, ![1, 512]⟩
abbrev S144x512 : Shape := ⟨2, ![144, 512]⟩
abbrev S1x1x1x144x256 : Shape := ⟨5, ![1, 1, 1, 144, 256]⟩
abbrev S144x256 : Shape := ⟨2, ![144, 256]⟩
abbrev S128x512 : Shape := ⟨2, ![128, 512]⟩
abbrev S64x256 : Shape := ⟨2, ![64, 256]⟩
abbrev S128x256 : Shape := ⟨2, ![128, 256]⟩

abbrev nBuf : Space → Nat
  | .hbm => 117
  | .vmem => 11
  | .smem => 0
  | _ => 0

abbrev bufTy : (tb : Table) → Fin (tcTables nBuf tb) → BufTy
  | .hbm, ⟨0, _⟩ => ⟨S8x16x8192x64, .f32⟩
  | .hbm, ⟨1, _⟩ => ⟨S8x16x8192x64, .f32⟩
  | .hbm, ⟨2, _⟩ => ⟨S8x16x8192x64, .f32⟩
  | .hbm, ⟨3, _⟩ => ⟨S257x16, .f32⟩
  | .hbm, ⟨4, _⟩ => ⟨S8x8192x16x64, .f32⟩
  | .hbm, ⟨5, _⟩ => ⟨S8x8192x1024, .f32⟩
  | .hbm, ⟨6, _⟩ => ⟨S_, .f32⟩
  | .hbm, ⟨7, _⟩ => ⟨S8x8192x1024, .f32⟩
  | .hbm, ⟨8, _⟩ => ⟨S8x8192x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x8192x1024, .f32⟩
  | .hbm, ⟨14, _⟩ => ⟨S8x8192x1024, .f32⟩
  | .hbm, ⟨15, _⟩ => ⟨S8x8192x16x64, .f32⟩
  | .hbm, ⟨16, _⟩ => ⟨S8x8192x1024, .f32⟩
  | .hbm, ⟨17, _⟩ => ⟨S8x8192x2048, .f32⟩
  | .hbm, ⟨18, _⟩ => ⟨S8x8192x2048, .bf16⟩
  | .hbm, ⟨19, _⟩ => ⟨S8x16x64x8192, .f32⟩
  | .hbm, ⟨20, _⟩ => ⟨S8x8x128x32x256, .f32⟩
  | .hbm, ⟨21, _⟩ => ⟨S8x8x32x128x256, .f32⟩
  | .hbm, ⟨22, _⟩ => ⟨S8x8x32x128x256, .bf16⟩
  | .hbm, ⟨23, _⟩ => ⟨S_, .bf16⟩
  | .hbm, ⟨24, _⟩ => ⟨S8x8x32x16x256, .bf16⟩
  | .hbm, ⟨25, _⟩ => ⟨S8x8x32x144x256, .bf16⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x16, .f32⟩
  | .hbm, ⟨50, _⟩ => ⟨S16x1024, .f32⟩
  | .hbm, ⟨51, _⟩ => ⟨S1x16x1x1024, .f32⟩
  | .hbm, ⟨52, _⟩ => ⟨S1x16x256x1024, .f32⟩
  | .hbm, ⟨53, _⟩ => ⟨S16x262144, .f32⟩
  | .hbm, ⟨54, _⟩ => ⟨S16x261888, .f32⟩
  | .hbm, ⟨55, _⟩ => ⟨S16x256x1023, .f32⟩
  | .hbm, ⟨56, _⟩ => ⟨S16x256x256, .f32⟩
  | .hbm, ⟨57, _⟩ => ⟨S16x256x256, .f32⟩
  | .hbm, ⟨58, _⟩ => ⟨S16x256x256, .f32⟩
  | .hbm, ⟨59, _⟩ => ⟨S16x1x256x256, .f32⟩
  | .hbm, ⟨60, _⟩ => ⟨S16x1x256x256, .f32⟩
  | .hbm, ⟨61, _⟩ => ⟨S16x1x256x256, .f32⟩
  | .hbm, ⟨62, _⟩ => ⟨S16x3x256x256, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S16x3x256x256, .f32⟩
  | .hbm, ⟨68, _⟩ => ⟨S16x3x256x256, .f32⟩
  | .hbm, ⟨69, _⟩ => ⟨S256, .i32⟩
  | .hbm, ⟨70, _⟩ => ⟨S_, .i32⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i1⟩
  | .hbm, ⟨78, _⟩ => ⟨S256, .i32⟩
  | .hbm, ⟨79, _⟩ => ⟨S256, .i32⟩
  | .hbm, ⟨80, _⟩ => ⟨S_, .i32⟩
  | .hbm, ⟨81, _⟩ => ⟨S256, .i32⟩
  | .hbm, ⟨82, _⟩ => ⟨S256, .i1⟩
  | .hbm, ⟨83, _⟩ => ⟨S256, .i1⟩
  | .hbm, ⟨84, _⟩ => ⟨S_, .i32⟩
  | .hbm, ⟨85, _⟩ => ⟨S256, .i32⟩
  | .hbm, ⟨86, _⟩ => ⟨S256, .i32⟩
  | .hbm, ⟨87, _⟩ => ⟨S256, .i32⟩
  | .hbm, ⟨88, _⟩ => ⟨S256x1, .i32⟩
  | .hbm, ⟨89, _⟩ => ⟨S1x256, .i32⟩
  | .hbm, ⟨90, _⟩ => ⟨S256x256, .i32⟩
  | .hbm, ⟨91, _⟩ => ⟨S256x256, .i32⟩
  | .hbm, ⟨92, _⟩ => ⟨S256x256, .i1⟩
  | .hbm, ⟨93, _⟩ => ⟨S_, .f32⟩
  | .hbm, ⟨94, _⟩ => ⟨S_, .f32⟩
  | .hbm, ⟨95, _⟩ => ⟨S256x256, .f32⟩
  | .hbm, ⟨96, _⟩ => ⟨S256x256, .f32⟩
  | .hbm, ⟨97, _⟩ => ⟨S256x256, .f32⟩
  | .hbm, ⟨98, _⟩ => ⟨S_, .i32⟩
  | .hbm, ⟨99, _⟩ => ⟨S1, .i32⟩
  | .hbm, ⟨100, _⟩ => ⟨S256x256, .f32⟩
  | .hbm, ⟨101, _⟩ => ⟨S16x256x256, .f32⟩
  | .hbm, ⟨102, _⟩ => ⟨S16x3x256x256, .f32⟩
  | .hbm, ⟨103, _⟩ => ⟨S256x256, .i32⟩
  | .hbm, ⟨104, _⟩ => ⟨S256x256, .i32⟩
  | .hbm, ⟨105, _⟩ => ⟨S256x256, .i1⟩
  | .hbm, ⟨106, _⟩ => ⟨S_, .f32⟩
  | .hbm, ⟨107, _⟩ => ⟨S_, .f32⟩
  | .hbm, ⟨108, _⟩ => ⟨S256x256, .f32⟩
  | .hbm, ⟨109, _⟩ => ⟨S256x256, .f32⟩
  | .hbm, ⟨110, _⟩ => ⟨S256x256, .f32⟩
  | .hbm, ⟨111, _⟩ => ⟨S_, .i32⟩
  | .hbm, ⟨112, _⟩ => ⟨S1, .i32⟩
  | .hbm, ⟨113, _⟩ => ⟨S256x256, .f32⟩
  | .hbm, ⟨114, _⟩ => ⟨S16x256x256, .f32⟩
  | .hbm, ⟨115, _⟩ => ⟨S16x3x256x256, .f32⟩
  | .hbm, ⟨116, _⟩ => ⟨S8x8192x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x4x32x144x256, .bf16⟩
  | .local _ .vmem, ⟨5, _⟩ => ⟨S1x4x32x144x256, .bf16⟩
  | .local _ .vmem, ⟨6, _⟩ => ⟨S8x3x256x256, .f32⟩
  | .local _ .vmem, ⟨7, _⟩ => ⟨S8x3x256x256, .f32⟩
  | .local _ .vmem, ⟨8, _⟩ => ⟨S1x256x512, .bf16⟩
  | .local _ .vmem, ⟨9, _⟩ => ⟨S1x256x512, .bf16⟩
  | .local _ .vmem, ⟨10, _⟩ => ⟨S4x3x256x512, .f32⟩
  | _, _ => ⟨S8x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_c_4 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_11 : Ref sig .tc := ⟨.hbm, 93, rfl⟩
abbrev main_cst_12 : Ref sig .tc := ⟨.hbm, 94, rfl⟩
abbrev main_call2_v0 : Ref sig .tc := ⟨.hbm, 95, rfl⟩
abbrev main_call2_v1 : Ref sig .tc := ⟨.hbm, 96, rfl⟩
abbrev main_v55 : Ref sig .tc := ⟨.hbm, 97, rfl⟩
abbrev main_c_13 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_14 : Ref sig .tc := ⟨.hbm, 106, rfl⟩
abbrev main_cst_15 : Ref sig .tc := ⟨.hbm, 107, rfl⟩
abbrev main_call3_v0 : Ref sig .tc := ⟨.hbm, 108, rfl⟩
abbrev main_call3_v1 : Ref sig .tc := ⟨.hbm, 109, rfl⟩
abbrev main_v63 : Ref sig .tc := ⟨.hbm, 110, rfl⟩
abbrev main_c_16 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 32], ![false, false, false]⟩

def k0_mult1 (i : grid0.Coords) : BitVec 32 :=
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c256_i32 : BitVec 32 := 256#32
  let v19 : BitVec 32 := Scalar.muli v1 c256_i32
  v19
def k0_off1 (i : grid0.Coords) (c0_i32 : BitVec 32) : Fin 3 → Nat :=
  let c0_11 : Index := 0#32
  let arg2 : BitVec 32 := BitVec.ofNat 32 (i 2).val
  let v0 : BitVec 32 := Scalar.subi arg2 c0_i32
  let c0_i32_0 : BitVec 32 := 0#32
  let v1 : BitVec 32 := Scalar.maxsi v0 c0_i32_0
  let c256_i32 : BitVec 32 := 256#32
  let v19 : BitVec 32 := Scalar.muli v1 c256_i32
  let v20 : BitVec 32 := v19
  let v21 : Index := Scalar.indexCast v20
  let c0_12 : Index := 0#32
  ![0, v21.toNat, 0]
def k0_mult2 (i : grid0.Coords) : BitVec 32 :=
  let arg2 : BitVec 32 := BitVec.ofNat 32 (i 2).val
  let c1_i32 : BitVec 32 := 1#32
  let v2 : BitVec 32 := Scalar.subi arg2 c1_i32
  let c0_i32_1 : BitVec 32 := 0#32
  let v3 : BitVec 32 := Scalar.maxsi v2 c0_i32_1
  let c256_i32_30 : BitVec 32 := 256#32
  let v38 : BitVec 32 := Scalar.muli v3 c256_i32_30
  v38
def k0_mult3 (i : grid0.Coords) : BitVec 32 :=
  let arg2 : BitVec 32 := BitVec.ofNat 32 (i 2).val
  let c2_i32 : BitVec 32 := 2#32
  let v4 : BitVec 32 := Scalar.subi arg2 c2_i32
  let c0_i32_2 : BitVec 32 := 0#32
  let v5 : BitVec 32 := Scalar.maxsi v4 c0_i32_2
  let c256_i32_51 : BitVec 32 := 256#32
  let v59 : BitVec 32 := Scalar.muli v5 c256_i32_51
  v59
def k0_mult4 (i : grid0.Coords) : BitVec 32 :=
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c256_i32_75 : BitVec 32 := 256#32
  let v91 : BitVec 32 := Scalar.muli v1 c256_i32_75
  v91
def k0_off2 (i : grid0.Coords) (c0_i32 : BitVec 32) : Fin 3 → Nat :=
  let c0_76 : Index := 0#32
  let arg2 : BitVec 32 := BitVec.ofNat 32 (i 2).val
  let v0 : BitVec 32 := Scalar.subi arg2 c0_i32
  let c0_i32_0 : BitVec 32 := 0#32
  let v1 : BitVec 32 := Scalar.maxsi v0 c0_i32_0
  let c256_i32_75 : BitVec 32 := 256#32
  let v91 : BitVec 32 := Scalar.muli v1 c256_i32_75
  let v92 : BitVec 32 := v91
  let v93 : Index := Scalar.indexCast v92
  let c128_77 : Index := 128#32
  ![0, v93.toNat, 128]
def k0_mult5 (i : grid0.Coords) : BitVec 32 :=
  let arg2 : BitVec 32 := BitVec.ofNat 32 (i 2).val
  let c1_i32 : BitVec 32 := 1#32
  let v2 : BitVec 32 := Scalar.subi arg2 c1_i32
  let c0_i32_1 : BitVec 32 := 0#32
  let v3 : BitVec 32 := Scalar.maxsi v2 c0_i32_1
  let c256_i32_95 : BitVec 32 := 256#32
  let v110 : BitVec 32 := Scalar.muli v3 c256_i32_95
  v110
def k0_mult6 (i : grid0.Coords) : BitVec 32 :=
  let arg2 : BitVec 32 := BitVec.ofNat 32 (i 2).val
  let c2_i32 : BitVec 32 := 2#32
  let v4 : BitVec 32 := Scalar.subi arg2 c2_i32
  let c0_i32_2 : BitVec 32 := 0#32
  let v5 : BitVec 32 := Scalar.maxsi v4 c0_i32_2
  let c256_i32_116 : BitVec 32 := 256#32
  let v131 : BitVec 32 := Scalar.muli v5 c256_i32_116
  v131
def k0_off3 (i : grid0.Coords) (c0_i32 : BitVec 32) : Fin 5 → Nat :=
  let c0_142 : Index := 0#32
  let c0_143 : Index := 0#32
  let arg2 : BitVec 32 := BitVec.ofNat 32 (i 2).val
  let v0 : BitVec 32 := Scalar.subi arg2 c0_i32
  let c0_i32_0 : BitVec 32 := 0#32
  let v1 : BitVec 32 := Scalar.maxsi v0 c0_i32_0
  let v161 : Index := Scalar.indexCast v1
  let c0_144 : Index := 0#32
  let c0_145 : Index := 0#32
  ![0, 0, v161.toNat, 0, 0]
def k0_mult7 (i : grid0.Coords) : BitVec 32 :=
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c256_i32_172 : BitVec 32 := 256#32
  let v209 : BitVec 32 := Scalar.muli v1 c256_i32_172
  v209
def k0_off4 (i : grid0.Coords) (c0_i32 : BitVec 32) : Fin 3 → Nat :=
  let c0_173 : Index := 0#32
  let arg2 : BitVec 32 := BitVec.ofNat 32 (i 2).val
  let v0 : BitVec 32 := Scalar.subi arg2 c0_i32
  let c0_i32_0 : BitVec 32 := 0#32
  let v1 : BitVec 32 := Scalar.maxsi v0 c0_i32_0
  let c256_i32_172 : BitVec 32 := 256#32
  let v209 : BitVec 32 := Scalar.muli v1 c256_i32_172
  let v210 : BitVec 32 := v209
  let v211 : Index := Scalar.indexCast v210
  let c256_174 : Index := 256#32
  ![0, v211.toNat, 256]
def k0_mult8 (i : grid0.Coords) : BitVec 32 :=
  let arg2 : BitVec 32 := BitVec.ofNat 32 (i 2).val
  let c1_i32 : BitVec 32 := 1#32
  let v2 : BitVec 32 := Scalar.subi arg2 c1_i32
  let c0_i32_1 : BitVec 32 := 0#32
  let v3 : BitVec 32 := Scalar.maxsi v2 c0_i32_1
  let c256_i32_191 : BitVec 32 := 256#32
  let v228 : BitVec 32 := Scalar.muli v3 c256_i32_191
  v228
def k0_mult9 (i : grid0.Coords) : BitVec 32 :=
  let arg2 : BitVec 32 := BitVec.ofNat 32 (i 2).val
  let c2_i32 : BitVec 32 := 2#32
  let v4 : BitVec 32 := Scalar.subi arg2 c2_i32
  let c0_i32_2 : BitVec 32 := 0#32
  let v5 : BitVec 32 := Scalar.maxsi v4 c0_i32_2
  let c256_i32_212 : BitVec 32 := 256#32
  let v249 : BitVec 32 := Scalar.muli v5 c256_i32_212
  v249
def k0_off5 (i : grid0.Coords) (c0_i32 : BitVec 32) : Fin 5 → Nat :=
  let c0_238 : Index := 0#32
  let c1_239 : Index := 1#32
  let arg2 : BitVec 32 := BitVec.ofNat 32 (i 2).val
  let v0 : BitVec 32 := Scalar.subi arg2 c0_i32
  let c0_i32_0 : BitVec 32 := 0#32
  let v1 : BitVec 32 := Scalar.maxsi v0 c0_i32_0
  let v279 : Index := Scalar.indexCast v1
  let c0_240 : Index := 0#32
  let c0_241 : Index := 0#32
  ![0, 1, v279.toNat, 0, 0]
def k0_mult10 (i : grid0.Coords) : BitVec 32 :=
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c256_i32_268 : BitVec 32 := 256#32
  let v327 : BitVec 32 := Scalar.muli v1 c256_i32_268
  v327
def k0_off6 (i : grid0.Coords) (c0_i32 : BitVec 32) : Fin 3 → Nat :=
  let c0_269 : Index := 0#32
  let arg2 : BitVec 32 := BitVec.ofNat 32 (i 2).val
  let v0 : BitVec 32 := Scalar.subi arg2 c0_i32
  let c0_i32_0 : BitVec 32 := 0#32
  let v1 : BitVec 32 := Scalar.maxsi v0 c0_i32_0
  let c256_i32_268 : BitVec 32 := 256#32
  let v327 : BitVec 32 := Scalar.muli v1 c256_i32_268
  let v328 : BitVec 32 := v327
  let v329 : Index := Scalar.indexCast v328
  let c384_270 : Index := 384#32
  ![0, v329.toNat, 384]
def k0_mult11 (i : grid0.Coords) : BitVec 32 :=
  let arg2 : BitVec 32 := BitVec.ofNat 32 (i 2).val
  let c1_i32 : BitVec 32 := 1#32
  let v2 : BitVec 32 := Scalar.subi arg2 c1_i32
  let c0_i32_1 : BitVec 32 := 0#32
  let v3 : BitVec 32 := Scalar.maxsi v2 c0_i32_1
  let c256_i32_287 : BitVec 32 := 256#32
  let v346 : BitVec 32 := Scalar.muli v3 c256_i32_287
  v346
def k0_mult12 (i : grid0.Coords) : BitVec 32 :=
  let arg2 : BitVec 32 := BitVec.ofNat 32 (i 2).val
  let c2_i32 : BitVec 32 := 2#32
  let v4 : BitVec 32 := Scalar.subi arg2 c2_i32
  let c0_i32_2 : BitVec 32 := 0#32
  let v5 : BitVec 32 := Scalar.maxsi v4 c0_i32_2
  let c256_i32_308 : BitVec 32 := 256#32
  let v367 : BitVec 32 := Scalar.muli v5 c256_i32_308
  v367
def k0_off7 (i : grid0.Coords) (c0_i32 : BitVec 32) : Fin 5 → Nat :=
  let c0_334 : Index := 0#32
  let c2_335 : Index := 2#32
  let arg2 : BitVec 32 := BitVec.ofNat 32 (i 2).val
  let v0 : BitVec 32 := Scalar.subi arg2 c0_i32
  let c0_i32_0 : BitVec 32 := 0#32
  let v1 : BitVec 32 := Scalar.maxsi v0 c0_i32_0
  let v397 : Index := Scalar.indexCast v1
  let c0_336 : Index := 0#32
  let c0_337 : Index := 0#32
  ![0, 2, v397.toNat, 0, 0]
def k0_off8 (i : grid0.Coords) (c0_i32 : BitVec 32) : Fin 5 → Nat :=
  let c0_365 : Index := 0#32
  let c3_366 : Index := 3#32
  let arg2 : BitVec 32 := BitVec.ofNat 32 (i 2).val
  let v0 : BitVec 32 := Scalar.subi arg2 c0_i32
  let c0_i32_0 : BitVec 32 := 0#32
  let v1 : BitVec 32 := Scalar.maxsi v0 c0_i32_0
  let v443 : Index := Scalar.indexCast v1
  let c0_367 : Index := 0#32
  let c0_368 : Index := 0#32
  ![0, 3, v443.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x32x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x3x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x16x8192x64 : Shape := ⟨4, ![8, 16, 8192, 64]⟩
abbrev S257x16 : Shape := ⟨2, ![257, 16]⟩
abbrev S_ : Shape := ⟨0, ![]⟩
abbrev S8x16x8704x64 : Shape := ⟨4, ![8, 16, 8704, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S64x576x16 : Shape := ⟨3, ![64, 576, 16]⟩
abbrev S16x64x576 : Shape := ⟨3, ![16, 64, 576]⟩
abbrev S128 : Shape := ⟨1, ![128]⟩
abbrev S128x1 : Shape := ⟨2, ![128, 1]⟩
abbrev S128x4 : Shape := ⟨2, ![128, 4]⟩
abbrev S128x8x16x64x64 : Shape := ⟨5, ![128, 8, 16, 64, 64]⟩
abbrev S128x8x16x576x64 : Shape := ⟨5, ![128, 8, 16, 576, 64]⟩
abbrev S128x8x16x64x576 : Shape := ⟨5, ![128, 8, 16, 64, 576]⟩
abbrev S1x16x64x576 : Shape := ⟨4, ![1, 16, 64, 576]⟩
abbrev S1x1x16x64x576 : Shape := ⟨5, ![1, 1, 16, 64, 576]⟩
abbrev S128x576 : Shape := ⟨2, ![128, 576]⟩
abbrev S8x16x64x576 : Shape := ⟨4, ![8, 16, 64, 576]⟩
abbrev S128x8x16x64 : Shape := ⟨4, ![128, 8, 16, 64]⟩
abbrev S128x8x16x64x1 : Shape := ⟨5, ![128, 8, 16, 64, 1]⟩
abbrev S8x16x128x64x64 : Shape := ⟨5, ![8, 16, 128, 64, 64]⟩
abbrev S8x8192x16x64 : Shape := ⟨4, ![8, 8192, 16, 64]⟩
abbrev S8x8192x1024 : Shape := ⟨3, ![8, 8192, 1024]⟩

abbrev nBuf : Space → Nat
  | .hbm => 135
  | .vmem => 0
  | .smem => 0
  | _ => 0

abbrev hbmTy0_0 (i : Nat) : BufTy := match i % 128 with
  | 0 => ⟨S8x16x8192x64, .f32⟩
  | 1 => ⟨S8x16x8192x64, .f32⟩
  | 2 => ⟨S8x16x8192x64, .f32⟩
  | 3 => ⟨S257x16, .f32⟩
  | 4 => ⟨S_, .i32⟩
  | 5 => ⟨S_, .f32⟩
  | 6 => ⟨S8x16x8704x64, .f32⟩
  | 7 => ⟨S_, .i32⟩
  | 8 => ⟨S_, .f32⟩
  | 9 => ⟨S8x16x8704x64, .f32⟩
  | 10 => ⟨S64, .i32⟩
  | 11 => ⟨S576, .i32⟩
  | 12 => ⟨S_, .i32⟩
  | 13 => ⟨S576, .i32⟩
  | 14 => ⟨S576, .i32⟩
  | 15 => ⟨S64x1, .i32⟩
  | 16 => ⟨S1x576, .i32⟩
  | 17 => ⟨S64x576, .i32⟩
  | 18 => ⟨S64x576, .i32⟩
  | 19 => ⟨S64x576, .i32⟩
  | 20 => ⟨S_, .i32⟩
  | 21 => ⟨S_, .i32⟩
  | 22 => ⟨S_, .i32⟩
  | 23 => ⟨S64x576, .i32⟩
  | 24 => ⟨S64x576, .i32⟩
  | 25 => ⟨S_, .i32⟩
  | 26 => ⟨S64x576, .i32⟩
  | 27 => ⟨S64x576, .i32⟩
  | 28 => ⟨S_, .i32⟩
  | 29 => ⟨S64x576, .i32⟩
  | 30 => ⟨S64x576, .i32⟩
  | 31 => ⟨S_, .i32⟩
  | 32 => ⟨S64x576, .i32⟩
  | 33 => ⟨S64x576, .i1⟩
  | 34 => ⟨S_, .i32⟩
  | 35 => ⟨S64x576, .i32⟩
  | 36 => ⟨S64x576, .i32⟩
  | 37 => ⟨S64x576, .i32⟩
  | 38 => ⟨S64x576x1, .i32⟩
  | 39 => ⟨S64x576x16, .f32⟩
  | 40 => ⟨S16x64x576, .f32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i1⟩
  | 48 => ⟨S_, .i32⟩
  | 49 => ⟨S128, .i32⟩
  | 50 => ⟨S128, .i32⟩
  | 51 => ⟨S128, .i32⟩
  | 52 => ⟨S_, .i32⟩
  | 53 => ⟨S128x1, .i32⟩
  | 54 => ⟨S_, .i32⟩
  | 55 => ⟨S128x1, .i32⟩
  | 56 => ⟨S128x1, .i32⟩
  | 57 => ⟨S_, .i32⟩
  | 58 => ⟨S128x1, .i32⟩
  | 59 => ⟨S128x4, .i32⟩
  | 60 => ⟨S128x8x16x64x64, .f32⟩
  | 61 => ⟨S_, .i32⟩
  | 62 => ⟨S128, .i32⟩
  | 63 => ⟨S128, .i1⟩
  | 64 => ⟨S_, .i32⟩
  | 65 => ⟨S128, .i32⟩
  | 66 => ⟨S128, .i32⟩
  | 67 => ⟨S128, .i32⟩
  | 68 => ⟨S_, .i32⟩
  | 69 => ⟨S128x1, .i32⟩
  | 70 => ⟨S_, .i32⟩
  | 71 => ⟨S128x1, .i32⟩
  | 72 => ⟨S128x1, .i32⟩
  | 73 => ⟨S_, .i32⟩
  | 74 => ⟨S128x1, .i32⟩
  | 75 => ⟨S128x4, .i32⟩
  | 76 => ⟨S128x8x16x576x64, .f32⟩
  | 77 => ⟨S_, .i32⟩
  | 78 => ⟨S128, .i32⟩
  | 79 => ⟨S128, .i1⟩
  | 80 => ⟨S_, .i32⟩
  | 81 => ⟨S128, .i32⟩
  | 82 => ⟨S128, .i32⟩
  | 83 => ⟨S128, .i32⟩
  | 84 => ⟨S_, .i32⟩
  | 85 => ⟨S128x1, .i32⟩
  | 86 => ⟨S_, .i32⟩
  | 87 => ⟨S128x1, .i32⟩
  | 88 => ⟨S128x1, .i32⟩
  | 89 => ⟨S_, .i32⟩
  | 90 => ⟨S128x1, .i32⟩
  | 91 => ⟨S128x4, .i32⟩
  | 92 => ⟨S128x8x16x576x64, .f32⟩
  | 93 => ⟨S128x8x16x64x576, .f32⟩
  | 94 => ⟨S_, .f32⟩
  | 95 => ⟨S128x8x16x64x576, .f32⟩
  | 96 => ⟨S128x8x16x64x576, .f32⟩
  | 97 => ⟨S1x16x64x576, .f32⟩
  | 98 => ⟨S1x1x16x64x576, .f32⟩
  | 99 => ⟨S128x8x16x64x576, .f32⟩
  | 100 => ⟨S128x8x16x64x576, .f32⟩
  | 101 => ⟨S1x576, .i32⟩
  | 102 => ⟨S128x1, .i32⟩
  | 103 => ⟨S128x576, .i32⟩
  | 104 => ⟨S128x576, .i32⟩
  | 105 => ⟨S128x576, .i32⟩
  | 106 => ⟨S_, .i32⟩
  | 107 => ⟨S128x576, .i32⟩
  | 108 => ⟨S128x576, .i1⟩
  | 109 => ⟨S_, .f32⟩
  | 110 => ⟨S_, .f32⟩
  | 111 => ⟨S128x8x16x64x576, .i1⟩
  | 112 => ⟨S8x16x64x576, .f32⟩
  | 113 => ⟨S128x8x16x64x576, .f32⟩
  | 114 => ⟨S128x8x16x64x576, .f32⟩
  | 115 => ⟨S_, .f32⟩
  | 116 => ⟨S128x8x16x64, .f32⟩
  | 117 => ⟨S_, .f32⟩
  | 118 => ⟨S128x8x16x64, .f32⟩
  | 119 => ⟨S128x8x16x64, .f32⟩
  | 120 => ⟨S128x8x16x64x1, .f32⟩
  | 121 => ⟨S128x8x16x64x576, .f32⟩
  | 122 => ⟨S128x8x16x64x576, .f32⟩
  | 123 => ⟨S128x8x16x64x576, .f32⟩
  | 124 => ⟨S_, .f32⟩
  | 125 => ⟨S128x8x16x64, .f32⟩
  | 126 => ⟨S128x8x16x64x1, .f32⟩
  | 127 => ⟨S128x8x16x64x576, .f32⟩
  | _ => ⟨S8x16x8192x64, .f32⟩

abbrev hbmTy0_1 (i : Nat) : BufTy := match i % 128 with
  | 0 => ⟨S128x8x16x64x576, .f32⟩
  | 1 => ⟨S128x8x16x64x64, .f32⟩
  | 2 => ⟨S8x16x128x64x64, .f32⟩
  | 3 => ⟨S8x16x8192x64, .f32⟩
  | 4 => ⟨S8x8192x16x64, .f32⟩
  | 5 => ⟨S8x8192x1024, .f32⟩
  | 6 => ⟨S8x8192x1024, .bf16⟩
  | _ => ⟨S8x16x8192x64, .f32⟩

abbrev hbmTy (i : Nat) : BufTy := match i / 128 with
  | 0 => hbmTy0_0 i
  | 1 => hbmTy0_1 i
  | _ => ⟨S8x16x8192x64, .f32⟩

abbrev bufTy : (tb : Table) → Fin (tcTables nBuf tb) → BufTy
  | .hbm, ⟨i, _⟩ => hbmTy i
  | _, _ => ⟨S8x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_c_3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_c_9 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_c_11 : Ref sig .tc := ⟨.hbm, 54, rfl⟩
abbrev main_v31 : Ref sig .tc := ⟨.hbm, 55, rfl⟩
abbrev main_v32 : Ref sig .tc := ⟨.hbm, 56, rfl⟩
abbrev main_c_12 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_13 : Ref sig .tc := ⟨.hbm, 61, rfl⟩
abbrev main_v36 : Ref sig .tc := ⟨.hbm, 62, rfl⟩
abbrev main_v37 : Ref sig .tc := ⟨.hbm, 63, rfl⟩
abbrev main_c_14 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_15 : Ref sig .tc := ⟨.hbm, 68, rfl⟩
abbrev main_v41 : Ref sig .tc := ⟨.hbm, 69, rfl⟩
abbrev main_c_16 : Ref sig .tc := ⟨.hbm, 70, rfl⟩
abbrev main_v42 : Ref sig .tc := ⟨.hbm, 71, rfl⟩
abbrev main_v43 : Ref sig .tc := ⟨.hbm, 72, rfl⟩
abbrev main_c_17 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_18 : Ref sig .tc := ⟨.hbm, 77, rfl⟩
abbrev main_v47 : Ref sig .tc := ⟨.hbm, 78, rfl⟩
abbrev main_v48 : Ref sig .tc := ⟨.hbm, 79, rfl⟩
abbrev main_c_19 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_20 : Ref sig .tc := ⟨.hbm, 84, rfl⟩
abbrev main_v52 : Ref sig .tc := ⟨.hbm, 85, rfl⟩
abbrev main_c_21 : Ref sig .tc := ⟨.hbm, 86, rfl⟩
abbrev main_v53 : Ref sig .tc := ⟨.hbm, 87, rfl⟩
abbrev main_v54 : Ref sig .tc := ⟨.hbm, 88, rfl⟩
abbrev main_c_22 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_23 : Ref sig .tc := ⟨.hbm, 106, rfl⟩
abbrev main_v70 : Ref sig .tc := ⟨.hbm, 107, rfl⟩
abbrev main_v71 : Ref sig .tc := ⟨.hbm, 108, rfl⟩
abbrev main_cst_24 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_v72 : Ref sig .tc := ⟨.hbm, 114, rfl⟩
abbrev main_cst_25 : Ref sig .tc := ⟨.hbm, 115, rfl⟩
abbrev main_v73 : Ref sig .tc := ⟨.hbm, 116, rfl⟩
abbrev main_cst_26 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_27 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S65536x1024 : Shape := ⟨2, ![65536, 1024]⟩
abbrev S1x1024 : Shape := ⟨2, ![1, 1024]⟩
abbrev S1x5632 : Shape := ⟨2, ![1, 5632]⟩
abbrev S512x1024 : Shape := ⟨2, ![512, 1024]⟩
abbrev S16x1024 : Shape := ⟨2, ![16, 1024]⟩
abbrev S528x2816 : Shape := ⟨2, ![528, 2816]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x1024 : Shape := ⟨2, ![528, 1024]⟩
abbrev S1024x2816 : Shape := ⟨2, ![1024, 2816]⟩
abbrev S1x2816 : Shape := ⟨2, ![1, 2816]⟩
abbrev S512x2816 : Shape := ⟨2, ![512, 2816]⟩

abbrev nBuf : Space → Nat
  | .hbm => 17
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S65536x1024, .f32⟩
  | .hbm, ⟨9, _⟩ => ⟨S65536x1024, .f32⟩
  | .hbm, ⟨10, _⟩ => ⟨S65536x1024, .bf16⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x5632, .f32⟩
  | .hbm, ⟨16, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S512x1024, .f32⟩
  | .local _ .vmem, ⟨15, _⟩ => ⟨S512x1024, .f32⟩
  | .local _ .vmem, ⟨16, _⟩ => ⟨S528x2816, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8x8192x1024 : Shape := ⟨3, ![8, 8192, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8194x5632 : Shape := ⟨3, ![8, 8194, 5632]⟩
abbrev S1x5632 : Shape := ⟨2, ![1, 5632]⟩
abbrev S1x1x5632 : Shape := ⟨3, ![1, 1, 5632]⟩
abbrev S8x8192x2816 : Shape := ⟨3, ![8, 8192, 2816]⟩
abbrev S65536x1024 : Shape := ⟨2, ![65536, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S8x8192x1024, .f32⟩
  | .hbm, ⟨9, _⟩ => ⟨S8x8192x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S8x8192x5632, .f32⟩
  | .hbm, ⟨27, _⟩ => ⟨S_, .i32⟩
  | .hbm, ⟨28, _⟩ => ⟨S_, .f32⟩
  | .hbm, ⟨29, _⟩ => ⟨S8x8194x5632, .f32⟩
  | .hbm, ⟨30, _⟩ => ⟨S8x8192x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S8x8192x5632, .f32⟩
  | .hbm, ⟨35, _⟩ => ⟨S8x8192x5632, .f32⟩
  | .hbm, ⟨36, _⟩ => ⟨S1x1x5632, .f32⟩
  | .hbm, ⟨37, _⟩ => ⟨S8x8192x5632, .f32⟩
  | .hbm, ⟨38, _⟩ => ⟨S8x8192x5632, .f32⟩
  | .hbm, ⟨39, _⟩ => ⟨S8x8192x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S8x8192x5632, .f32⟩
  | .hbm, ⟨44, _⟩ => ⟨S8x8192x5632, .f32⟩
  | .hbm, ⟨45, _⟩ => ⟨S8x8192x5632, .f32⟩
  | .hbm, ⟨46, _⟩ => ⟨S8x8192x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S8x8192x5632, .f32⟩
  | .hbm, ⟨51, _⟩ => ⟨S8x8192x5632, .f32⟩
  | .hbm, ⟨52, _⟩ => ⟨S8x8192x5632, .f32⟩
  | .hbm, ⟨53, _⟩ => ⟨S8x8192x2816, .f32⟩
  | .hbm, ⟨54, _⟩ => ⟨S8x8192x2816, .f32⟩
  | .hbm, ⟨55, _⟩ => ⟨S8x8192x2816, .f32⟩
  | .hbm, ⟨56, _⟩ => ⟨S8x8192x2816, .f32⟩
  | .hbm, ⟨57, _⟩ => ⟨S_, .f32⟩
  | .hbm, ⟨58, _⟩ => ⟨S8x8192x2816, .f32⟩
  | .hbm, ⟨59, _⟩ => ⟨S8x8192x2816, .f32⟩
  | .hbm, ⟨60, _⟩ => ⟨S_, .f32⟩
  | .hbm, ⟨61, _⟩ => ⟨S8x8192x2816, .f32⟩
  | .hbm, ⟨62, _⟩ => ⟨S8x8192x2816, .f32⟩
  | .hbm, ⟨63, _⟩ => ⟨S8x8192x2816, .f32⟩
  | .hbm, ⟨64, _⟩ => ⟨S8x8192x2816, .f32⟩
  | .hbm, ⟨65, _⟩ => ⟨S8x8192x1024, .f32⟩
  | .hbm, ⟨66, _⟩ => ⟨S8x8192x1024, .f32⟩
  | .hbm, ⟨67, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S65536x512 : Shape := ⟨2, ![65536, 512]⟩
abbrev S65536x1024 : Shape := ⟨2, ![65536, 1024]⟩
abbrev S1x1024 : Shape := ⟨2, ![1, 1024]⟩
abbrev S1x5632 : Shape := ⟨2, ![1, 5632]⟩
abbrev S512x1024 : Shape := ⟨2, ![512, 1024]⟩
abbrev S16x1024 : Shape := ⟨2, ![16, 1024]⟩
abbrev S512x512 : Shape := ⟨2, ![512, 512]⟩
abbrev S16x512 : Shape := ⟨2, ![16, 512]⟩
abbrev S528x2816 : Shape := ⟨2, ![528, 2816]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x1024 : Shape := ⟨2, ![528, 1024]⟩
abbrev S1024x2816 : Shape := ⟨2, ![1024, 2816]⟩
abbrev S1x2816 : Shape := ⟨2, ![1, 2816]⟩
abbrev S512x2816 : Shape := ⟨2, ![512, 2816]⟩

abbrev nBuf : Space → Nat
  | .hbm => 20
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S65536x512, .f32⟩
  | .hbm, ⟨10, _⟩ => ⟨S65536x512, .bf16⟩
  | .hbm, ⟨11, _⟩ => ⟨S65536x512, .f32⟩
  | .hbm, ⟨12, _⟩ => ⟨S65536x512, .bf16⟩
  | .hbm, ⟨13, _⟩ => ⟨S65536x1024, .f32⟩
  | .hbm, ⟨14, _⟩ => ⟨S1024x1024, .bf16⟩
  | .hbm, ⟨15, _⟩ => ⟨S1024x5632, .bf16⟩
  | .hbm, ⟨16, _⟩ => ⟨S2816x1024, .bf16⟩
  | .hbm, ⟨17, _⟩ => ⟨S1x1024, .f32⟩
  | .hbm, ⟨18, _⟩ => ⟨S1x5632, .f32⟩
  | .hbm, ⟨19, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S3x5632, .f32⟩
  | .local _ .vmem, ⟨16, _⟩ => ⟨S1x5632, .f32⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | .local _ .vmem, ⟨20, _⟩ => ⟨S528x2816, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8194x5632 : Shape := ⟨3, ![8, 8194, 5632]⟩
abbrev S1x5632 : Shape := ⟨2, ![1, 5632]⟩
abbrev S1x1x5632 : Shape := ⟨3, ![1, 1, 5632]⟩
abbrev S8x8192x2816 : Shape := ⟨3, ![8, 8192, 2816]⟩
abbrev S65536x1024 : Shape := ⟨2, ![65536, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S8x8192x1024, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S8x8192x1, .f32⟩
  | .hbm, ⟨23, _⟩ => ⟨S8x8192x1024, .f32⟩
  | .hbm, ⟨24, _⟩ => ⟨S8x8192x1024, .f32⟩
  | .hbm, ⟨25, _⟩ => ⟨S1x1x1024, .f32⟩
  | .hbm, ⟨26, _⟩ => ⟨S8x8192x1024, .f32⟩
  | .hbm, ⟨27, _⟩ => ⟨S8x8192x1024, .f32⟩
  | .hbm, ⟨28, _⟩ => ⟨S8x8192x5632, .f32⟩
  | .hbm, ⟨29, _⟩ => ⟨S_, .i32⟩
  | .hbm, ⟨30, _⟩ => ⟨S_, .f32⟩
  | .hbm, ⟨31, _⟩ => ⟨S8x8194x5632, .f32⟩
  | .hbm, ⟨32, _⟩ => ⟨S8x8192x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S8x8192x5632, .f32⟩
  | .hbm, ⟨37, _⟩ => ⟨S8x8192x5632, .f32⟩
  | .hbm, ⟨38, _⟩ => ⟨S1x1x5632, .f32⟩
  | .hbm, ⟨39, _⟩ => ⟨S8x8192x5632, .f32⟩
  | .hbm, ⟨40, _⟩ => ⟨S8x8192x5632, .f32⟩
  | .hbm, ⟨41, _⟩ => ⟨S8x8192x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S8x8192x5632, .f32⟩
  | .hbm, ⟨46, _⟩ => ⟨S8x8192x5632, .f32⟩
  | .hbm, ⟨47, _⟩ => ⟨S8x8192x5632, .f32⟩
  | .hbm, ⟨48, _⟩ => ⟨S8x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S8x8192x5632, .f32⟩
  | .hbm, ⟨53, _⟩ => ⟨S8x8192x5632, .f32⟩
  | .hbm, ⟨54, _⟩ => ⟨S8x8192x5632, .f32⟩
  | .hbm, ⟨55, _⟩ => ⟨S8x8192x2816, .f32⟩
  | .hbm, ⟨56, _⟩ => ⟨S8x8192x2816, .f32⟩
  | .hbm, ⟨57, _⟩ => ⟨S8x8192x2816, .f32⟩
  | .hbm, ⟨58, _⟩ => ⟨S8x8192x2816, .f32⟩
  | .hbm, ⟨59, _⟩ => ⟨S_, .f32⟩
  | .hbm, ⟨60, _⟩ => ⟨S8x8192x2816, .f32⟩
  | .hbm, ⟨61, _⟩ => ⟨S8x8192x2816, .f32⟩
  | .hbm, ⟨62, _⟩ => ⟨S_, .f32⟩
  | .hbm, ⟨63, _⟩ => ⟨S8x8192x2816, .f32⟩
  | .hbm, ⟨64, _⟩ => ⟨S8x8192x2816, .f32⟩
  | .hbm, ⟨65, _⟩ => ⟨S8x8192x2816, .f32⟩
  | .hbm, ⟨66, _⟩ => ⟨S8x8192x2816, .f32⟩
  | .hbm, ⟨67, _⟩ => ⟨S8x8192x1024, .f32⟩
  | .hbm, ⟨68, _⟩ => ⟨S8x8192x1024, .f32⟩
  | .hbm, ⟨69, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Kernel4.lean ====
abbrev S8x8192x1024 : Shape := ⟨3, ![8, 8192, 1024]⟩
abbrev S1024 : Shape := ⟨1, ![1024]⟩
abbrev S1024x3072 : Shape := ⟨2, ![1024, 3072]⟩
abbrev S64 : Shape := ⟨1, ![64]⟩
abbrev S1x64 : Shape := ⟨2, ![1, 64]⟩
abbrev S16x64 : Shape := ⟨2, ![16, 64]⟩
abbrev S_ : Shape := ⟨0, ![]⟩
abbrev S2048 : Shape := ⟨1, ![2048]⟩
abbrev S65536x1024 : Shape := ⟨2, ![65536, 1024]⟩
abbrev S1024x2048 : Shape := ⟨2, ![1024, 2048]⟩
abbrev S1024x1024 : Shape := ⟨2, ![1024, 1024]⟩
abbrev S1x1024 : Shape := ⟨2, ![1, 1024]⟩
abbrev S1x2048 : Shape := ⟨2, ![1, 2048]⟩
abbrev S65536x2048 : Shape := ⟨2, ![65536, 2048]⟩
abbrev S8x8x32x144x256 : Shape := ⟨5, ![8, 8, 32, 144, 256]⟩
abbrev S1x8x4x144x256 : Shape := ⟨5, ![1, 8, 4, 144, 256]⟩
abbrev S1024x1 : Shape := ⟨2, ![1024, 1]⟩
abbrev S1024x128 : Shape := ⟨2, ![1024, 128]⟩
abbrev S1024x256 : Shape := ⟨2, ![1024, 256]⟩
abbrev S1x128 : Shape := ⟨2, ![1, 128]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩

abbrev nBuf : Space → Nat
  | .hbm => 29
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x3072, .bf16⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1x64, .f32⟩
  | .hbm, ⟨18, _⟩ => ⟨S16x64, .f32⟩
  | .hbm, ⟨19, _⟩ => ⟨S1024, .f32⟩
  | .hbm, ⟨20, _⟩ => ⟨S2048, .f32⟩
  | .hbm, ⟨21, _⟩ => ⟨S65536x1024, .f32⟩
  | .hbm, ⟨22, _⟩ => ⟨S1024x2048, .bf16⟩
  | .hbm, ⟨23, _⟩ => ⟨S1024x1024, .bf16⟩
  | .hbm, ⟨24, _⟩ => ⟨S1024x1024, .bf16⟩
  | .hbm, ⟨25, _⟩ => ⟨S1x1024, .f32⟩
  | .hbm, ⟨26, _⟩ => ⟨S1x2048, .f32⟩
  | .hbm, ⟨27, _⟩ => ⟨S65536x2048, .bf16⟩
  | .hbm, ⟨28, _⟩ => ⟨S8x8x32x144x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x8x4x144x256, .bf16⟩
  | .local _ .vmem, ⟨9, _⟩ => ⟨S1x8x4x144x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x4x144x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x8192x1024 : Shape := ⟨3, ![8, 8192, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x8192x16x64 : Shape := ⟨4, ![8, 8192, 16, 64]⟩
abbrev S8x8192x16 : Shape := ⟨3, ![8, 8192, 16]⟩
abbrev S8x8192x16x1 : Shape := ⟨4, ![8, 8192, 16, 1]⟩
abbrev S1x1x1x64 : Shape := ⟨4, ![1, 1, 1, 64]⟩
abbrev S65536x1024 : Shape := ⟨2, ![65536, 1024]⟩
abbrev S65536x2048 : Shape := ⟨2, ![65536, 2048]⟩
abbrev S8x32x256x8x128 : Shape := ⟨5, ![8, 32, 256, 8, 128]⟩
abbrev S8x8x32x128x256 : Shape := ⟨5, ![8, 8, 32, 128, 256]⟩
abbrev S8x8x32x16x256 : Shape := ⟨5, ![8, 8, 32, 16, 256]⟩
abbrev S8x8x32x144x256 : Shape := ⟨5, ![8, 8, 32, 144, 256]⟩

abbrev nBuf : Space → Nat
  | .hbm => 76
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x3072, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S8x8192x16x64, .f32⟩
  | .hbm, ⟨26, _⟩ => ⟨S8x8192x16x64, .f32⟩
  | .hbm, ⟨27, _⟩ => ⟨S_, .f32⟩
  | .hbm, ⟨28, _⟩ => ⟨S8x8192x16, .f32⟩
  | .hbm, ⟨29, _⟩ => ⟨S8x8192x16x1, .f32⟩
  | .hbm, ⟨30, _⟩ => ⟨S_, .f32⟩
  | .hbm, ⟨31, _⟩ => ⟨S8x8192x16x1, .f32⟩
  | .hbm, ⟨32, _⟩ => ⟨S8x8192x16x1, .f32⟩
  | .hbm, ⟨33, _⟩ => ⟨S_, .f32⟩
  | .hbm, ⟨34, _⟩ => ⟨S8x8192x16x1, .f32⟩
  | .hbm, ⟨35, _⟩ => ⟨S8x8192x16x1, .f32⟩
  | .hbm, ⟨36, _⟩ => ⟨S8x8192x16x1, .f32⟩
  | .hbm, ⟨37, _⟩ => ⟨S8x8192x16x64, .f32⟩
  | .hbm, ⟨38, _⟩ => ⟨S8x8192x16x64, .f32⟩
  | .hbm, ⟨39, _⟩ => ⟨S1x1x1x64, .f32⟩
  | .hbm, ⟨40, _⟩ => ⟨S8x8192x16x64, .f32⟩
  | .hbm, ⟨41, _⟩ => ⟨S8x8192x16x64, .f32⟩
  | .hbm, ⟨42, _⟩ => ⟨S_, .f32⟩
  | .hbm, ⟨43, _⟩ => ⟨S8x8192x16x64, .f32⟩
  | .hbm, ⟨44, _⟩ => ⟨S8x8192x16x64, .f32⟩
  | .hbm, ⟨45, _⟩ => ⟨S_, .f32⟩
  | .hbm, ⟨46, _⟩ => ⟨S_, .f32⟩
  | .hbm, ⟨47, _⟩ => ⟨S8x8192x16x64, .f32⟩
  | .hbm, ⟨48, _⟩ => ⟨S8x8192x16x64, .f32⟩
  | .hbm, ⟨49, _⟩ => ⟨S8x8192x16x64, .f32⟩
  | .hbm, ⟨50, _⟩ => ⟨S8x8192x16x64, .f32⟩
  | .hbm, ⟨51, _⟩ => ⟨S_, .f32⟩
  | .hbm, ⟨52, _⟩ => ⟨S8x8192x16, .f32⟩
  | .hbm, ⟨53, _⟩ => ⟨S8x8192x16x1, .f32⟩
  | .hbm, ⟨54, _⟩ => ⟨S_, .f32⟩
  | .hbm, ⟨55, _⟩ => ⟨S8x8192x16x1, .f32⟩
  | .hbm, ⟨56, _⟩ => ⟨S8x8192x16x1, .f32⟩
  | .hbm, ⟨57, _⟩ => ⟨S_, .f32⟩
  | .hbm, ⟨58, _⟩ => ⟨S8x8192x16x1, .f32⟩
  | .hbm, ⟨59, _⟩ => ⟨S8x8192x16x1, .f32⟩
  | .hbm, ⟨60, _⟩ => ⟨S8x8192x16x1, .f32⟩
  | .hbm, ⟨61, _⟩ => ⟨S8x8192x16x64, .f32⟩
  | .hbm, ⟨62, _⟩ => ⟨S8x8192x16x64, .f32⟩
  | .hbm, ⟨63, _⟩ => ⟨S1x1x1x64, .f32⟩
  | .hbm, ⟨64, _⟩ => ⟨S8x8192x16x64, .f32⟩
  | .hbm, ⟨65, _⟩ => ⟨S8x8192x16x64, .f32⟩
  | .hbm, ⟨66, _⟩ => ⟨S65536x1024, .f32⟩
  | .hbm, ⟨67, _⟩ => ⟨S65536x1024, .f32⟩
  | .hbm, ⟨68, _⟩ => ⟨S65536x2048, .f32⟩
  | .hbm, ⟨69, _⟩ => ⟨S8x32x256x8x128, .f32⟩
  | .hbm, ⟨70, _⟩ => ⟨S8x8x32x128x256, .f32⟩
  | .hbm, ⟨71, _⟩ => ⟨S_, .f32⟩
  | .hbm, ⟨72, _⟩ => ⟨S8x8x32x16x256, .f32⟩
  | .hbm, ⟨73, _⟩ => ⟨S65536x2048, .bf16⟩
  | .hbm, ⟨74, _⟩ => ⟨S8x8x32x144x256, .f32⟩
  | .hbm, ⟨75, _⟩ => ⟨S8x8x32x144x256, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel5.lean ====
abbrev S8x8192x1024 : Shape := ⟨3, ![8, 8192, 1024]⟩
abbrev S1024 : Shape := ⟨1, ![1024]⟩
abbrev S1024x3072 : Shape := ⟨2, ![1024, 3072]⟩
abbrev S64 : Shape := ⟨1, ![64]⟩
abbrev S1x64 : Shape := ⟨2, ![1, 64]⟩
abbrev S8x64 : Shape := ⟨2, ![8, 64]⟩
abbrev S512 : Shape := ⟨1, ![512]⟩
abbrev S_ : Shape := ⟨0, ![]⟩
abbrev S2048 : Shape := ⟨1, ![2048]⟩
abbrev S1024x1024 : Shape := ⟨2, ![1024, 1024]⟩
abbrev S1024x2048 : Shape := ⟨2, ![1024, 2048]⟩
abbrev S1024x512 : Shape := ⟨2, ![1024, 512]⟩
abbrev S65536x1024 : Shape := ⟨2, ![65536, 1024]⟩
abbrev S1x1024 : Shape := ⟨2, ![1, 1024]⟩
abbrev S1x2048 : Shape := ⟨2, ![1, 2048]⟩
abbrev S65536x2048 : Shape := ⟨2, ![65536, 2048]⟩
abbrev S8x8x32x144x256 : Shape := ⟨5, ![8, 8, 32, 144, 256]⟩
abbrev S1x8x4x144x256 : Shape := ⟨5, ![1, 8, 4, 144, 256]⟩
abbrev S1024x1 : Shape := ⟨2, ![1024, 1]⟩
abbrev S1024x128 : Shape := ⟨2, ![1024, 128]⟩
abbrev S1024x256 : Shape := ⟨2, ![1024, 256]⟩
abbrev S1x128 : Shape := ⟨2, ![1, 128]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩

abbrev nBuf : Space → Nat
  | .hbm => 40
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x3072, .bf16⟩
  | .hbm, ⟨6, _⟩ => ⟨S1x64, .f32⟩
  | .hbm, ⟨7, _⟩ => ⟨S8x64, .f32⟩
  | .hbm, ⟨8, _⟩ => ⟨S512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S2048, .f32⟩
  | .hbm, ⟨28, _⟩ => ⟨S1024x1024, .bf16⟩
  | .hbm, ⟨29, _⟩ => ⟨S1024x1024, .bf16⟩
  | .hbm, ⟨30, _⟩ => ⟨S1024x2048, .bf16⟩
  | .hbm, ⟨31, _⟩ => ⟨S1024x512, .bf16⟩
  | .hbm, ⟨32, _⟩ => ⟨S1024x512, .bf16⟩
  | .hbm, ⟨33, _⟩ => ⟨S1024x1024, .bf16⟩
  | .hbm, ⟨34, _⟩ => ⟨S65536x1024, .f32⟩
  | .hbm, ⟨35, _⟩ => ⟨S1024x1024, .bf16⟩
  | .hbm, ⟨36, _⟩ => ⟨S1x1024, .f32⟩
  | .hbm, ⟨37, _⟩ => ⟨S1x2048, .f32⟩
  | .hbm, ⟨38, _⟩ => ⟨S65536x2048, .bf16⟩
  | .hbm, ⟨39, _⟩ => ⟨S8x8x32x144x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x8x4x144x256, .bf16⟩
  | .local _ .vmem, ⟨9, _⟩ => ⟨S1x8x4x144x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x4x144x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8x8192x1024 : Shape := ⟨3, ![8, 8192, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x8192x512 : Shape := ⟨3, ![8, 8192, 512]⟩
abbrev S8x8192x8x64 : Shape := ⟨4, ![8, 8192, 8, 64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S65536x512 : Shape := ⟨2, ![65536, 512]⟩
abbrev S65536x2048 : Shape := ⟨2, ![65536, 2048]⟩
abbrev S8x32x256x8x128 : Shape := ⟨5, ![8, 32, 256, 8, 128]⟩
abbrev S8x8x32x128x256 : Shape := ⟨5, ![8, 8, 32, 128, 256]⟩
abbrev S8x8x32x16x256 : Shape := ⟨5, ![8, 8, 32, 16, 256]⟩
abbrev S8x8x32x144x256 : Shape := ⟨5, ![8, 8, 32, 144, 256]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x3072, .f32⟩
  | .hbm, ⟨22, _⟩ => ⟨S8x8192x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S8x8192x8x64, .f32⟩
  | .hbm, ⟨29, _⟩ => ⟨S8x8192x8x64, .f32⟩
  | .hbm, ⟨30, _⟩ => ⟨S_, .f32⟩
  | .hbm, ⟨31, _⟩ => ⟨S8x8192x8, .f32⟩
  | .hbm, ⟨32, _⟩ => ⟨S8x8192x8x1, .f32⟩
  | .hbm, ⟨33, _⟩ => ⟨S_, .f32⟩
  | .hbm, ⟨34, _⟩ => ⟨S8x8192x8x1, .f32⟩
  | .hbm, ⟨35, _⟩ => ⟨S8x8192x8x1, .f32⟩
  | .hbm, ⟨36, _⟩ => ⟨S_, .f32⟩
  | .hbm, ⟨37, _⟩ => ⟨S8x8192x8x1, .f32⟩
  | .hbm, ⟨38, _⟩ => ⟨S8x8192x8x1, .f32⟩
  | .hbm, ⟨39, _⟩ => ⟨S8x8192x8x1, .f32⟩
  | .hbm, ⟨40, _⟩ => ⟨S8x8192x8x64, .f32⟩
  | .hbm, ⟨41, _⟩ => ⟨S8x8192x8x64, .f32⟩
  | .hbm, ⟨42, _⟩ => ⟨S1x1x1x64, .f32⟩
  | .hbm, ⟨43, _⟩ => ⟨S8x8192x8x64, .f32⟩
  | .hbm, ⟨44, _⟩ => ⟨S8x8192x8x64, .f32⟩
  | .hbm, ⟨45, _⟩ => ⟨S_, .f32⟩
  | .hbm, ⟨46, _⟩ => ⟨S8x8192x8x64, .f32⟩
  | .hbm, ⟨47, _⟩ => ⟨S8x8192x8x64, .f32⟩
  | .hbm, ⟨48, _⟩ => ⟨S_, .f32⟩
  | .hbm, ⟨49, _⟩ => ⟨S_, .f32⟩
  | .hbm, ⟨50, _⟩ => ⟨S8x8192x8x64, .f32⟩
  | .hbm, ⟨51, _⟩ => ⟨S8x8192x8x64, .f32⟩
  | .hbm, ⟨52, _⟩ => ⟨S8x8192x8x64, .f32⟩
  | .hbm, ⟨53, _⟩ => ⟨S8x8192x8x64, .f32⟩
  | .hbm, ⟨54, _⟩ => ⟨S_, .f32⟩
  | .hbm, ⟨55, _⟩ => ⟨S8x8192x8, .f32⟩
  | .hbm, ⟨56, _⟩ => ⟨S8x8192x8x1, .f32⟩
  | .hbm, ⟨57, _⟩ => ⟨S_, .f32⟩
  | .hbm, ⟨58, _⟩ => ⟨S8x8192x8x1, .f32⟩
  | .hbm, ⟨59, _⟩ => ⟨S8x8192x8x1, .f32⟩
  | .hbm, ⟨60, _⟩ => ⟨S_, .f32⟩
  | .hbm, ⟨61, _⟩ => ⟨S8x8192x8x1, .f32⟩
  | .hbm, ⟨62, _⟩ => ⟨S8x8192x8x1, .f32⟩
  | .hbm, ⟨63, _⟩ => ⟨S8x8192x8x1, .f32⟩
  | .hbm, ⟨64, _⟩ => ⟨S8x8192x8x64, .f32⟩
  | .hbm, ⟨65, _⟩ => ⟨S8x8192x8x64, .f32⟩
  | .hbm, ⟨66, _⟩ => ⟨S1x1x1x64, .f32⟩
  | .hbm, ⟨67, _⟩ => ⟨S8x8192x8x64, .f32⟩
  | .hbm, ⟨68, _⟩ => ⟨S8x8192x8x64, .f32⟩
  | .hbm, ⟨69, _⟩ => ⟨S_, .f32⟩
  | .hbm, ⟨70, _⟩ => ⟨S8x8192x512, .f32⟩
  | .hbm, ⟨71, _⟩ => ⟨S8x8192x512, .f32⟩
  | .hbm, ⟨72, _⟩ => ⟨S65536x512, .f32⟩
  | .hbm, ⟨73, _⟩ => ⟨S65536x512, .f32⟩
  | .hbm, ⟨74, _⟩ => ⟨S65536x512, .f32⟩
  | .hbm, ⟨75, _⟩ => ⟨S65536x512, .f32⟩
  | .hbm, ⟨76, _⟩ => ⟨S65536x2048, .f32⟩
  | .hbm, ⟨77, _⟩ => ⟨S8x8192x1024, .f32⟩
  | .hbm, ⟨78, _⟩ => ⟨S8x32x256x8x128, .f32⟩
  | .hbm, ⟨79, _⟩ => ⟨S8x8x32x128x256, .f32⟩
  | .hbm, ⟨80, _⟩ => ⟨S_, .f32⟩
  | .hbm, ⟨81, _⟩ => ⟨S8x8x32x16x256, .f32⟩
  | .hbm, ⟨82, _⟩ => ⟨S65536x2048, .bf16⟩
  | .hbm, ⟨83, _⟩ => ⟨S8x8x32x144x256, .f32⟩
  | .hbm, ⟨84, _⟩ => ⟨S8x8x32x144x256, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Proof.BandBlock.lean ====
/-
  One block of the chunk-banded attention: the values the kernel's body stores for a tile of 256 queries, four pairs of heads at a time.

  The body treats its four pairs of heads alike. `pairOut` is what it computes for one pair from the loaded tiles: the scores of the pair
  against three tiles of 256 keys, their maximum, the powers of two of the differences, and the quotient of the two sums.
-/
module

public import proofs.«01_k».proof.Proof.Gen.KernelIdeal.Value
public import Idealize.ShloMosaic.Lib.Pipeline.ReadBack
public import Idealize.ShloMosaic.Lib.Pointwise

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

section Structure

variable {F : FTy → Type} [FloatOps F]

/-- The stored block of one pair of heads, from the loaded tiles: queries `q`, three tiles of keys, the bias of either head for each
    tile, the two scalars added to the second and third tile's scores, and three tiles of transposed values. -/
def pairOut (p1 p2 : F .f32) (q k0 k1 k2 : Vec F S1x256x128 .bf16) (b00 b01 b10 b11 b20 b21 : Vec F S1x1x256x256 .f32)
    (w0 w1 w2 : Vec F S1x1x1x144x256 .bf16) : FVec F S1x256x128 .bf16 :=
  let s0 := k0_pay7 (k0_pay5 q k0) (k0_pay6 b00) b01
  let s1 := k0_pay9 p1 (k0_pay4 q) k1 b10 b11
  let s2 := k0_pay11 p2 (k0_pay4 q) k2 b20 b21
  let mx := k0_pay12 (k0_pay8 s0) (k0_pay10 s1) s2
  k0_pay29 (k0_pay26 mx s0 w0 s1 w1) (k0_pay27 s2) (k0_pay28 mx) w2

/-- The row at which the tile of keys at distance `d` starts, for query tile `n`: the word the body computes. -/
def tileOff (n : ℕ) (d : BitVec 32) : ℕ :=
  (Scalar.indexCast (Scalar.muli (Scalar.maxsi (Scalar.subi (BitVec.ofNat 32 n) d) 0#32) 256#32)).toNat

/-- The tile's number, likewise. -/
def tileIdx (n : ℕ) (d : BitVec 32) : ℕ :=
  (Scalar.indexCast (Scalar.maxsi (Scalar.subi (BitVec.ofNat 32 n) d) 0#32)).toNat

theorem tileOff_eq : ∀ n : Fin 32, ∀ d : Fin 3, tileOff n.val (BitVec.ofNat 32 d.val) = 256 * (n.val - d.val) := by
  decide +kernel

theorem tileIdx_eq : ∀ n : Fin 32, ∀ d : Fin 3, tileIdx n.val (BitVec.ofNat 32 d.val) = n.val - d.val := by
  decide +kernel

/-- The 128 lanes of pair `g` of the query block. -/
def qTile (x0 : Vec F S1x256x512 .bf16) (g : Fin 4) : Vec F S1x256x128 .bf16 :=
  View.ld x0 (Rect.unit ![0, 0, 128 * g.val] ![1, 256, 128] (by
    intro a; match a with
    | ⟨0, _⟩ => exact Nat.le_refl 1
    | ⟨1, _⟩ => exact Nat.le_refl 256
    | ⟨2, _⟩ => exact (show 128 * g.val + 128 ≤ 512 by omega)))

/-- The tile of 256 key rows that starts at row `o`, in the lanes of pair `g`. -/
def kTile (x1 : Vec F S1x8192x512 .bf16) (g : Fin 4) (o : ℕ) (ho : o + 256 ≤ 8192) : Vec F S1x256x128 .bf16 :=
  View.ld x1 (Rect.unit ![0, o, 128 * g.val] ![1, 256, 128] (by
    intro a; match a with
    | ⟨0, _⟩ => exact Nat.le_refl 1
    | ⟨1, _⟩ => exact ho
    | ⟨2, _⟩ => exact (show 128 * g.val + 128 ≤ 512 by omega)))

/-- Tile `o` of the transposed values of pair `g`. -/
def vTile (x2 : Vec F S1x4x32x144x256 .bf16) (g : Fin 4) (o : ℕ) (ho : o + 1 ≤ 32) : Vec F S1x1x1x144x256 .bf16 :=
  View.ld x2 (Rect.unit ![0, g.val, o, 0, 0] ![1, 1, 1, 144, 256] (by
    intro a; match a with
    | ⟨0, _⟩ => exact Nat.le_refl 1
    | ⟨1, _⟩ => exact (show g.val + 1 ≤ 4 by omega)
    | ⟨2, _⟩ => exact ho
    | ⟨3, _⟩ => exact Nat.le_refl 144
    | ⟨4, _⟩ => exact Nat.le_refl 256))

/-- The bias tile of head `h` at distance `d`. -/
def bTile (x3 : Vec F S8x3x256x256 .f32) (h : Fin 8) (d : Fin 3) : Vec F S1x1x256x256 .f32 :=
  View.ld x3 (Rect.unit ![h.val, d.val, 0, 0] ![1, 1, 256, 256] (by
    intro a; match a with
    | ⟨0, _⟩ => exact (show h.val + 1 ≤ 8 by omega)
    | ⟨1, _⟩ => exact (show d.val + 1 ≤ 3 by omega)
    | ⟨2, _⟩ => exact Nat.le_refl 256
    | ⟨3, _⟩ => exact Nat.le_refl 256))

theorem tileOff_le (n : Fin 32) (d : Fin 3) : tileOff n.val (BitVec.ofNat 32 d.val) + 256 ≤ 8192 := by
  rw [tileOff_eq]; omega

theorem tileIdx_le (n : Fin 32) (d : Fin 3) : tileIdx n.val (BitVec.ofNat 32 d.val) + 1 ≤ 32 := by
  rw [tileIdx_eq]; omega

/-- What is stored for pair `g` of a block at query tile `n`. -/
def groupOut (i : grid0.Coords) (x0 : Vec F S1x256x512 .bf16) (x1 : Vec F S1x8192x512 .bf16) (x2 : Vec F S1x4x32x144x256 .bf16)
    (x3 : Vec F S8x3x256x256 .f32) (g : Fin 4) : FVec F S1x256x128 .bf16 :=
  pairOut (k0_pay2 i) (k0_pay3 i) (qTile x0 g)
    (kTile x1 g (tileOff (i 2).val (BitVec.ofNat 32 (0 : Fin 3).val)) (tileOff_le (i 2) 0))
    (kTile x1 g (tileOff (i 2).val (BitVec.ofNat 32 (1 : Fin 3).val)) (tileOff_le (i 2) 1))
    (kTile x1 g (tileOff (i 2).val (BitVec.ofNat 32 (2 : Fin 3).val)) (tileOff_le (i 2) 2))
    (bTile x3 ⟨2 * g.val, by omega⟩ 0) (bTile x3 ⟨2 * g.val + 1, by omega⟩ 0)
    (bTile x3 ⟨2 * g.val, by omega⟩ 1) (bTile x3 ⟨2 * g.val + 1, by omega⟩ 1)
    (bTile x3 ⟨2 * g.val, by omega⟩ 2) (bTile x3 ⟨2 * g.val + 1, by omega⟩ 2)
    (vTile x2 g (tileIdx (i 2).val (BitVec.ofNat 32 (0 : Fin 3).val)) (tileIdx_le (i 2) 0))
    (vTile x2 g (tileIdx (i 2).val (BitVec.ofNat 32 (1 : Fin 3).val)) (tileIdx_le (i 2) 1))
    (vTile x2 g (tileIdx (i 2).val (BitVec.ofNat 32 (2 : Fin 3).val)) (tileIdx_le (i 2) 2))

variable (m : (ℓ : Loc nD τ sig) → Buf (Elt F) ℓ)

/-- The block a grid point leaves: the four pairs' stores, side by side. -/
theorem out_open (c : Dev nD) (t : Fin cfg0.N) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)
      = View.canon (Val := Elt F) (s := S1x256x512) (e := .bf16)
        [⟨Rect.unit ![0, 0, 384] ![1, 256, 128] inb_S1x256x512_S1x256x128_0_0_384, groupOut (grid0.coords t) (iblk m c 0 t) (iblk m c 1 t) (iblk m c 2 t) (iblk m c 3 t) 3⟩,
         ⟨Rect.unit ![0, 0, 256] ![1, 256, 128] inb_S1x256x512_S1x256x128_0_0_256, groupOut (grid0.coords t) (iblk m c 0 t) (iblk m c 1 t) (iblk m c 2 t) (iblk m c 3 t) 2⟩,
         ⟨Rect.unit ![0, 0, 128] ![1, 256, 128] inb_S1x256x512_S1x256x128_0_0_128, groupOut (grid0.coords t) (iblk m c 0 t) (iblk m c 1 t) (iblk m c 2 t) (iblk m c 3 t) 1⟩,
         ⟨Rect.unit ![0, 0, 0] ![1, 256, 128] inb_S1x256x512_S1x256x128_0_0_0, groupOut (grid0.coords t) (iblk m c 0 t) (iblk m c 1 t) (iblk m c 2 t) (iblk m c 3 t) 0⟩] := by
  unfold out0_A_4
  rw [View.read_writes_junk_eq_canon]
  unfold kernelRun0_A
  dsimp only
  sl_unfold_words
  simp (disch := decide) only [View.readAt_eq_ld, (hs0_0 t).read_unread, (hs0_1 t).read_unread, (hs0_2 t).read_unread, (hs0_3 t).read_unread,
    View.readCov_cons_toLoadRect, ↓View.readCov_skip]
  rfl

end Structure

/-- The lanes below 64 are those the body's comparison selects. -/
theorem lane_cmp : ∀ x : Fin 128, IntOp.cmpi CmpIPredicate.slt (BitVec.ofNat 32 (x : ℕ)) 64#32 = if (x : ℕ) < 64 then 1#1 else 0#1 := by
  decide

/-- A product with a row masked to its lower half is the product over the lower half. -/
theorem sum_lower (f g : Fin 128 → EReal) :
    ∑ x : Fin 128, f x * Scalar.select (IntOp.cmpi CmpIPredicate.slt (BitVec.ofNat 32 (x : ℕ)) 64#32) (g x) 0
      = ∑ z : Fin 64, f ⟨z.val, by omega⟩ * g ⟨z.val, by omega⟩ := by
  rw [Fin.sum_univ_add (a := 64) (b := 64)]
  have h1 : ∀ z : Fin 64, Scalar.select (IntOp.cmpi CmpIPredicate.slt (BitVec.ofNat 32 (Fin.castAdd 64 z : Fin 128).val) 64#32)
      (g (Fin.castAdd 64 z)) (0 : EReal) = g ⟨z.val, by omega⟩ := fun z => by
    rw [lane_cmp, if_pos (by simp)]; rfl
  have h2 : ∀ z : Fin 64, Scalar.select (IntOp.cmpi CmpIPredicate.slt (BitVec.ofNat 32 (Fin.natAdd 64 z : Fin 128).val) 64#32)
      (g (Fin.natAdd 64 z)) (0 : EReal) = 0 := fun z => by
    rw [lane_cmp, if_neg (by simp)]; rfl
  simp only [h1, h2, mul_zero, Finset.sum_const_zero, add_zero]
  rfl

/-- A product with a row masked to its upper half is the product over the upper half. -/
theorem sum_upper (f g : Fin 128 → EReal) :
    ∑ x : Fin 128, f x * Scalar.select (IntOp.cmpi CmpIPredicate.slt (BitVec.ofNat 32 (x : ℕ)) 64#32) 0 (g x)
      = ∑ z : Fin 64, f ⟨64 + z.val, by omega⟩ * g ⟨64 + z.val, by omega⟩ := by
  rw [Fin.sum_univ_add (a := 64) (b := 64)]
  have h1 : ∀ z : Fin 64, Scalar.select (IntOp.cmpi CmpIPredicate.slt (BitVec.ofNat 32 (Fin.castAdd 64 z : Fin 128).val) 64#32)
      (0 : EReal) (g (Fin.castAdd 64 z)) = 0 := fun z => by
    rw [lane_cmp, if_pos (by simp)]; rfl
  have h2 : ∀ z : Fin 64, Scalar.select (IntOp.cmpi CmpIPredicate.slt (BitVec.ofNat 32 (Fin.natAdd 64 z : Fin 128).val) 64#32)
      (0 : EReal) (g (Fin.natAdd 64 z)) = g ⟨64 + z.val, by omega⟩ := fun z => by
    rw [lane_cmp, if_neg (by simp)]; rfl
  simp only [h1, h2, mul_zero, Finset.sum_const_zero, zero_add]
  rfl

/-- The word of minus infinity. -/
theorem ofBits_neg_inf : Ideal.ofBits FTy.f32 4286578688#32 = ⊥ := by
  simp [Ideal.ofBits, Ideal.ieee]

/-- The largest of three tiles of scores. -/
def top3 (s0 s1 s2 : Fin 256 → EReal) : EReal :=
  max (max (Finset.univ.fold max ⊥ s0) (Finset.univ.fold max ⊥ s1)) (Finset.univ.fold max ⊥ s2)

/-- The weighted sum of three tiles of values, each weight two to the power of a score less the largest. -/
def sum3 (s0 s1 s2 v0 v1 v2 : Fin 256 → EReal) : EReal :=
  ∑ x, v0 x * Ideal.exp2 (s0 x - top3 s0 s1 s2) + ∑ x, v1 x * Ideal.exp2 (s1 x - top3 s0 s1 s2) + ∑ x, v2 x * Ideal.exp2 (s2 x - top3 s0 s1 s2)

/-- The score of query row `i` against key row `x` of a tile, in half `hh` of the 128 lanes, before the bias. -/
def halfDot (q k : Vec Ideal S1x256x128 .bf16) (hh : Fin 2) (i x : Fin 256) : EReal :=
  ∑ z : Fin 64, k (ix3 0 x ⟨64 * hh.val + z.val, by omega⟩) * q (ix3 0 i ⟨64 * hh.val + z.val, by omega⟩)

/-- Lane `j`'s half. -/
def half (j : Fin 128) : Fin 2 := ⟨j.val / 64, by omega⟩

/-- The scores of the tile at distance 0. -/
theorem score0_apply (q k : Vec Ideal S1x256x128 .bf16) (b0 b1 : Vec Ideal S1x1x256x256 .f32) (x i : Fin 256) (hh : Fin 2) :
    k0_pay7 (k0_pay5 q k) (k0_pay6 b0) b1 (ix4 0 0 x (⟨256 * hh.val + i.val, by omega⟩ : Fin 512))
      = halfDot q k hh i x + (if hh = 0 then b0 else b1) (ix4 0 0 x i) := by
  pointwise [k0_pay7, k0_pay5, k0_pay4, k0_pay6]
  match hh with
  | ⟨0, _⟩ =>
    have h : 256 * 0 + i.val < 256 := by omega
    simp only [Fin.zero_eta, Fin.val_zero, dif_pos h, halfDot, if_true]
    rw [sum_lower]; simp
  | ⟨1, _⟩ =>
    have h : ¬ 256 * 1 + i.val < 256 := by omega
    simp only [Fin.mk_one, Fin.val_one, dif_neg h, halfDot]
    rw [sum_upper]; simp

/-- The scores of a tile to which a scalar is added. -/
theorem score1_apply (p : Ideal .f32) (q k : Vec Ideal S1x256x128 .bf16) (b0 b1 : Vec Ideal S1x1x256x256 .f32) (x i : Fin 256) (hh : Fin 2) :
    k0_pay9 p (k0_pay4 q) k b0 b1 (ix4 0 0 x (⟨256 * hh.val + i.val, by omega⟩ : Fin 512))
      = halfDot q k hh i x + ((if hh = 0 then b0 else b1) (ix4 0 0 x i) + p) := by
  pointwise [k0_pay9, k0_pay4]
  match hh with
  | ⟨0, _⟩ =>
    have h : 256 * 0 + i.val < 256 := by omega
    simp only [Fin.zero_eta, Fin.val_zero, dif_pos h, halfDot, if_true]
    rw [sum_lower]; simp
  | ⟨1, _⟩ =>
    have h : ¬ 256 * 1 + i.val < 256 := by omega
    simp only [Fin.mk_one, Fin.val_one, dif_neg h, halfDot]
    rw [sum_upper]; simp

/-- The largest score of a column. -/
theorem top_apply (s0 s1 s2 : Vec Ideal S1x1x256x512 .f32) (j : Fin 512) :
    k0_pay12 (k0_pay8 s0) (k0_pay10 s1) s2 (ix2 0 j)
      = top3 (fun x => s0 (ix4 0 0 x j)) (fun x => s1 (ix4 0 0 x j)) (fun x => s2 (ix4 0 0 x j)) := by
  pointwise [k0_pay12, k0_pay8, k0_pay10, top3, ofBits_neg_inf]

/-- The quotient of a column's two sums, at the lane of its half. -/
theorem quot_apply (mx : Vec Ideal S1x512 .f32) (s0 s1 s2 : Vec Ideal S1x1x256x512 .f32) (w0 w1 w2 : Vec Ideal S1x1x1x144x256 .bf16) (i : Fin 256) (j : Fin 128)
    (hm : ∀ j, mx (ix2 0 j) = top3 (fun x => s0 (ix4 0 0 x j)) (fun x => s1 (ix4 0 0 x j)) (fun x => s2 (ix4 0 0 x j))) :
    let c : Fin 512 := ⟨256 * (half j).val + i.val, by omega⟩
    let S := fun (v0 v1 v2 : Fin 256 → EReal) => sum3 (fun x => s0 (ix4 0 0 x c)) (fun x => s1 (ix4 0 0 x c)) (fun x => s2 (ix4 0 0 x c)) v0 v1 v2
    k0_pay29 (k0_pay26 mx s0 w0 s1 w1) (k0_pay27 s2) (k0_pay28 mx) w2 (ix3 0 i j)
      = Ideal.div (S (fun x => w0 (ix5 0 0 0 ⟨j.val, by omega⟩ x)) (fun x => w1 (ix5 0 0 0 ⟨j.val, by omega⟩ x)) (fun x => w2 (ix5 0 0 0 ⟨j.val, by omega⟩ x)))
          (S (fun x => w0 (ix5 0 0 0 128 x)) (fun x => w1 (ix5 0 0 0 128 x)) (fun x => w2 (ix5 0 0 0 128 x))) := by
  intro c S
  pointwise [k0_pay29, k0_pay28, k0_pay27, k0_pay26, hm]
  by_cases h : j.val < 64
  · have hc : c = ⟨i.val, by omega⟩ := Fin.ext (by simp only [c, half]; omega)
    simp only [dif_pos h, S, hc, sum3]
    rfl
  · have hc : c = ⟨256 + i.val, by omega⟩ := Fin.ext (by simp only [c, half]; omega)
    have hj : (⟨64 + (j.val - 64), by omega⟩ : Fin 144) = ⟨j.val, by omega⟩ := Fin.ext (by simp only; omega)
    simp only [dif_neg h, S, hc, sum3, hj]
    rfl

/-- What `pairOut` stores at query row `i` and lane `j`. -/
theorem pairOut_apply (p1 p2 : Ideal .f32) (q k0 k1 k2 : Vec Ideal S1x256x128 .bf16) (b00 b01 b10 b11 b20 b21 : Vec Ideal S1x1x256x256 .f32)
    (w0 w1 w2 : Vec Ideal S1x1x1x144x256 .bf16) (i : Fin 256) (j : Fin 128) :
    let S := sum3 (fun x => halfDot q k0 (half j) i x + (if half j = 0 then b00 else b01) (ix4 0 0 x i))
      (fun x => halfDot q k1 (half j) i x + ((if half j = 0 then b10 else b11) (ix4 0 0 x i) + p1))
      (fun x => halfDot q k2 (half j) i x + ((if half j = 0 then b20 else b21) (ix4 0 0 x i) + p2))
    pairOut p1 p2 q k0 k1 k2 b00 b01 b10 b11 b20 b21 w0 w1 w2 (ix3 0 i j)
      = Ideal.div (S (fun x => w0 (ix5 0 0 0 ⟨j.val, by omega⟩ x)) (fun x => w1 (ix5 0 0 0 ⟨j.val, by omega⟩ x)) (fun x => w2 (ix5 0 0 0 ⟨j.val, by omega⟩ x)))
          (S (fun x => w0 (ix5 0 0 0 128 x)) (fun x => w1 (ix5 0 0 0 128 x)) (fun x => w2 (ix5 0 0 0 128 x))) := by
  intro S
  have e2 : ∀ s, k0_pay11 p2 (k0_pay4 q) k2 b20 b21 s = k0_pay9 p2 (k0_pay4 q) k2 b20 b21 s := fun _ => rfl
  refine (quot_apply _ _ _ _ _ _ _ i j (fun j' => top_apply _ _ _ j')).trans ?_
  simp only [score0_apply, score1_apply, e2]
  rfl

end Cert.Band

end
-- ==== Proof.BandArray.lean ====
/-
  The result array of the chunk-banded attention: every grid point's block is a block of one function of the three arrays the call reads.
-/
module

public import proofs.«01_k».proof.Proof.BandBlock
public import Idealize.ShloMosaic.Lib.Pipeline.ValueKit
public import Idealize.ShloMosaic.Lib.Pipeline.Covers

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

/-- What is added to the scores of the tile at distance `d` from query tile `n`: minus infinity where there is no such tile. -/
def edge (n d : ℕ) : EReal := if d ≤ n then 0 else ⊥

theorem pay2_eq : ∀ n : Fin 32, Scalar.cmpi .sge (BitVec.ofNat 32 n.val) 1#32 = if 1 ≤ n.val then 1#1 else 0#1 := by decide +kernel
theorem pay3_eq : ∀ n : Fin 32, Scalar.cmpi .sge (BitVec.ofNat 32 n.val) 2#32 = if 2 ≤ n.val then 1#1 else 0#1 := by decide +kernel

theorem k0_pay2_eq (i : grid0.Coords) : k0_pay2 (F := Ideal) i = edge (i 2).val 1 := by
  have h := pay2_eq (i 2)
  show Scalar.select (Scalar.cmpi .sge (BitVec.ofNat 32 (i 2).val) 1#32) (Ideal.ofBits FTy.f32 0#32) (Ideal.ofBits FTy.f32 4286578688#32) = _
  rw [h, ofBits_neg_inf, Ideal.ofBits_zero_f32]
  unfold edge; split <;> rfl

theorem k0_pay3_eq (i : grid0.Coords) : k0_pay3 (F := Ideal) i = edge (i 2).val 2 := by
  have h := pay3_eq (i 2)
  show Scalar.select (Scalar.cmpi .sge (BitVec.ofNat 32 (i 2).val) 2#32) (Ideal.ofBits FTy.f32 0#32) (Ideal.ofBits FTy.f32 4286578688#32) = _
  rw [h, ofBits_neg_inf, Ideal.ofBits_zero_f32]
  unfold edge; split <;> rfl

section Blocks

variable (i : grid0.Coords) (x0 : Vec Ideal S1x256x512 .bf16) (x1 : Vec Ideal S1x8192x512 .bf16) (x2 : Vec Ideal S1x4x32x144x256 .bf16)
  (x3 : Vec Ideal S8x3x256x256 .f32)

/-- The score of query row `r` of a block against key row `x` of the tile at distance `d`, in head `h`. -/
def blockScore (n : Fin 32) (r : Fin 256) (h : Fin 8) (d : Fin 3) (x : Fin 256) : EReal :=
  (∑ z : Fin 64, x1 (ix3 0 ⟨256 * (n.val - d.val) + x.val, by omega⟩ ⟨64 * h.val + z.val, by omega⟩) * x0 (ix3 0 r ⟨64 * h.val + z.val, by omega⟩))
    + (x3 (ix4 h d x r) + edge n.val d.val)

/-- The block's value at row `r`, lane `j`. -/
def blockOut (n : Fin 32) (r : Fin 256) (j : Fin 512) : EReal :=
  let h : Fin 8 := ⟨j.val / 64, by omega⟩
  let S := sum3 (blockScore x0 x1 x3 n r h 0) (blockScore x0 x1 x3 n r h 1) (blockScore x0 x1 x3 n r h 2)
  let v := fun (l : Fin 144) (d : Fin 3) (x : Fin 256) => x2 (ix5 0 ⟨j.val / 128, by omega⟩ ⟨n.val - d.val, by omega⟩ l x)
  Ideal.div (S (v ⟨j.val % 128, by omega⟩ 0) (v ⟨j.val % 128, by omega⟩ 1) (v ⟨j.val % 128, by omega⟩ 2)) (S (v 128 0) (v 128 1) (v 128 2))

theorem halfDot_eq (n : Fin 32) (d : Fin 3) (g : Fin 4) (hh : Fin 2) (r x : Fin 256) (o : ℕ) (ho) (e : o = 256 * (n.val - d.val)) :
    halfDot (qTile x0 g) (kTile x1 g o ho) hh r x
      = ∑ z : Fin 64, x1 (ix3 0 ⟨256 * (n.val - d.val) + x.val, by omega⟩ ⟨64 * (2 * g.val + hh.val) + z.val, by omega⟩)
          * x0 (ix3 0 r ⟨64 * (2 * g.val + hh.val) + z.val, by omega⟩) := by
  subst e
  unfold halfDot qTile kTile
  refine Finset.sum_congr rfl fun z _ => ?_
  congr 1 <;> refine View.ld_unit_apply_of _ _ _ _ _ _ fun a => ?_
  all_goals fin_cases a <;> simp [ix3] <;> omega

theorem vTile_eq (g : Fin 4) (o : ℕ) (ho) (e : Fin 32) (he : o = e.val) (l : Fin 144) (x : Fin 256) :
    vTile x2 g o ho (ix5 0 0 0 l x) = x2 (ix5 0 ⟨g.val, by omega⟩ e l x) := by
  subst he
  unfold vTile
  refine View.ld_unit_apply_of _ _ _ _ _ _ fun a => ?_
  fin_cases a <;> simp [ix5]

theorem bTile_eq (h : Fin 8) (d : Fin 3) (x r : Fin 256) : bTile x3 h d (ix4 0 0 x r) = x3 (ix4 h d x r) := by
  unfold bTile
  refine View.ld_unit_apply_of _ _ _ _ _ _ fun a => ?_
  fin_cases a <;> simp [ix4]

theorem group_apply (g : Fin 4) (r : Fin 256) (l : Fin 128) :
    groupOut i x0 x1 x2 x3 g (ix3 0 r l) = blockOut x0 x1 x2 x3 (i 2) r ⟨128 * g.val + l.val, by omega⟩ := by
  unfold groupOut
  rw [pairOut_apply]
  simp only [k0_pay2_eq, k0_pay3_eq]
  have hb : ∀ d x, (if half l = 0 then bTile x3 ⟨2 * g.val, by omega⟩ d else bTile x3 ⟨2 * g.val + 1, by omega⟩ d) (ix4 0 0 x r)
      = x3 (ix4 ⟨2 * g.val + (half l).val, by omega⟩ d x r) := fun d x => by
    rcases (by omega : (half l).val = 0 ∨ (half l).val = 1) with h | h
    · have h' : half l = 0 := Fin.ext h
      rw [if_pos h', bTile_eq]; congr 2; exact Fin.ext (by simp [h])
    · have h' : ¬ half l = 0 := fun e => by rw [e] at h; simp at h
      rw [if_neg h', bTile_eq]; congr 2; exact Fin.ext (by simp [h])
  simp only [hb, halfDot_eq x0 x1 (i 2) 0 g _ _ _ _ _ (tileOff_eq (i 2) 0), halfDot_eq x0 x1 (i 2) 1 g _ _ _ _ _ (tileOff_eq (i 2) 1),
    halfDot_eq x0 x1 (i 2) 2 g _ _ _ _ _ (tileOff_eq (i 2) 2),
    vTile_eq x2 g _ _ ⟨(i 2).val - (0 : Fin 3).val, by have : (i 2).val < 32 := (i 2).isLt; omega⟩ (tileIdx_eq (i 2) 0),
    vTile_eq x2 g _ _ ⟨(i 2).val - (1 : Fin 3).val, by have : (i 2).val < 32 := (i 2).isLt; omega⟩ (tileIdx_eq (i 2) 1),
    vTile_eq x2 g _ _ ⟨(i 2).val - (2 : Fin 3).val, by have : (i 2).val < 32 := (i 2).isLt; omega⟩ (tileIdx_eq (i 2) 2)]
  have e1 : (⟨(128 * g.val + l.val) / 64, by omega⟩ : Fin 8) = ⟨2 * g.val + (half l).val, by omega⟩ := Fin.ext (by simp only [half]; omega)
  have e2 : (⟨(128 * g.val + l.val) / 128, by omega⟩ : Fin 4) = ⟨g.val, by omega⟩ := Fin.ext (by simp only; omega)
  have e3 : (⟨(128 * g.val + l.val) % 128, by omega⟩ : Fin 144) = ⟨l.val, by omega⟩ := Fin.ext (by simp only; omega)
  unfold blockOut
  simp only [e1, e2, e3]
  unfold blockScore
  simp only [edge, Fin.val_zero, Nat.zero_le, if_true, add_zero, Fin.val_one, Fin.val_two]

end Blocks

/-! ## The windows' blocks in their arrays -/

theorem idx0 : ∀ t : Fin grid0.N, win0_0.index t = ![(grid0.coords t 0).val, (grid0.coords t 2).val, (grid0.coords t 1).val] := by decide +kernel
theorem idx1 : ∀ t : Fin grid0.N, win0_1.index t = ![(grid0.coords t 0).val, 0, 2 + (grid0.coords t 1).val] := by decide +kernel
theorem idx2 : ∀ t : Fin grid0.N, win0_2.index t = ![(grid0.coords t 0).val, (grid0.coords t 1).val, 0, 0, 0] := by decide +kernel
theorem idx3 : ∀ t : Fin grid0.N, win0_3.index t = ![(grid0.coords t 1).val, 0, 0, 0] := by decide +kernel
theorem idx4 : ∀ t : Fin grid0.N, win0_4.index t = ![(grid0.coords t 0).val, (grid0.coords t 2).val, (grid0.coords t 1).val] := by decide +kernel

theorem ct0 (t : Fin grid0.N) : (grid0.coords t 0).val < 8 := (grid0.coords t 0).isLt
theorem ct1 (t : Fin grid0.N) : (grid0.coords t 1).val < 2 := (grid0.coords t 1).isLt
theorem ct2 (t : Fin grid0.N) : (grid0.coords t 2).val < 32 := (grid0.coords t 2).isLt

/-! ## The result array -/

section Array

variable (X : S8x8192x2048.Idx → EReal) (W : S8x8x32x144x256.Idx → EReal) (T : S16x3x256x256.Idx → EReal)

/-- The score of query position `s` against key row `x` of the tile at distance `d`, in head `h` of batch `b`. -/
def arrScore (b : Fin 8) (s : Fin 8192) (h : Fin 16) (d : Fin 3) (x : Fin 256) : EReal :=
  (∑ z : Fin 64, X (ix3 b ⟨256 * (s.val / 256 - d.val) + x.val, by omega⟩ ⟨1024 + (64 * h.val + z.val), by omega⟩)
      * X (ix3 b s ⟨64 * h.val + z.val, by omega⟩))
    + (T (ix4 h d x ⟨s.val % 256, by omega⟩) + edge (s.val / 256) d.val)

/-- The value read with the weight of key row `x` of the tile at distance `d`: row `l` of its value tile (row 128 holds ones). -/
def arrVal (b : Fin 8) (s : Fin 8192) (p : Fin 8) (l : Fin 144) (d : Fin 3) (x : Fin 256) : EReal :=
  W (ix5 b p ⟨s.val / 256 - d.val, by omega⟩ l x)

/-- The result at batch `b`, position `s`, lane `j`. -/
def arrOut (b : Fin 8) (s : Fin 8192) (j : Fin 1024) : EReal :=
  let h : Fin 16 := ⟨j.val / 64, by omega⟩
  let p : Fin 8 := ⟨j.val / 128, by omega⟩
  let S := sum3 (arrScore X T b s h 0) (arrScore X T b s h 1) (arrScore X T b s h 2)
  let v := arrVal W b s p
  Ideal.div (S (v ⟨j.val % 128, by omega⟩ 0) (v ⟨j.val % 128, by omega⟩ 1) (v ⟨j.val % 128, by omega⟩ 2)) (S (v 128 0) (v 128 1) (v 128 2))

end Array

variable (m : (ℓ : Loc nD τ sig) → Buf (Elt Ideal) ℓ)

theorem read0_eq (f : S8x8192x2048.Idx → EReal) (t : Fin cfg0.N) (r : Fin 256) (k : Fin 512) :
    ((cfg0.win 0).blk t).view.read (Elt Ideal) f (ix3 0 r k) = f (ix3 ⟨(grid0.coords t 0).val, ct0 t⟩
      ⟨256 * (grid0.coords t 2).val + r.val, by have := ct2 t; omega⟩ ⟨512 * (grid0.coords t 1).val + k.val, by have := ct1 t; omega⟩) := by
  have h0 := ct0 t
  have h1 := ct1 t
  have h2 := ct2 t
  blk_ext [idx0 t]

theorem iblk0_eq (c : Dev nD) (t : Fin cfg0.N) (r : Fin 256) (k : Fin 512) :
    iblk m c 0 t (ix3 0 r k) = V m c main_v11 (ix3 ⟨(grid0.coords t 0).val, ct0 t⟩
      ⟨256 * (grid0.coords t 2).val + r.val, by have := ct2 t; omega⟩ ⟨512 * (grid0.coords t 1).val + k.val, by have := ct1 t; omega⟩) :=
  read0_eq (V m c main_v11) t r k

theorem read1_eq (f : S8x8192x2048.Idx → EReal) (t : Fin cfg0.N) (r : Fin 8192) (k : Fin 512) :
    ((cfg0.win 1).blk t).view.read (Elt Ideal) f (ix3 0 r k) = f (ix3 ⟨(grid0.coords t 0).val, ct0 t⟩ r
      ⟨1024 + (512 * (grid0.coords t 1).val + k.val), by have := ct1 t; omega⟩) := by
  have h0 := ct0 t
  have h1 := ct1 t
  blk_ext [idx1 t]

theorem iblk1_eq (c : Dev nD) (t : Fin cfg0.N) (r : Fin 8192) (k : Fin 512) :
    iblk m c 1 t (ix3 0 r k) = V m c main_v11 (ix3 ⟨(grid0.coords t 0).val, ct0 t⟩ r
      ⟨1024 + (512 * (grid0.coords t 1).val + k.val), by have := ct1 t; omega⟩) :=
  read1_eq (V m c main_v11) t r k

theorem read2_eq (f : S8x8x32x144x256.Idx → EReal) (t : Fin cfg0.N) (p : Fin 4) (n : Fin 32) (l : Fin 144) (x : Fin 256) :
    ((cfg0.win 2).blk t).view.read (Elt Ideal) f (ix5 0 p n l x) = f (ix5 ⟨(grid0.coords t 0).val, ct0 t⟩
      ⟨4 * (grid0.coords t 1).val + p.val, by have := ct1 t; omega⟩ n l x) := by
  have h0 := ct0 t
  have h1 := ct1 t
  blk_ext [idx2 t]

theorem iblk2_eq (c : Dev nD) (t : Fin cfg0.N) (p : Fin 4) (n : Fin 32) (l : Fin 144) (x : Fin 256) :
    iblk m c 2 t (ix5 0 p n l x) = V m c main_v17 (ix5 ⟨(grid0.coords t 0).val, ct0 t⟩
      ⟨4 * (grid0.coords t 1).val + p.val, by have := ct1 t; omega⟩ n l x) :=
  read2_eq (V m c main_v17) t p n l x

theorem read3_eq (f : S16x3x256x256.Idx → EReal) (t : Fin cfg0.N) (h : Fin 8) (d : Fin 3) (x r : Fin 256) :
    ((cfg0.win 3).blk t).view.read (Elt Ideal) f (ix4 h d x r) = f (ix4 ⟨8 * (grid0.coords t 1).val + h.val, by have := ct1 t; omega⟩ d x r) := by
  have h1 := ct1 t
  blk_ext [idx3 t]

theorem iblk3_eq (c : Dev nD) (t : Fin cfg0.N) (h : Fin 8) (d : Fin 3) (x r : Fin 256) :
    iblk m c 3 t (ix4 h d x r) = V m c main_v67 (ix4 ⟨8 * (grid0.coords t 1).val + h.val, by have := ct1 t; omega⟩ d x r) :=
  read3_eq (V m c main_v67) t h d x r

theorem block_eq (c : Dev nD) (t : Fin cfg0.N) (r : Fin 256) (j : Fin 512) :
    blockOut (iblk m c 0 t) (iblk m c 1 t) (iblk m c 2 t) (iblk m c 3 t) ⟨(grid0.coords t 2).val, ct2 t⟩ r j
      = arrOut (V m c main_v11) (V m c main_v17) (V m c main_v67) ⟨(grid0.coords t 0).val, ct0 t⟩
          ⟨256 * (grid0.coords t 2).val + r.val, by have := ct2 t; omega⟩ ⟨512 * (grid0.coords t 1).val + j.val, by have := ct1 t; omega⟩ := by
  have h0 := ct0 t
  have h1 := ct1 t
  have h2 := ct2 t
  have es : (256 * (grid0.coords t 2).val + r.val) / 256 = (grid0.coords t 2).val := by omega
  have er : (256 * (grid0.coords t 2).val + r.val) % 256 = r.val := by omega
  have eh : (512 * (grid0.coords t 1).val + j.val) / 64 = 8 * (grid0.coords t 1).val + j.val / 64 := by omega
  have ep : (512 * (grid0.coords t 1).val + j.val) / 128 = 4 * (grid0.coords t 1).val + j.val / 128 := by omega
  have el : (512 * (grid0.coords t 1).val + j.val) % 128 = j.val % 128 := by omega
  have hs : ∀ (h : Fin 8) (d : Fin 3) (x : Fin 256),
      blockScore (iblk m c 0 t) (iblk m c 1 t) (iblk m c 3 t) ⟨(grid0.coords t 2).val, ct2 t⟩ r h d x
        = arrScore (V m c main_v11) (V m c main_v67) ⟨(grid0.coords t 0).val, h0⟩
            ⟨256 * (grid0.coords t 2).val + r.val, by omega⟩ ⟨8 * (grid0.coords t 1).val + h.val, by omega⟩ d x := fun h d x => by
    unfold blockScore arrScore
    simp only [es, er, iblk0_eq, iblk1_eq, iblk3_eq]
    have e : ∀ z : Fin 64, 512 * (grid0.coords t 1).val + (64 * h.val + z.val) = 64 * (8 * (grid0.coords t 1).val + h.val) + z.val := fun z => by omega
    simp only [e]
  have hv : ∀ (q : Fin 4) (l : Fin 144) (d : Fin 3) (x : Fin 256),
      iblk m c 2 t (ix5 0 q ⟨(grid0.coords t 2).val - d.val, by omega⟩ l x)
        = arrVal (V m c main_v17) ⟨(grid0.coords t 0).val, h0⟩
            ⟨256 * (grid0.coords t 2).val + r.val, by omega⟩ ⟨4 * (grid0.coords t 1).val + q.val, by omega⟩ l d x := fun q l d x => by
    unfold arrVal
    simp only [es, iblk2_eq]
  unfold blockOut arrOut
  simp only [eh, ep, el, fun h d => funext (hs h d), fun q l d => funext (hv q l d)]

theorem canon_apply (c : Dev nD) (t : Fin cfg0.N) (y : S1x256x512.Idx) (r : Fin 256) (j : Fin 512) (hy : y = ix3 0 r j) :
    outsAt0 m c t y = arrOut (V m c main_v11) (V m c main_v17) (V m c main_v67) ⟨(grid0.coords t 0).val, ct0 t⟩
          ⟨256 * (grid0.coords t 2).val + r.val, by have := ct2 t; omega⟩ ⟨512 * (grid0.coords t 1).val + j.val, by have := ct1 t; omega⟩ := by
  rw [← block_eq]
  unfold outsAt0
  rw [out_open]
  generalize iblk m c 0 t = x0
  generalize iblk m c 1 t = x1
  generalize iblk m c 2 t = x2
  generalize iblk m c 3 t = x3
  subst hy
  have key : ∀ (g : Fin 4) (x : S1x256x128.Idx), (x 0).val = 0 → (x 1).val = r.val → 128 * g.val + (x 2).val = j.val →
      groupOut (grid0.coords t) x0 x1 x2 x3 g x = blockOut x0 x1 x2 x3 ⟨(grid0.coords t 2).val, ct2 t⟩ r j := fun g x e0 e1 e2 => by
    have hl : (x 2).val < 128 := (x 2).isLt
    have hx : x = ix3 0 r (⟨(x 2).val, hl⟩ : Fin 128) := by
      funext a
      fin_cases a
      exacts [Fin.ext e0, Fin.ext e1, rfl]
    have hj : (⟨128 * g.val + (x 2).val, by omega⟩ : Fin 512) = j := Fin.ext e2
    exact (congrArg (groupOut (grid0.coords t) x0 x1 x2 x3 g) hx).trans ((group_apply (grid0.coords t) x0 x1 x2 x3 g r ⟨(x 2).val, hl⟩).trans
      (congrArg (blockOut x0 x1 x2 x3 ⟨(grid0.coords t 2).val, ct2 t⟩ r) hj))
  canon_tiles x h
  · exact key 3 x h0.symm h1.symm h2.symm
  · exact key 2 x h0.symm h1.symm h2.symm
  · exact key 1 x h0.symm h1.symm h2.symm
  · exact key 0 x h0.symm h1.symm ((Nat.zero_add _).trans h2.symm)

/-- The whole result array after the run. -/
theorem arrAt_eq (c : Dev nD) :
    (dats m 0 c).arrAt 4 cfg0.N
      = fun y : S8x8192x1024.Idx => arrOut (V m c main_v11) (V m c main_v17) (V m c main_v67) (y 0) (y 1) (y 2) := by
  refine (dats m 0 c).arrAt_eq_of_covers 4 _ ((cfg0.win 4).covers_of_indexMap_surj rfl (by decide)
    fun β => ⟨(fun a => match a with | 0 => (⟨(β 0).val, (β 0).isLt⟩ : Fin 8) | 1 => (⟨(β 2).val, (β 2).isLt⟩ : Fin 2) | 2 => (⟨(β 1).val, (β 1).isLt⟩ : Fin 32)), fun a => ?_⟩) fun t hf y => ?_
  · match a with
    | 0 => exact (BitVec.toNat_ofNat _ _).trans (Nat.mod_eq_of_lt (lt_of_lt_of_le (show (β 0).val < 8 from (β 0).isLt) (by decide)))
    | 1 => exact (BitVec.toNat_ofNat _ _).trans (Nat.mod_eq_of_lt (lt_of_lt_of_le (show (β 1).val < 32 from (β 1).isLt) (by decide)))
    | 2 => exact (BitVec.toNat_ofNat _ _).trans (Nat.mod_eq_of_lt (lt_of_lt_of_le (show (β 2).val < 2 from (β 2).isLt) (by decide)))
  · blk_simp
    rw [after0_4]
    have h0 : (y 0).val < 1 := (y 0).isLt
    have h1 : (y 1).val < 256 := (y 1).isLt
    have h2 : (y 2).val < 512 := (y 2).isLt
    rw [canon_apply m c t y ⟨(y 1).val, h1⟩ ⟨(y 2).val, h2⟩ (by
      funext a
      fin_cases a
      exacts [Fin.ext (by show (y 0).val = 0; omega), rfl, rfl])]
    have e0 : (win0_4.blk t).view.emb y 0 = ⟨(grid0.coords t 0).val, ct0 t⟩ := Fin.ext (by blk_simp [idx4 t])
    have e1 : (win0_4.blk t).view.emb y 1 = ⟨256 * (grid0.coords t 2).val + (y 1).val, by have := ct2 t; exact (show 256 * (grid0.coords t 2).val + (y 1).val < 8192 by omega)⟩ :=
      Fin.ext (by blk_simp [idx4 t]; exact congrArg (· + (y 1).val) (Nat.mul_comm _ _))
    have e2 : (win0_4.blk t).view.emb y 2 = ⟨512 * (grid0.coords t 1).val + (y 2).val, by have := ct1 t; exact (show 512 * (grid0.coords t 1).val + (y 2).val < 1024 by omega)⟩ :=
      Fin.ext (by blk_simp [idx4 t]; exact congrArg (· + (y 2).val) (Nat.mul_comm _ _))
    rw [e0, e1, e2]
    rfl

end Cert.Band

end
-- ==== Proof.BandHost.lean ====
/-
  The three arrays that the chunk-banded attention call reads, at an index, in terms of the arguments.
-/
module

public import proofs.«01_k».proof.Proof.BandArray
public import Idealize.ShloMosaic.Lib.StableHlo.RunRead
public import Idealize.ShloMosaic.Lib.Routing.Ops
public import Idealize.ShloMosaic.Lib.Routing.OpsPair

@[expose] public section

set_option maxRecDepth 16384

noncomputable section

namespace Cert.Band

open Cert.KernelIdeal Cert.KernelIdeal.Gen Idealize.ShloMosaic Idealize.ShloMosaic.TcCoe Idealize.SL.Sem
open StableHlo

/-- One over the natural logarithm of two, as the programs compute it. -/
def log2e : EReal := Ideal.div 1 (Ideal.log (Ideal.ofBits FTy.f32 1073741824#32))

/-- The row of the bias table for a query that is `r + 256 d - x` positions after its key: the distance clipped to 128 either way. -/
def relRow (d : Fin 3) (x r : Fin 256) : Fin 257 := ⟨min 256 (256 * d.val + r.val + 128 - x.val), by omega⟩

/-- The kernel's chunk mask in a tile at distance `d`: a key chunk after the query's, or more than eight before it, has minus infinity. -/
def chunkMask (d : Fin 3) (x r : Fin 256) : EReal :=
  if (d.val = 0 ∧ r.val / 64 < x.val / 64) ∨ (d.val = 2 ∧ x.val / 64 < r.val / 64) then ⊥ else 0

variable (m : (ℓ : Loc nD τ sig) → Buf (Elt Ideal) ℓ) (c : Dev nD)

/-- The query argument. -/
abbrev argQ : S8x16x8192x64.Idx → EReal := m (c.tc.loc main_arg0)
/-- The key argument. -/
abbrev argK : S8x16x8192x64.Idx → EReal := m (c.tc.loc main_arg1)
/-- The value argument. -/
abbrev argV : S8x16x8192x64.Idx → EReal := m (c.tc.loc main_arg2)
/-- The bias table argument. -/
abbrev argB : S257x16.Idx → EReal := m (c.tc.loc main_arg3)

theorem host_q (b : Fin 8) (s : Fin 8192) (h : Fin 16) (z : Fin 64) :
    V m c main_v11 (ix3 b s ⟨64 * h.val + z.val, by omega⟩) = argQ m c (ix4 b h s z) * Ideal.ofBits FTy.f32 1040187392#32 * log2e := by
  unfold V
  after_reads_simp
  pointwise
  rw [dif_pos (by omega)]
  after_reads_simp
  pointwise [log2e]
  have e : (ix4 b ⟨(64 * h.val + z.val) / 64, by omega⟩ s ⟨(64 * h.val + z.val) % 64, by omega⟩ : S8x16x8192x64.Idx) = ix4 b h s z :=
    (ix4_inj _ _ _ _ _ _ _ _).2 ⟨rfl, Fin.ext (by dsimp only; omega), rfl, Fin.ext (by dsimp only; omega)⟩
  exact congrArg (fun i => argQ m c i * Ideal.ofBits FTy.f32 1040187392#32 * log2e) e

theorem host_k (b : Fin 8) (s : Fin 8192) (h : Fin 16) (z : Fin 64) :
    V m c main_v11 (ix3 b s ⟨1024 + (64 * h.val + z.val), by omega⟩) = argK m c (ix4 b h s z) := by
  unfold V
  after_reads_simp
  pointwise
  after_reads_simp
  pointwise

theorem host_v (b p : Fin 8) (n : Fin 32) (l : Fin 128) (x : Fin 256) :
    V m c main_v17 (ix5 b p n ⟨l.val, by omega⟩ x) = argV m c (ix4 b ⟨2 * p.val + l.val / 64, by omega⟩ ⟨256 * n.val + x.val, by omega⟩ ⟨l.val % 64, by omega⟩) := by
  unfold V
  after_reads_simp
  pointwise
  have e : (ix4 b ⟨p.val * 2 + l.val / 64, by omega⟩ ⟨n.val * 256 + x.val, by omega⟩ ⟨l.val % 64, by omega⟩ : S8x16x8192x64.Idx)
      = ix4 b ⟨2 * p.val + l.val / 64, by omega⟩ ⟨256 * n.val + x.val, by omega⟩ ⟨l.val % 64, by omega⟩ :=
    (ix4_inj _ _ _ _ _ _ _ _).2 ⟨rfl, Fin.ext (by dsimp only; omega), Fin.ext (by dsimp only; omega), rfl⟩
  exact congrArg (argV m c) e

theorem host_one (b p : Fin 8) (n : Fin 32) (x : Fin 256) : V m c main_v17 (ix5 b p n 128 x) = (1 : EReal) := by
  unfold V
  after_reads_simp
  pointwise

/-- The word that picks the bias row for entry `j` of the relative positions. -/
theorem rel_word : ∀ j : Fin 1024,
    Scalar.select (IntOp.cmpi .slt (IntOp.addi (IntOp.minsi 128#32 (IntOp.maxsi 4294967168#32 (IntOp.subi (BitVec.ofNat 32 j.val) 255#32))) 128#32) 0#32)
      (IntOp.addi (IntOp.addi (IntOp.minsi 128#32 (IntOp.maxsi 4294967168#32 (IntOp.subi (BitVec.ofNat 32 j.val) 255#32))) 128#32) 257#32)
      (IntOp.addi (IntOp.minsi 128#32 (IntOp.maxsi 4294967168#32 (IntOp.subi (BitVec.ofNat 32 j.val) 255#32))) 128#32)
      = BitVec.ofNat 32 (min 256 (j.val - 127)) := by decide +kernel

theorem gather_word (idx : IVec S1024x1 32) (T : S257x16.Idx → EReal) (h : Fin 16) (j : Fin 1024) (hi : idx (ix2 j 0) = BitVec.ofNat 32 (min 256 (j.val - 127))) :
    Host.gather gather_S257x16_S1024x1_S1024x16_1_0_n_n_0_1_116 T idx (ix2 j h) = T (ix2 ⟨min 256 (j.val - 127), by omega⟩ h) :=
  Routing.gather_row (nb := 257) (B := 16) (n := 1024) gather_S257x16_S1024x1_S1024x16_1_0_n_n_0_1_116 rfl rfl rfl rfl rfl T idx j h
    ⟨min 256 (j.val - 127), by omega⟩ hi (by decide)

theorem rel_row (d : Fin 3) (x r : Fin 256) :
    min 256 ((x.val * 1023 + (255 + 256 * d.val + r.val)) % 1024 - 127) = min 256 (256 * d.val + r.val + 128 - x.val) := by
  have e : x.val * 1023 + (255 + 256 * d.val + r.val) = 255 + 256 * d.val + r.val - x.val + 1024 * x.val := by omega
  rw [e, Nat.add_mul_mod_self_left, Nat.mod_eq_of_lt (by omega)]
  omega

theorem host_rel0 (h : Fin 16) (x r : Fin 256) :
    V m c main_v47 (ix4 h 0 x r) = argB m c (ix2 (relRow 0 x r) h) * log2e := by
  unfold V
  after_reads_simp
  pointwise [log2e]
  congr 1
  after_reads_simp
  pointwise
  rw [gather_word]
  · have e : (⟨min 256 ((x.val * 1023 + (255 + r.val)) % 1024 - 127), by omega⟩ : Fin 257) = relRow 0 x r :=
      Fin.ext (rel_row 0 x r)
    exact congrArg (fun i => argB m c (ix2 i h)) e
  simp only [TRef.ofBuf, TRef.toBuf, TRef.of, cast_eq]
  pointwise
  exact rel_word ⟨(x.val * 1023 + (255 + r.val)) % 1024, by omega⟩

theorem host_rel1 (h : Fin 16) (x r : Fin 256) :
    V m c main_v47 (ix4 h 1 x r) = argB m c (ix2 (relRow 1 x r) h) * log2e := by
  unfold V
  after_reads_simp
  pointwise [log2e]
  congr 1
  after_reads_simp
  pointwise
  rw [gather_word]
  · have e : (⟨min 256 ((x.val * 1023 + (511 + r.val)) % 1024 - 127), by omega⟩ : Fin 257) = relRow 1 x r :=
      Fin.ext (rel_row 1 x r)
    exact congrArg (fun i => argB m c (ix2 i h)) e
  simp only [TRef.ofBuf, TRef.toBuf, TRef.of, cast_eq]
  pointwise
  exact rel_word ⟨(x.val * 1023 + (511 + r.val)) % 1024, by omega⟩

theorem host_rel2 (h : Fin 16) (x r : Fin 256) :
    V m c main_v47 (ix4 h 2 x r) = argB m c (ix2 (relRow 2 x r) h) * log2e := by
  unfold V
  after_reads_simp
  pointwise [log2e]
  congr 1
  after_reads_simp
  pointwise
  rw [gather_word]
  · have e : (⟨min 256 ((x.val * 1023 + (767 + r.val)) % 1024 - 127), by omega⟩ : Fin 257) = relRow 2 x r :=
      Fin.ext (rel_row 2 x r)
    exact congrArg (fun i => argB m c (ix2 i h)) e
  simp only [TRef.ofBuf, TRef.toBuf, TRef.of, cast_eq]
  pointwise
  exact rel_word ⟨(x.val * 1023 + (767 + r.val)) % 1024, by omega⟩

theorem host_rel (h : Fin 16) (d : Fin 3) (x r : Fin 256) :
    V m c main_v47 (ix4 h d x r) = argB m c (ix2 (relRow d x r) h) * log2e := by
  match d with
  | 0 => exact host_rel0 m c h x r
  | 1 => exact host_rel1 m c h x r
  | 2 => exact host_rel2 m c h x r

/-! ## The two masks and their additions -/

theorem foldl_pick {n : ℕ} (n0 : Fin n) (u : Fin n → EReal) : ∀ (l : List (Fin n)) (_ : l.Nodup) (a : EReal),
    l.foldl (fun a n => if n = n0 then a + u n else a) a = if n0 ∈ l then a + u n0 else a := by
  intro l
  induction l with
  | nil => intro _ a; simp
  | cons y l ih =>
    intro hl a
    rw [List.nodup_cons] at hl
    rw [List.foldl_cons, ih hl.2]
    by_cases hy : y = n0
    · subst hy
      simp [hl.1]
    · have : n0 ≠ y := fun e => hy e.symm
      simp [hy, this]

theorem scatter_tile (x0 : S16x3x256x256.Idx → EReal) (idx : IVec S1 32) (upd : S16x256x256.Idx → EReal) (d0 : Fin 3)
    (hidx : idx (ix1 0) = BitVec.ofNat 32 d0.val) (h : Fin 16) (d : Fin 3) (x r : Fin 256) :
    Host.scatter scatter_S16x3x256x256_S1_S16x256x256_012_1_1_0 (FloatOps.addf (F := Ideal) (φ := .f32)) x0 idx upd (ix4 h d x r)
      = if d = d0 then x0 (ix4 h d x r) + upd (ix3 h x r) else x0 (ix4 h d x r) := by
  have lands : ∀ k : S16x256x256.Idx, scatter_S16x3x256x256_S1_S16x256x256_012_1_1_0.resultIdx? k idx = some (ix4 h d x r)
      ↔ k = ix3 h x r ∧ d = d0 := fun k => by
    rw [Routing.resultIdx?_eq_some]
    idx_vars k
    have w0 : scatter_S16x3x256x256_S1_S16x256x256_012_1_1_0.window (ix3 k0 k1 k2) 0 = k0.val := rfl
    have w1 : scatter_S16x3x256x256_S1_S16x256x256_012_1_1_0.window (ix3 k0 k1 k2) 1 = 0 := rfl
    have w2 : scatter_S16x3x256x256_S1_S16x256x256_012_1_1_0.window (ix3 k0 k1 k2) 2 = k1.val := rfl
    have w3 : scatter_S16x3x256x256_S1_S16x256x256_012_1_1_0.window (ix3 k0 k1 k2) 3 = k2.val := rfl
    have s0 : scatter_S16x3x256x256_S1_S16x256x256_012_1_1_0.start (ix3 k0 k1 k2) idx 0 = 0 := rfl
    have s1 : scatter_S16x3x256x256_S1_S16x256x256_012_1_1_0.start (ix3 k0 k1 k2) idx 1 = (idx (ix1 0)).toInt := by
      show (idx _).toInt = _
      congr 2
      funext a
      fin_cases a
      rfl
    have s2 : scatter_S16x3x256x256_S1_S16x256x256_012_1_1_0.start (ix3 k0 k1 k2) idx 2 = 0 := rfl
    have s3 : scatter_S16x3x256x256_S1_S16x256x256_012_1_1_0.start (ix3 k0 k1 k2) idx 3 = 0 := rfl
    have hd : (idx (ix1 0)).toInt = d0.val := by
      rw [hidx]
      exact (by decide : ∀ d0 : Fin 3, (BitVec.ofNat 32 d0.val).toInt = (d0.val : Int)) d0
    rw [ix3_inj]
    constructor
    · intro q
      have q0 := q 0
      have q1 := q 1
      have q2 := q 2
      have q3 := q 3
      rw [w0, s0] at q0
      rw [w1, s1, hd] at q1
      rw [w2, s2] at q2
      rw [w3, s3] at q3
      change (0 : Int) + (k0.val : Int) = (h.val : Int) at q0
      change (d0.val : Int) + ((0 : ℕ) : Int) = (d.val : Int) at q1
      change (0 : Int) + (k1.val : Int) = (x.val : Int) at q2
      change (0 : Int) + (k2.val : Int) = (r.val : Int) at q3
      exact ⟨⟨Fin.ext (by omega), Fin.ext (by omega), Fin.ext (by omega)⟩, Fin.ext (by omega)⟩
    · rintro ⟨⟨rfl, rfl, rfl⟩, rfl⟩ a
      match a with
      | 0 => rw [w0, s0]; exact zero_add _
      | 1 => rw [w1, s1, hd]; exact add_zero _
      | 2 => rw [w2, s2]; exact zero_add _
      | 3 => rw [w3, s3]; exact zero_add _
  rw [Routing.scatter_at]
  simp only [lands]
  by_cases hd : d = d0
  · simp only [hd, and_true, if_true, Equiv.symm_apply_eq]
    have q := foldl_pick (S16x256x256.rowMajor (ix3 h x r)) (fun n => upd (S16x256x256.rowMajor.symm n)) (List.finRange _)
      (List.nodup_finRange _) (x0 (ix4 h d0 x r))
    rw [if_pos (List.mem_finRange _), Equiv.symm_apply_apply] at q
    exact q
  · simp [hd]

/-- The chunk of a position within a tile, as the host computes it: a division by 64 rounded down. -/
def chunkVec : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

theorem chunkVec_apply (x : Fin 256) : chunkVec (ix1 x) = BitVec.ofNat 32 (x.val / 64) := by
  pointwise [chunkVec]
  revert x
  decide +kernel

/-- A chunk mask: zero where the comparison of the two chunks holds, minus infinity elsewhere. -/
def maskVec (p : CmpIPredicate) : FVec Ideal S256x256 .f32 :=
  select (cmpi p (broadcastInDim S256x256 ![0, 1] bcast_S256x1_S256x256_0_1 (broadcastInDim S256x1 ![0] bcast_S256_S256x1_0 chunkVec))
      (broadcastInDim S256x256 ![0, 1] bcast_S1x256_S256x256_0_1 (broadcastInDim S1x256 ![1] bcast_S256_S1x256_1 chunkVec)))
    (broadcastInDim S256x256 ![] bcast_S_S256x256 (constant S_ FTy.f32 0#32))
    (broadcastInDim S256x256 ![] bcast_S_S256x256 (constant S_ FTy.f32 4286578688#32))

theorem maskVec_apply (p : CmpIPredicate) (x r : Fin 256) :
    maskVec p (ix2 x r) = Scalar.select (IntOp.cmpi p (BitVec.ofNat 32 (x.val / 64)) (BitVec.ofNat 32 (r.val / 64))) (0 : EReal) ⊥ := by
  pointwise [maskVec]
  rw [chunkVec_apply, chunkVec_apply, ofBits_neg_inf]

theorem sle_word : ∀ i j : Fin 4, IntOp.cmpi .sle (BitVec.ofNat 32 i.val) (BitVec.ofNat 32 j.val) = if i.val ≤ j.val then 1#1 else 0#1 := by decide +kernel
theorem sge_word : ∀ i j : Fin 4, IntOp.cmpi .sge (BitVec.ofNat 32 i.val) (BitVec.ofNat 32 j.val) = if j.val ≤ i.val then 1#1 else 0#1 := by decide +kernel

theorem mask_before (x r : Fin 256) : maskVec .sle (ix2 x r) = chunkMask 0 x r := by
  rw [maskVec_apply]
  have e := sle_word ⟨x.val / 64, by omega⟩ ⟨r.val / 64, by omega⟩
  dsimp only at e
  rw [e]
  unfold chunkMask
  by_cases q : x.val / 64 ≤ r.val / 64
  · rw [if_pos q, if_neg (by simp; omega)]; rfl
  · rw [if_neg q, if_pos (Or.inl ⟨rfl, by omega⟩)]; rfl

theorem mask_after (x r : Fin 256) : maskVec .sge (ix2 x r) = chunkMask 2 x r := by
  rw [maskVec_apply]
  have e := sge_word ⟨x.val / 64, by omega⟩ ⟨r.val / 64, by omega⟩
  dsimp only at e
  rw [e]
  unfold chunkMask
  by_cases q : r.val / 64 ≤ x.val / 64
  · rw [if_pos q, if_neg (by simp; omega)]; rfl
  · rw [if_neg q, if_pos (Or.inr ⟨rfl, by omega⟩)]; rfl

/-- The bias array: the table's entry for the distance, in base two, and the chunk mask. -/
theorem host_bias (h : Fin 16) (d : Fin 3) (x r : Fin 256) :
    V m c main_v67 (ix4 h d x r) = argB m c (ix2 (relRow d x r) h) * log2e + chunkMask d x r := by
  have e67 : V m c main_v67 = Host.scatter scatter_S16x3x256x256_S1_S16x256x256_012_1_1_0 (FloatOps.addf (F := Ideal) (φ := .f32))
      (Host.scatter scatter_S16x3x256x256_S1_S16x256x256_012_1_1_0 (FloatOps.addf (F := Ideal) (φ := .f32)) (V m c main_v47)
        (broadcastInDim S1 ![] bcast_S_S1 (constantI S_ 32 0#32)) (broadcastInDim S16x256x256 ![1, 2] bcast_S256x256_S16x256x256_1_2 (maskVec .sle)))
      (broadcastInDim S1 ![] bcast_S_S1 (constantI S_ 32 2#32)) (broadcastInDim S16x256x256 ![1, 2] bcast_S256x256_S16x256x256_1_2 (maskVec .sge)) := by
    unfold V maskVec chunkVec
    after_reads_simp [StableHlo.TRef.ofBuf_toBuf]
    rfl
  rw [e67, scatter_tile _ _ _ 2 (by pointwise), scatter_tile _ _ _ 0 (by pointwise)]
  pointwise
  rw [mask_before, mask_after, host_rel]
  match d with
  | 0 => simp
  | 1 => simp [chunkMask]
  | 2 => simp

end Cert.Band

end
-- ==== Proof.BandRef.lean ====
/-
  The reference of the chunk-banded attention at an index.
-/
module

public import proofs.«01_k».proof.Proof.Gen.ReferenceIdeal.Read
public import Idealize.ShloMosaic.Lib.Pointwise
public import Idealize.ShloMosaic.Lib.Tactic.WordOmega
public import Idealize.ShloMosaic.Lib.Routing.Ops

@[expose] public section

set_option maxRecDepth 16384

noncomputable section

namespace Cert.BandRef

open Cert.ReferenceIdeal Cert.ReferenceIdeal.Gen Cert.ReferenceIdeal.Read Idealize.ShloMosaic Idealize.ShloMosaic.TcCoe Idealize.SL.Sem

/-- A chunk's first position as a signed word. -/
theorem start_toNat (c : Fin 128) : (BitVec.ofNat 32 (64 * c.val)).toInt.toNat = 64 * c.val := by
  revert c; decide

/-- The gather of each chunk's queries. -/
theorem gather_q (x : S8x16x8192x64.Idx → EReal) (idx : IVec S128x4 32) (c : Fin 128)
    (h2 : idx (ix2 c 2) = BitVec.ofNat 32 (64 * c.val)) (b : Fin 8) (h : Fin 16) (r z : Fin 64) :
    Host.gather gather_S8x16x8192x64_S128x4_S128x8x16x64x64_1234_n_n_n_0123_1_8166464 x idx (ix5 c b h r z)
      = x (ix4 b h ⟨64 * c.val + r.val, by omega⟩ z) := by
  unfold Host.gather
  refine congrArg x (funext fun a => Fin.ext ?_)
  have hs : gather_S8x16x8192x64_S128x4_S128x8x16x64x64_1234_n_n_n_0123_1_8166464.start (ix5 c b h r z) idx 2
      = min (idx (ix2 c 2)).toInt.toNat 8128 :=
    congrArg (fun i => min (idx i).toInt.toNat 8128) (funext fun b => Fin.ext (by fin_cases b <;> rfl))
  match a with
  | 0 => exact (congrArg (· + b.val) (Nat.min_zero _)).trans (Nat.zero_add _)
  | 1 => exact (congrArg (· + h.val) (Nat.min_zero _)).trans (Nat.zero_add _)
  | 2 =>
    refine (congrArg (· + r.val) hs).trans ?_
    rw [h2, start_toNat]
    exact congrArg (· + r.val) (Nat.min_eq_left (by omega))
  | 3 => exact (congrArg (· + z.val) (Nat.min_zero _)).trans (Nat.zero_add _)

/-- The gather of each chunk's window of padded keys or values. -/
theorem gather_kv (x : S8x16x8704x64.Idx → EReal) (idx : IVec S128x4 32) (c : Fin 128)
    (h2 : idx (ix2 c 2) = BitVec.ofNat 32 (64 * c.val)) (b : Fin 8) (h : Fin 16) (t : Fin 576) (z : Fin 64) :
    Host.gather gather_S8x16x8704x64_S128x4_S128x8x16x576x64_1234_n_n_n_0123_1_81657664 x idx (ix5 c b h t z)
      = x (ix4 b h ⟨64 * c.val + t.val, by omega⟩ z) := by
  unfold Host.gather
  refine congrArg x (funext fun a => Fin.ext ?_)
  have hs : gather_S8x16x8704x64_S128x4_S128x8x16x576x64_1234_n_n_n_0123_1_81657664.start (ix5 c b h t z) idx 2
      = min (idx (ix2 c 2)).toInt.toNat 8128 :=
    congrArg (fun i => min (idx i).toInt.toNat 8128) (funext fun b => Fin.ext (by fin_cases b <;> rfl))
  match a with
  | 0 => exact (congrArg (· + b.val) (Nat.min_zero _)).trans (Nat.zero_add _)
  | 1 => exact (congrArg (· + h.val) (Nat.min_zero _)).trans (Nat.zero_add _)
  | 2 =>
    refine (congrArg (· + t.val) hs).trans ?_
    rw [h2, start_toNat]
    exact congrArg (· + t.val) (Nat.min_eq_left (by omega))
  | 3 => exact (congrArg (· + z.val) (Nat.min_zero _)).trans (Nat.zero_add _)

theorem word34 (c : Fin 128) : val_main_v34 (F := Ideal) (ix2 c 2) = BitVec.ofNat 32 (64 * c.val) := by
  pointwise [val_main_v34, val_main_v30, val_main_v31, val_main_v33, val_main_v32, val_main_v29, val_main_v28, val_main_v27, val_main_v26, val_main_v25, val_main_v24, val_main_v23, val_main_v22, val_main_c_7, val_main_c_8, val_main_c_9, val_main_c_10, val_main_c_11, val_main_c_12]
  revert c
  decide +kernel

theorem word45 (c : Fin 128) : val_main_v45 (F := Ideal) (ix2 c 2) = BitVec.ofNat 32 (64 * c.val) := by
  pointwise [val_main_v45, val_main_v41, val_main_v42, val_main_v44, val_main_v43, val_main_v40, val_main_v39, val_main_v38, val_main_v37, val_main_v36, val_main_v24, val_main_v23, val_main_v22, val_main_c_7, val_main_c_13, val_main_c_14, val_main_c_15, val_main_c_16, val_main_c_17]
  revert c
  decide +kernel

theorem word56 (c : Fin 128) : val_main_v56 (F := Ideal) (ix2 c 2) = BitVec.ofNat 32 (64 * c.val) := by
  pointwise [val_main_v56, val_main_v52, val_main_v53, val_main_v55, val_main_v54, val_main_v51, val_main_v50, val_main_v49, val_main_v48, val_main_v47, val_main_v24, val_main_v23, val_main_v22, val_main_c_7, val_main_c_18, val_main_c_19, val_main_c_20, val_main_c_21, val_main_c_22]
  revert c
  decide +kernel

/-- A chunk's queries. -/
theorem q_at (x0 : S8x16x8192x64.Idx → EReal) (c : Fin 128) (b : Fin 8) (h : Fin 16) (r z : Fin 64) :
    val_main_v35 (F := Ideal) x0 (ix5 c b h r z) = x0 (ix4 b h ⟨64 * c.val + r.val, by omega⟩ z) :=
  gather_q x0 _ c (word34 c) b h r z

/-- Padded keys or values: zero in front of the sequence. -/
def padded (x : S8x16x8192x64.Idx → EReal) (b : Fin 8) (h : Fin 16) (s : ℕ) (z : Fin 64) : EReal :=
  if hs : 512 ≤ s ∧ s < 8704 then x (ix4 b h ⟨s - 512, by omega⟩ z) else 0

theorem finish_pad (x : S8x16x8192x64.Idx → EReal) (b : Fin 8) (h : Fin 16) (s : Fin 8704) (z : Fin 64) (hs : s.val < 8704) :
    (if e : 512 ≤ s.val ∧ s.val - 512 < 8192 then x (ix4 b h ⟨s.val - 512, e.2⟩ z) else FloatOps.sitofp (F := Ideal) FTy.f32 0#32)
      = if e : 512 ≤ s.val then x (ix4 b h ⟨s.val - 512, by omega⟩ z) else 0 := by
  by_cases e : 512 ≤ s.val
  · rw [dif_pos ⟨e, by omega⟩, dif_pos e]
  · rw [dif_neg (fun h => e h.1), dif_neg e]
    show (((0#32 : BitVec 32).toInt : ℝ) : EReal) = 0
    simp

theorem pad_k (x : S8x16x8192x64.Idx → EReal) (b : Fin 8) (h : Fin 16) (s : Fin 8704) (z : Fin 64) :
    val_main_v0 (F := Ideal) x (ix4 b h s z) = padded x b h s.val z := by
  have hs := s.isLt
  unfold padded
  pointwise [val_main_v0, val_main_call0_v0, val_main_c]
  exact finish_pad x b h s z hs
theorem pad_v (x : S8x16x8192x64.Idx → EReal) (b : Fin 8) (h : Fin 16) (s : Fin 8704) (z : Fin 64) :
    val_main_v1 (F := Ideal) x (ix4 b h s z) = padded x b h s.val z := by
  have hs := s.isLt
  unfold padded
  pointwise [val_main_v1, val_main_call1_v0, val_main_c_0]
  exact finish_pad x b h s z hs

theorem k_at (x1 : S8x16x8192x64.Idx → EReal) (c : Fin 128) (b : Fin 8) (h : Fin 16) (t : Fin 576) (z : Fin 64) :
    val_main_v46 (F := Ideal) x1 (ix5 c b h t z) = padded x1 b h (64 * c.val + t.val) z :=
  (gather_kv _ _ c (word45 c) b h t z).trans (pad_k x1 b h _ z)

theorem v_at (x2 : S8x16x8192x64.Idx → EReal) (c : Fin 128) (b : Fin 8) (h : Fin 16) (t : Fin 576) (z : Fin 64) :
    val_main_v57 (F := Ideal) x2 (ix5 c b h t z) = padded x2 b h (64 * c.val + t.val) z :=
  (gather_kv _ _ c (word56 c) b h t z).trans (pad_v x2 b h _ z)

/-- The row of the relative position table which query `r` of a chunk takes for key `t` of its window. -/
def biasRow (r : Fin 64) (t : Fin 576) : Fin 257 := ⟨min 256 (r.val + 640 - t.val), by omega⟩

theorem clip_word : ∀ e : Fin 704,
    (let w := IntOp.addi (IntOp.minsi 128#32 (IntOp.maxsi 4294967168#32 (BitVec.ofNat 32 e.val - 128#32))) 128#32
    Scalar.select (IntOp.cmpi CmpIPredicate.slt w 0#32) (IntOp.addi w 257#32) w) = BitVec.ofNat 32 (min 256 e.val) := by
  decide +kernel

theorem row_toNat (w : Fin 257) : (BitVec.ofNat 32 w.val).toInt.toNat = w.val := by
  revert w; decide

theorem word19 (r : Fin 64) (t : Fin 576) : val_main_v19 (F := Ideal) (ix3 r t 0) = BitVec.ofNat 32 (biasRow r t).val := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_c_1, val_main_c_2, val_main_c_3, val_main_c_4, val_main_c_5, val_main_c_6, val_main_call2_v0, val_main_call2_v1, val_main_call2_v2, val_main_call2_v3, val_main_call2_v4]
  have e : IntOp.subi (BitVec.ofNat 32 r.val) (IntOp.subi (BitVec.ofNat 32 t.val) 512#32)
      = BitVec.ofNat 32 (r.val + 640 - t.val) - 128#32 := by
    show BitVec.ofNat 32 r.val - (BitVec.ofNat 32 t.val - 512#32) = _
    bv_omega
  rw [e]
  exact clip_word ⟨r.val + 640 - t.val, by omega⟩

theorem gather_bias (x : S257x16.Idx → EReal) (idx : IVec S64x576x1 32) (r : Fin 64) (t : Fin 576) (h : Fin 16) (w : Fin 257)
    (hw : idx (ix3 r t 0) = BitVec.ofNat 32 w.val) :
    Host.gather gather_S257x16_S64x576x1_S64x576x16_2_0_n_n_0_2_116 x idx (ix3 r t h) = x (ix2 w h) := by
  unfold Host.gather
  refine congrArg x (funext fun a => Fin.ext ?_)
  have hs : gather_S257x16_S64x576x1_S64x576x16_2_0_n_n_0_2_116.start (ix3 r t h) idx 0 = min (idx (ix3 r t 0)).toInt.toNat 256 :=
    congrArg (fun i => min (idx i).toInt.toNat 256) (funext fun b => Fin.ext (by fin_cases b <;> rfl))
  match a with
  | 0 =>
    refine (congrArg (· + 0) hs).trans ?_
    rw [hw, row_toNat]
    exact Nat.min_eq_left (by omega)
  | 1 => exact Nat.zero_add _

theorem bias_at (x3 : S257x16.Idx → EReal) (h : Fin 16) (r : Fin 64) (t : Fin 576) :
    val_main_v21 (F := Ideal) x3 (ix3 h r t) = x3 (ix2 (biasRow r t) h) := by
  pointwise [val_main_v21]
  exact gather_bias x3 _ r t h _ (word19 r t)

theorem valid_word : ∀ e : Fin 8704, IntOp.cmpi CmpIPredicate.sge (BitVec.ofNat 32 e.val - 512#32) 0#32
    = if 512 ≤ e.val then 1#1 else 0#1 := by
  decide +kernel

theorem valid_at (c : Fin 128) (t : Fin 576) : val_main_v71 (F := Ideal) (ix2 c t) = if 512 ≤ 64 * c.val + t.val then 1#1 else 0#1 := by
  pointwise [val_main_v71, val_main_v70, val_main_v69, val_main_v68, val_main_v67, val_main_v66, val_main_v65, val_main_v24, val_main_v23, val_main_v22, val_main_v5, val_main_v4, val_main_v3, val_main_c_1, val_main_c_7, val_main_c_23]
  have e : IntOp.addi (IntOp.muli (BitVec.ofNat 32 c.val) 64#32) (IntOp.subi (BitVec.ofNat 32 t.val) 512#32)
      = BitVec.ofNat 32 (64 * c.val + t.val) - 512#32 := by
    show BitVec.ofNat 32 c.val * 64#32 + (BitVec.ofNat 32 t.val - 512#32) = _
    bv_omega
  rw [e]
  exact valid_word ⟨64 * c.val + t.val, by omega⟩

/-- The word of minus infinity. -/
theorem ofBits_neg_inf : Ideal.ofBits FTy.f32 4286578688#32 = ⊥ := by
  simp [Ideal.ofBits, Ideal.ieee]

theorem fold_max (f : Fin 576 → EReal) : max ⊥ (Finset.fold max ⊥ f Finset.univ) = Finset.univ.sup f :=
  max_eq_right bot_le

theorem v73_at (x : S128x8x16x64x576.Idx → EReal) (f : Fin 576 → EReal) (c : Fin 128) (b : Fin 8) (h : Fin 16) (r : Fin 64)
    (hf : ∀ t, x (ix5 c b h r t) = f t) :
    Host.reduce (FloatOps.maximumf (F := Ideal) (φ := .f32)) x (constant S_ .f32 0xFF800000#32) reducesTo_S128x8x16x64x576_S128x8x16x64_d4 h_S_ (ix4 c b h r) = Finset.fold max ⊥ f Finset.univ := by
  pointwise
  rw [ofBits_neg_inf]
  exact congrArg (fun g => Finset.fold max ⊥ g Finset.univ) (funext hf)

/-- The reference's score of key `t` of the window for query `r` of chunk `c`. -/
def score (x0 x1 : S8x16x8192x64.Idx → EReal) (x3 : S257x16.Idx → EReal) (c : Fin 128) (b : Fin 8) (h : Fin 16)
    (r : Fin 64) (t : Fin 576) : EReal :=
  if 512 ≤ 64 * c.val + t.val then
    (∑ z : Fin 64, x0 (ix4 b h ⟨64 * c.val + r.val, by omega⟩ z) * padded x1 b h (64 * c.val + t.val) z)
      * Ideal.ofBits FTy.f32 1040187392#32 + x3 (ix2 (biasRow r t) h)
  else ⊥

theorem score_at (x0 x1 : S8x16x8192x64.Idx → EReal) (x3 : S257x16.Idx → EReal) (c : Fin 128) (b : Fin 8) (h : Fin 16)
    (r : Fin 64) (t : Fin 576) : val_main_v72 (F := Ideal) x0 x1 x3 (ix5 c b h r t) = score x0 x1 x3 c b h r t := by
  unfold score
  pointwise [val_main_v72, val_main_call3_v1, val_main_call3_v2, val_main_call3_v3, val_main_call3_v0, val_main_cst_24, val_main_v64, val_main_v63, val_main_v62, val_main_v61, val_main_v60, val_main_v59, val_main_cst, val_main_v58, valid_at, bias_at, q_at, k_at]
  by_cases e : 512 ≤ 64 * c.val + t.val
  · rw [if_pos e, if_pos e]
    rfl
  · rw [if_neg e, if_neg e]
    exact ofBits_neg_inf

theorem v73_score (x0 x1 : S8x16x8192x64.Idx → EReal) (x3 : S257x16.Idx → EReal) (c : Fin 128) (b : Fin 8) (h : Fin 16)
    (r : Fin 64) : val_main_v73 (F := Ideal) x0 x1 x3 (ix4 c b h r) = Finset.fold max ⊥ (score x0 x1 x3 c b h r) Finset.univ := by
  have hx := fun t => score_at x0 x1 x3 c b h r t
  unfold val_main_v73 val_main_cst_25
  revert hx
  generalize val_main_v72 (F := Ideal) x0 x1 x3 = y
  generalize score x0 x1 x3 c b h r = f
  exact fun hx => v73_at y f c b h r hx

theorem v75_at (y : S128x8x16x64.Idx → EReal) (i : S128x8x16x64.Idx) :
    maximumf (F := Ideal) (φ := .f32) (val_main_v74 (F := Ideal)) y i = max ⊥ (y i) := by
  rw [← ofBits_neg_inf]
  rfl

theorem max_at (x0 x1 : S8x16x8192x64.Idx → EReal) (x3 : S257x16.Idx → EReal) (c : Fin 128) (b : Fin 8) (h : Fin 16)
    (r : Fin 64) : val_main_v75 (F := Ideal) x0 x1 x3 (ix4 c b h r) = Finset.univ.sup (score x0 x1 x3 c b h r) := by
  have e := v73_score x0 x1 x3 c b h r
  unfold val_main_v75
  revert e
  generalize val_main_v73 (F := Ideal) x0 x1 x3 = y
  generalize score x0 x1 x3 c b h r = f
  intro e
  rw [v75_at, e, fold_max]

/-- The reference's exponential weight. -/
def weight (x0 x1 : S8x16x8192x64.Idx → EReal) (x3 : S257x16.Idx → EReal) (c : Fin 128) (b : Fin 8) (h : Fin 16)
    (r : Fin 64) (t : Fin 576) : EReal :=
  Ideal.exp (score x0 x1 x3 c b h r t - Finset.univ.sup (score x0 x1 x3 c b h r))

theorem weight_at (x0 x1 : S8x16x8192x64.Idx → EReal) (x3 : S257x16.Idx → EReal) (c : Fin 128) (b : Fin 8) (h : Fin 16)
    (r : Fin 64) (t : Fin 576) : val_main_v79 (F := Ideal) x0 x1 x3 (ix5 c b h r t) = weight x0 x1 x3 c b h r t := by
  unfold weight
  pointwise [val_main_v79, val_main_v78, val_main_v77, val_main_v76, score_at, max_at]

theorem norm_at (x0 x1 : S8x16x8192x64.Idx → EReal) (x3 : S257x16.Idx → EReal) (c : Fin 128) (b : Fin 8) (h : Fin 16)
    (r : Fin 64) : val_main_v80 (F := Ideal) x0 x1 x3 (ix4 c b h r) = ∑ t : Fin 576, weight x0 x1 x3 c b h r t := by
  pointwise [val_main_v80, val_main_cst_27, weight_at]

theorem out_at (x0 x1 x2 : S8x16x8192x64.Idx → EReal) (x3 : S257x16.Idx → EReal) (c : Fin 128) (b : Fin 8) (h : Fin 16)
    (r z : Fin 64) : val_main_v84 (F := Ideal) x0 x1 x2 x3 (ix5 c b h r z)
      = ∑ t : Fin 576, Ideal.div (weight x0 x1 x3 c b h r t) (∑ t' : Fin 576, weight x0 x1 x3 c b h r t')
          * padded x2 b h (64 * c.val + t.val) z := by
  pointwise [val_main_v84, val_main_v83, val_main_v82, val_main_v81, weight_at, norm_at, v_at]

theorem res_at (x0 x1 x2 : S8x16x8192x64.Idx → EReal) (x3 : S257x16.Idx → EReal) (b : Fin 8) (s : Fin 8192) (j : Fin 1024) :
    val_main_v89 (F := Ideal) x0 x1 x2 x3 (ix3 b s j)
      = val_main_v84 (F := Ideal) x0 x1 x2 x3 (ix5 ⟨s.val / 64, by omega⟩ b ⟨j.val / 64, by omega⟩ ⟨s.val % 64, by omega⟩ ⟨j.val % 64, by omega⟩) := by
  pointwise [val_main_v89, val_main_v88, val_main_v87, val_main_v86, val_main_v85]

end Cert.BandRef

end
-- ==== Proof.BandMath.lean ====
/-
  Attention over tiles of keys with base two exponentials, and softmax attention over one window of keys, agree on
  finite scores: the window embeds into the tiles, and every key outside the window has weight zero.
-/
module

public import Idealize.ShloMosaic.PureOps.Ideal.Laws

@[expose] public section

noncomputable section

namespace Cert.BandMath

open Idealize.ShloMosaic

/-- A finite sum of real numbers, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes inside a finite sum of extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

/-- Two to the power of a real multiple of `1 / log 2` is the exponential. -/
theorem rpow_two (y : ℝ) : Real.rpow 2 ((Real.log 2)⁻¹ * y) = Real.exp y := by
  show (2 : ℝ) ^ ((Real.log 2)⁻¹ * y) = _
  rw [Real.rpow_def_of_pos (by norm_num)]
  congr 1
  have : Real.log 2 ≠ 0 := (Real.log_pos (by norm_num)).ne'
  field_simp

/-- A score is minus infinity or a real number. -/
def Score (x : EReal) : Prop := x = ⊥ ∨ ∃ r : ℝ, x = (r : EReal)

/-- The largest of finitely many scores is a score. -/
theorem sup_real {ι : Type} [Fintype ι] (R : ι → EReal) (hR : ∀ i, Score (R i)) (i₀ : ι) (h₀ : R i₀ ≠ ⊥) :
    ∃ m : ℝ, Finset.univ.sup R = (m : EReal) := by
  obtain ⟨j, -, hj⟩ := Finset.exists_mem_eq_sup Finset.univ ⟨i₀, Finset.mem_univ _⟩ R
  rcases hR j with e | ⟨r, e⟩
  · exfalso
    have : R i₀ ≤ Finset.univ.sup R := Finset.le_sup (Finset.mem_univ _)
    rw [hj, e] at this
    exact h₀ (le_bot_iff.1 this)
  · exact ⟨r, hj.trans e⟩

/-- The weight of a score against a real maximum is a nonnegative real, positive unless the score is minus infinity. -/
theorem exp_score (x : EReal) (hx : Score x) (m : ℝ) :
    ∃ p : ℝ, 0 ≤ p ∧ Ideal.exp (x - (m : EReal)) = (p : EReal) ∧ (x ≠ ⊥ → 0 < p) ∧ (x = ⊥ → p = 0)
      ∧ Ideal.exp2 ((((Real.log 2)⁻¹ : ℝ) : EReal) * x - (((Real.log 2)⁻¹ * m : ℝ) : EReal)) = (p : EReal) := by
  have hl : 0 < (Real.log 2)⁻¹ := inv_pos.2 (Real.log_pos (by norm_num))
  rcases hx with rfl | ⟨r, rfl⟩
  · refine ⟨0, le_rfl, ?_, fun h => absurd rfl h, fun _ => rfl, ?_⟩
    · rw [EReal.bot_sub]
      simp
    · rw [EReal.coe_mul_bot_of_pos hl, EReal.bot_sub]
      simp
  · refine ⟨Real.exp (r - m), (Real.exp_pos _).le, ?_, fun _ => Real.exp_pos _, fun h => absurd h (EReal.coe_ne_bot r), ?_⟩
    · rw [← EReal.coe_sub, Ideal.exp_coe]
    · rw [← EReal.coe_mul, ← EReal.coe_sub, ← mul_sub, Ideal.exp2_coe, rpow_two]

/-- Tiled attention in base two is softmax attention over the window. -/
theorem attention_eq {ι κ : Type} [Fintype ι] [Fintype κ] (e : κ → ι) (he : Function.Injective e) (K V : ι → EReal) (R W : κ → EReal)
    (hR : ∀ t, Score (R t)) (t₀ : κ) (h₀ : R t₀ ≠ ⊥) (hK : ∀ t, K (e t) = (((Real.log 2)⁻¹ : ℝ) : EReal) * R t)
    (hout : ∀ i, (∀ t, e t ≠ i) → K i = ⊥) (hV : ∀ t, R t ≠ ⊥ → V (e t) = W t) :
    Ideal.div (∑ i, V i * Ideal.exp2 (K i - Finset.univ.sup K)) (∑ i, 1 * Ideal.exp2 (K i - Finset.univ.sup K))
      = ∑ t, Ideal.div (Ideal.exp (R t - Finset.univ.sup R)) (∑ t', Ideal.exp (R t' - Finset.univ.sup R)) * W t := by
  classical
  have hl : 0 < (Real.log 2)⁻¹ := inv_pos.2 (Real.log_pos (by norm_num))
  obtain ⟨m, hm⟩ := sup_real R hR t₀ h₀
  -- the largest tiled score
  have hM : Finset.univ.sup K = (((Real.log 2)⁻¹ * m : ℝ) : EReal) := by
    apply le_antisymm
    · refine Finset.sup_le fun i _ => ?_
      by_cases hi : ∃ t, e t = i
      · obtain ⟨t, rfl⟩ := hi
        have h1 : R t ≤ (m : EReal) := hm ▸ Finset.le_sup (Finset.mem_univ t)
        rw [hK, EReal.coe_mul]
        exact mul_le_mul_of_nonneg_left h1 (EReal.coe_nonneg.2 hl.le)
      · rw [hout i fun t ht => hi ⟨t, ht⟩]
        exact bot_le
    · obtain ⟨j, -, hj⟩ := Finset.exists_mem_eq_sup Finset.univ ⟨t₀, Finset.mem_univ _⟩ R
      rw [EReal.coe_mul, ← hm, hj, ← hK]
      exact Finset.le_sup (Finset.mem_univ _)
  choose p hp0 hpe hpp hpb hp2 using fun t => exp_score (R t) (hR t) m
  have hin : ∀ t, Ideal.exp2 (K (e t) - Finset.univ.sup K) = (p t : EReal) := fun t => by rw [hM, hK, hp2]
  have hzero : ∀ i, (∀ t, e t ≠ i) → Ideal.exp2 (K i - Finset.univ.sup K) = 0 := fun i hi => by
    rw [hout i hi, EReal.bot_sub]
    rfl
  have hsum : ∀ U : ι → EReal, ∑ i, U i * Ideal.exp2 (K i - Finset.univ.sup K) = ∑ t, U (e t) * (p t : EReal) := fun U => by
    refine (Finset.sum_of_injOn e he.injOn (fun _ _ => Finset.mem_coe.2 (Finset.mem_univ _)) (fun i _ hi => ?_) (fun t _ => ?_)).symm
    · rw [hzero i fun t ht => hi ⟨t, Finset.mem_coe.2 (Finset.mem_univ _), ht⟩, mul_zero]
    · rw [hin]
  have hexp : ∀ t, Ideal.exp (R t - Finset.univ.sup R) = (p t : EReal) := fun t => by rw [hm, hpe]
  have hnum : ∑ i, V i * Ideal.exp2 (K i - Finset.univ.sup K) = ∑ t, W t * (p t : EReal) := by
    rw [hsum]
    refine Finset.sum_congr rfl fun t _ => ?_
    by_cases ht : R t = ⊥
    · rw [hpb t ht, EReal.coe_zero, mul_zero, mul_zero]
    · rw [hV t ht]
  have hden : ∑ i, 1 * Ideal.exp2 (K i - Finset.univ.sup K) = ((∑ t, p t : ℝ) : EReal) := by
    rw [hsum (fun _ => 1), coe_sum]
    exact Finset.sum_congr rfl fun t _ => one_mul _
  have hden' : ∑ t, Ideal.exp (R t - Finset.univ.sup R) = ((∑ t, p t : ℝ) : EReal) := by
    rw [coe_sum]
    exact Finset.sum_congr rfl fun t _ => hexp t
  have hl0 : 0 < ∑ t, p t := Finset.sum_pos' (fun t _ => hp0 t) ⟨t₀, Finset.mem_univ _, hpp t₀ h₀⟩
  have hne : ((∑ t, p t : ℝ) : EReal) ≠ 0 := fun h => hl0.ne' (EReal.coe_eq_zero.1 h)
  rw [hnum, hden, hden']
  unfold Ideal.div
  rw [if_neg hne, ← EReal.coe_inv, sum_mul_real _ _ _ (inv_nonneg.2 hl0.le)]
  refine Finset.sum_congr rfl fun t _ => ?_
  rw [if_neg hne, hexp, mul_assoc, mul_comm]

end Cert.BandMath

end
-- ==== Proof.BandEq.lean ====
/-
  The tiled kernel's result at an index is the reference's, on finite queries, keys and biases.
-/
module

public import proofs.«01_k».proof.Proof.BandHost
public import proofs.«01_k».proof.Proof.BandRef
public import proofs.«01_k».proof.Proof.BandMath

@[expose] public section

noncomputable section

namespace Cert.BandEq

open Idealize.ShloMosaic Idealize.ShloMosaic.TcCoe Idealize.SL.Sem Cert.Band

/-- The tile and row of a tile which hold key `t` of the window of a query's chunk. -/
def place (s : Fin 8192) (t : Fin 576) : Fin 3 × Fin 256 :=
  (⟨2 - (t.val + 64 * (s.val / 64 % 4)) / 256, by omega⟩, ⟨(t.val + 64 * (s.val / 64 % 4)) % 256, by omega⟩)

theorem place_inj (s : Fin 8192) : Function.Injective (place s) := fun t t' h => by
  have h1 := congrArg (fun p : Fin 3 × Fin 256 => p.1.val) h
  have h2 := congrArg (fun p : Fin 3 × Fin 256 => p.2.val) h
  simp only [place] at h1 h2
  exact Fin.ext (by omega)

theorem log2e_eq : log2e = (((Real.log 2)⁻¹ : ℝ) : EReal) := by
  have h2 : Ideal.ofBits FTy.f32 1073741824#32 = ((2 : ℝ) : EReal) := by
    simp [Ideal.ofBits, Ideal.ieee]
    rw [← EReal.coe_mul]
    norm_num
  have hl : 0 < Real.log 2 := Real.log_pos (by norm_num)
  have hne : ((Real.log 2 : ℝ) : EReal) ≠ 0 := fun h => hl.ne' (EReal.coe_eq_zero.1 h)
  unfold log2e Ideal.div
  rw [h2, Ideal.log_coe, if_neg (show ¬ (2 : ℝ) ≤ 0 by norm_num), if_neg hne, one_mul, EReal.coe_inv]

theorem eighth_eq : ∃ e : ℝ, Ideal.ofBits FTy.f32 1040187392#32 = (e : EReal) := by
  refine ⟨1 / 8, ?_⟩
  simp [Ideal.ofBits, Ideal.ieee]
  rw [← EReal.coe_mul]
  norm_num

/-- The sum over three tiles is the sum over the pairs of a tile and a row. -/
theorem sum3_eq (S V : Fin 3 × Fin 256 → EReal) :
    sum3 (fun x => S (0, x)) (fun x => S (1, x)) (fun x => S (2, x)) (fun x => V (0, x)) (fun x => V (1, x)) (fun x => V (2, x))
      = ∑ i, V i * Ideal.exp2 (S i - Finset.univ.sup S) := by
  have ht : top3 (fun x => S (0, x)) (fun x => S (1, x)) (fun x => S (2, x)) = Finset.univ.sup S := by
    apply le_antisymm
    · have h : ∀ d, Finset.univ.fold max ⊥ (fun x => S (d, x)) ≤ Finset.univ.sup S := fun d =>
        Finset.sup_le (f := fun x => S (d, x)) fun x _ => Finset.le_sup (Finset.mem_univ (d, x))
      exact max_le (max_le (h 0) (h 1)) (h 2)
    · refine Finset.sup_le fun i _ => ?_
      have h : ∀ d x, S (d, x) ≤ Finset.univ.fold max ⊥ (fun x => S (d, x)) := fun d x =>
        Finset.le_sup (f := fun x => S (d, x)) (Finset.mem_univ x)
      obtain ⟨d, x⟩ := i
      match d with
      | 0 => exact (h 0 x).trans ((le_max_left _ _).trans (le_max_left _ _))
      | 1 => exact (h 1 x).trans ((le_max_right _ _).trans (le_max_left _ _))
      | 2 => exact (h 2 x).trans (le_max_right _ _)
  unfold sum3
  rw [ht, Fintype.sum_prod_type, Fin.sum_univ_three]

section
variable (q k v : Cert.KernelIdeal.S8x16x8192x64.Idx → EReal) (B : Cert.KernelIdeal.S257x16.Idx → EReal)

/-- A tiled score in terms of the arguments. -/
def tileScore (b : Fin 8) (s : Fin 8192) (h : Fin 16) (i : Fin 3 × Fin 256) : EReal :=
  (∑ z : Fin 64, k (ix4 b h ⟨256 * (s.val / 256 - i.1.val) + i.2.val, by omega⟩ z)
      * (q (ix4 b h s z) * Ideal.ofBits FTy.f32 1040187392#32 * log2e))
    + ((B (ix2 (relRow i.1 i.2 ⟨s.val % 256, by omega⟩) h) * log2e + chunkMask i.1 i.2 ⟨s.val % 256, by omega⟩) + edge (s.val / 256) i.1.val)

/-- A tiled value in terms of the arguments. -/
def tileVal (b : Fin 8) (s : Fin 8192) (h : Fin 16) (z : Fin 64) (i : Fin 3 × Fin 256) : EReal :=
  v (ix4 b h ⟨256 * (s.val / 256 - i.1.val) + i.2.val, by omega⟩ z)

variable (hq : ∀ i, ∃ r : ℝ, q i = (r : EReal)) (hk : ∀ i, ∃ r : ℝ, k i = (r : EReal)) (hB : ∀ i, ∃ r : ℝ, B i = (r : EReal))
include hq hk hB

theorem padded_real (b : Fin 8) (h : Fin 16) (s : ℕ) (z : Fin 64) : ∃ r : ℝ, Cert.BandRef.padded k b h s z = (r : EReal) := by
  unfold Cert.BandRef.padded
  split
  · exact hk _
  · exact ⟨0, rfl⟩

theorem score_valid (c : Fin 128) (b : Fin 8) (h : Fin 16) (r : Fin 64) (t : Fin 576) (hv : 512 ≤ 64 * c.val + t.val) :
    ∃ y : ℝ, Cert.BandRef.score q k B c b h r t = (y : EReal) := by
  unfold Cert.BandRef.score
  rw [if_pos hv]
  obtain ⟨e, he⟩ := eighth_eq
  choose q' hq' using hq
  choose p' hp' using fun z => padded_real q k B (fun i => ⟨q' i, hq' i⟩) hk hB b h (64 * c.val + t.val) z
  obtain ⟨b', hb'⟩ := hB (ix2 (Cert.BandRef.biasRow r t) h)
  refine ⟨(∑ z, q' (ix4 b h ⟨64 * c.val + r.val, by omega⟩ z) * p' z) * e + b', ?_⟩
  rw [he, hb', EReal.coe_add, EReal.coe_mul, Cert.BandMath.coe_sum]
  congr 2
  exact Finset.sum_congr rfl fun z _ => by rw [hq', hp', EReal.coe_mul]

theorem score_real (c : Fin 128) (b : Fin 8) (h : Fin 16) (r : Fin 64) (t : Fin 576) :
    Cert.BandMath.Score (Cert.BandRef.score q k B c b h r t) := by
  by_cases hv : 512 ≤ 64 * c.val + t.val
  · exact Or.inr (score_valid q k B hq hk hB c b h r t hv)
  · exact Or.inl (if_neg hv)

/-- On the window, a tiled score is the reference's, in base two. -/
theorem tileScore_place (b : Fin 8) (s : Fin 8192) (h : Fin 16) (t : Fin 576) :
    tileScore q k B b s h (place s t) = (((Real.log 2)⁻¹ : ℝ) : EReal)
      * Cert.BandRef.score q k B ⟨s.val / 64, by omega⟩ b h ⟨s.val % 64, by omega⟩ t := by
  have hl : 0 < (Real.log 2)⁻¹ := inv_pos.2 (Real.log_pos (by norm_num))
  have hp1 : (place s t).1.val = 2 - (t.val + 64 * (s.val / 64 % 4)) / 256 := rfl
  have hp2 : (place s t).2.val = (t.val + 64 * (s.val / 64 % 4)) % 256 := rfl
  have hmask : chunkMask (place s t).1 (place s t).2 ⟨s.val % 256, by omega⟩ = 0 := if_neg (by dsimp only; omega)
  have hrow : relRow (place s t).1 (place s t).2 ⟨s.val % 256, by omega⟩ = Cert.BandRef.biasRow ⟨s.val % 64, by omega⟩ t :=
    Fin.ext (by
      show min 256 (256 * (place s t).1.val + s.val % 256 + 128 - (place s t).2.val) = min 256 (s.val % 64 + 640 - t.val)
      omega)
  unfold tileScore Cert.BandRef.score
  rw [hmask, hrow, add_zero, log2e_eq]
  by_cases hv : 512 ≤ 64 * (s.val / 64) + t.val
  · have hedge : edge (s.val / 256) (place s t).1.val = 0 := if_pos (by omega)
    rw [if_pos hv, hedge, add_zero]
    obtain ⟨e, he⟩ := eighth_eq
    choose q' hq' using hq
    choose k' hk' using hk
    obtain ⟨b', hb'⟩ := hB (ix2 (Cert.BandRef.biasRow ⟨s.val % 64, by omega⟩ t) h)
    have hs : (⟨64 * (s.val / 64) + s.val % 64, by omega⟩ : Fin 8192) = s := Fin.ext (by dsimp only; omega)
    have hpad : ∀ z, Cert.BandRef.padded k b h (64 * (s.val / 64) + t.val) z
        = k (ix4 b h ⟨256 * (s.val / 256 - (place s t).1.val) + (place s t).2.val, by omega⟩ z) := fun z => by
      unfold Cert.BandRef.padded
      rw [dif_pos ⟨hv, by omega⟩]
      exact congrArg (fun u : Fin 8192 => k (ix4 b h u z)) (Fin.ext (by dsimp only; omega))
    rw [hb', he]
    simp only [hpad, hs, hq', hk', ← EReal.coe_mul, ← Cert.BandMath.coe_sum, ← EReal.coe_add]
    congr 1
    rw [mul_add, Finset.sum_mul, Finset.mul_sum]
    congr 1
    · exact Finset.sum_congr rfl fun z _ => by ring
    · ring
  · have hedge : edge (s.val / 256) (place s t).1.val = ⊥ := if_neg (by omega)
    rw [if_neg hv, hedge, EReal.add_bot, EReal.add_bot, EReal.coe_mul_bot_of_pos hl]

omit hq hk hB in
/-- A tiled score away from the window is minus infinity. -/
theorem tileScore_out (b : Fin 8) (s : Fin 8192) (h : Fin 16) (i : Fin 3 × Fin 256) (hi : ∀ t, place s t ≠ i) :
    tileScore q k B b s h i = ⊥ := by
  have hm : chunkMask i.1 i.2 ⟨s.val % 256, by omega⟩ = ⊥ := by
    unfold chunkMask
    refine if_pos ?_
    by_contra hc
    dsimp only at hc
    have h1 := i.1.isLt
    have h2 := i.2.isLt
    have hlo : 64 * (s.val / 64 % 4) ≤ 256 * (2 - i.1.val) + i.2.val := by omega
    have hhi : 256 * (2 - i.1.val) + i.2.val < 576 + 64 * (s.val / 64 % 4) := by omega
    refine hi ⟨256 * (2 - i.1.val) + i.2.val - 64 * (s.val / 64 % 4), by omega⟩ (Prod.ext (Fin.ext ?_) (Fin.ext ?_))
    · simp only [place]
      omega
    · simp only [place]
      omega
  unfold tileScore
  rw [hm, EReal.add_bot, EReal.bot_add, EReal.add_bot]

/-- Tiled attention over the arguments is the reference's. -/
theorem tile_attention (b : Fin 8) (s : Fin 8192) (h : Fin 16) (z : Fin 64) :
    Ideal.div (∑ i, tileVal v b s h z i * Ideal.exp2 (tileScore q k B b s h i - Finset.univ.sup (tileScore q k B b s h)))
        (∑ i, 1 * Ideal.exp2 (tileScore q k B b s h i - Finset.univ.sup (tileScore q k B b s h)))
      = Cert.ReferenceIdeal.Read.val_main_v84 (F := Ideal) q k v B (ix5 ⟨s.val / 64, by omega⟩ b h ⟨s.val % 64, by omega⟩ z) := by
  rw [Cert.BandRef.out_at]
  refine (Cert.BandMath.attention_eq (place s) (place_inj s) _ _ _
    (fun t => Cert.BandRef.padded v b h (64 * (s.val / 64) + t.val) z) (score_real q k B hq hk hB _ b h _) ⟨512, by omega⟩ ?_
    (tileScore_place q k B hq hk hB b s h) (tileScore_out q k B b s h) (fun t ht => ?_)).trans rfl
  · obtain ⟨y, hy⟩ := score_valid q k B hq hk hB ⟨s.val / 64, by omega⟩ b h ⟨s.val % 64, by omega⟩ ⟨512, by omega⟩ (by dsimp only; omega)
    rw [hy]
    exact EReal.coe_ne_bot y
  · have hv : 512 ≤ 64 * (s.val / 64) + t.val := by
      by_contra hc
      exact ht (if_neg hc)
    have hp1 : (place s t).1.val = 2 - (t.val + 64 * (s.val / 64 % 4)) / 256 := rfl
    have hp2 : (place s t).2.val = (t.val + 64 * (s.val / 64 % 4)) % 256 := rfl
    unfold tileVal Cert.BandRef.padded
    rw [dif_pos ⟨hv, by omega⟩]
    exact congrArg (fun u : Fin 8192 => v (ix4 b h u z)) (Fin.ext (by dsimp only; omega))

end

section
variable (X : Cert.KernelIdeal.S8x8192x2048.Idx → EReal) (W : Cert.KernelIdeal.S8x8x32x144x256.Idx → EReal) (T : Cert.KernelIdeal.S16x3x256x256.Idx → EReal)
  (q k v : Cert.KernelIdeal.S8x16x8192x64.Idx → EReal) (B : Cert.KernelIdeal.S257x16.Idx → EReal)

/-- The result array at an index, once the arrays the call is given are known in terms of the arguments. -/
theorem arrOut_of
    (hq : ∀ b s h (z : Fin 64), X (ix3 b s ⟨64 * h.val + z.val, by have := h.isLt; omega⟩) = q (ix4 b h s z) * Ideal.ofBits FTy.f32 1040187392#32 * log2e)
    (hk : ∀ b s h (z : Fin 64), X (ix3 b s ⟨1024 + (64 * h.val + z.val), by have := h.isLt; omega⟩) = k (ix4 b h s z))
    (hv : ∀ (b p : Fin 8) (n : Fin 32) (l : Fin 128) (x : Fin 256), W (ix5 b p n ⟨l.val, by omega⟩ x)
      = v (ix4 b ⟨2 * p.val + l.val / 64, by omega⟩ ⟨256 * n.val + x.val, by omega⟩ ⟨l.val % 64, by omega⟩))
    (ho : ∀ (b p : Fin 8) (n : Fin 32) (x : Fin 256), W (ix5 b p n 128 x) = (1 : EReal))
    (hb : ∀ (h : Fin 16) (d : Fin 3) (x r : Fin 256), T (ix4 h d x r) = B (ix2 (relRow d x r) h) * log2e + chunkMask d x r)
    (b : Fin 8) (s : Fin 8192) (j : Fin 1024) :
    arrOut X W T b s j
      = Ideal.div (∑ i, tileVal v b s ⟨j.val / 64, by omega⟩ ⟨j.val % 64, by omega⟩ i
            * Ideal.exp2 (tileScore q k B b s ⟨j.val / 64, by omega⟩ i - Finset.univ.sup (tileScore q k B b s ⟨j.val / 64, by omega⟩)))
          (∑ i, 1 * Ideal.exp2 (tileScore q k B b s ⟨j.val / 64, by omega⟩ i - Finset.univ.sup (tileScore q k B b s ⟨j.val / 64, by omega⟩))) := by
  have hS : ∀ d, arrScore X T b s ⟨j.val / 64, by omega⟩ d = fun x => tileScore q k B b s ⟨j.val / 64, by omega⟩ (d, x) := fun d => funext fun x => by
    unfold arrScore
    exact congrArg₂ (· + ·) (Finset.sum_congr rfl fun z _ => congrArg₂ (· * ·)
        (hk b ⟨256 * (s.val / 256 - d.val) + x.val, by omega⟩ ⟨j.val / 64, by omega⟩ z) (hq b s ⟨j.val / 64, by omega⟩ z))
      (congrArg (· + edge (s.val / 256) d.val) (hb ⟨j.val / 64, by omega⟩ d x ⟨s.val % 256, by omega⟩))
  have hV : ∀ d, arrVal W b s ⟨j.val / 128, by omega⟩ ⟨j.val % 128, by omega⟩ d
      = fun x => tileVal v b s ⟨j.val / 64, by omega⟩ ⟨j.val % 64, by omega⟩ (d, x) := fun d => funext fun x => by
    have e : (ix4 b ⟨2 * (j.val / 128) + j.val % 128 / 64, by omega⟩ ⟨256 * (s.val / 256 - d.val) + x.val, by omega⟩ ⟨j.val % 128 % 64, by omega⟩
        : Cert.KernelIdeal.S8x16x8192x64.Idx)
        = ix4 b ⟨j.val / 64, by omega⟩ ⟨256 * (s.val / 256 - d.val) + x.val, by omega⟩ ⟨j.val % 64, by omega⟩ :=
      (ix4_inj _ _ _ _ _ _ _ _).2 ⟨rfl, Fin.ext (by dsimp only; omega), rfl, Fin.ext (by dsimp only; omega)⟩
    exact (hv b ⟨j.val / 128, by omega⟩ ⟨s.val / 256 - d.val, by omega⟩ ⟨j.val % 128, by omega⟩ x).trans (congrArg v e)
  have hO : ∀ d, arrVal W b s ⟨j.val / 128, by omega⟩ 128 d = fun _ => 1 := fun d => funext fun x =>
    ho b ⟨j.val / 128, by omega⟩ ⟨s.val / 256 - d.val, by omega⟩ x
  unfold arrOut
  simp only [hS, hV, hO]
  exact congrArg₂ Ideal.div (sum3_eq (tileScore q k B b s ⟨j.val / 64, by omega⟩) _) (sum3_eq (tileScore q k B b s ⟨j.val / 64, by omega⟩) (fun _ => 1))

end

section
variable (m : (ℓ : Loc Cert.KernelIdeal.nD Cert.KernelIdeal.τ Cert.KernelIdeal.sig) → Buf (Elt Ideal) ℓ) (c : Dev Cert.KernelIdeal.nD)

/-- The kernel's result array is the reference's, on finite queries, keys and biases. -/
theorem arrAt_ref (hq : ∀ i, ∃ r : ℝ, argQ m c i = (r : EReal)) (hk : ∀ i, ∃ r : ℝ, argK m c i = (r : EReal))
    (hB : ∀ i, ∃ r : ℝ, argB m c i = (r : EReal)) :
    (Cert.KernelIdeal.Gen.dats m 0 c).arrAt 4 Cert.KernelIdeal.cfg0.N
      = Cert.ReferenceIdeal.Read.val_main_v89 (F := Ideal) (argQ m c) (argK m c) (argV m c) (argB m c) := by
  refine (arrAt_eq m c).trans (funext fun y => ?_)
  refine (arrOut_of _ _ _ (argQ m c) (argK m c) (argV m c) (argB m c) (host_q m c) (host_k m c) (host_v m c) (host_one m c) (host_bias m c) (y 0) (y 1) (y 2)).trans ?_
  refine (tile_attention (argQ m c) (argK m c) (argV m c) (argB m c) hq hk hB (y 0) (y 1) ⟨(y 2).val / 64, _⟩ ⟨(y 2).val % 64, _⟩).trans ?_
  refine (Cert.BandRef.res_at (argQ m c) (argK m c) (argV m c) (argB m c) (y 0) (y 1) (y 2)).symm.trans ?_
  exact congrArg (Cert.ReferenceIdeal.Read.val_main_v89 (F := Ideal) (argQ m c) (argK m c) (argV m c) (argB m c)) (funext fun a => by fin_cases a <;> rfl)

end

end Cert.BandEq

end
-- ==== Proof.FfnBlock.lean ====
/-
  One block of the output projection, norm and convolved gated MLP: the values the kernel's body stores for a tile of 512 rows.

  The body normalises its 512 rows and the 16 rows before them, projects all 528 up for one half of the hidden columns at a time, and
  convolves three successive rows of the projection. `blockVal` is what it stores, from the loaded blocks.
-/
module

public import proofs.«01_k».proof.Proof.Gen.Kernel2Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

section Structure

variable {F : FTy → Type} [FloatOps F]

/-- A load of part of what a store of the whole buffer left reads that part of the stored value. -/
theorem readCov_part {Val : EltTy → Type} [∀ e, Nonempty (Val e)] {S : Shape} {e : EltTy} {sg : RefSig} {κ : Kind} {sp : Space} (v : View sg κ sp S e)
    {off : Fin S.rank → Nat} (inb : ∀ a, off a + S.size a ≤ S.size a) (w : S.Idx → Val e) (L : List (View.Piece Val S e)) (r : Rect S)
    (h : ∀ a, off a = 0) :
    v.readCov ((⟨Rect.unit off S.size inb, w⟩ : View.Piece Val S e) :: L) r.toLoadRect = View.ld w r := by
  rw [View.readCov_eq_canon', View.canon_cons_unit_lit inb w L h]

/-- Convolved rows of one half of the hidden columns: `hd` holds the projection of the 16 rows before the tile and of the tile's own. -/
def convBlock (hd : Vec F S528x2816 .f32) (cb c2 c1 c0 : Vec F S1x2816 .f32) : FVec F S512x2816 .f32 :=
  k0_pay11 cb c2 (View.ld hd (Rect.unit ![16, 0] ![512, 2816] inb_S528x2816_S512x2816_16_0))
    c1 (View.ld hd (Rect.unit ![15, 0] ![512, 2816] inb_S528x2816_S512x2816_15_0))
    c0 (View.ld hd (Rect.unit ![14, 0] ![512, 2816] inb_S528x2816_S512x2816_14_0))

/-- The tile's rows of the residual stream after the output projection. -/
abbrev rowsOf (x0 : Vec F S512x1024 .f32) (x2 : Vec F S512x1024 .bf16) (x4 : Vec F S1024x1024 .bf16) : FVec F S512x1024 .f32 := k0_pay2 x0 x2 x4

/-- The normalised rows that are projected up: the 16 before the tile, then the tile's. -/
def normed (i : grid0.Coords) (x0 : Vec F S512x1024 .f32) (x1 : Vec F S16x1024 .f32) (x2 : Vec F S512x1024 .bf16) (x3 : Vec F S16x1024 .bf16)
    (x4 : Vec F S1024x1024 .bf16) (x5 : Vec F S1x1024 .f32) : FVec F S528x1024 .bf16 :=
  k0_pay7 (k0_pay2 x0 x2 x4) (k0_pay3 x5) (k0_pay4 i) (k0_pay5 x1 x3 x4) (k0_pay6 x1 x3 x4)

/-- The first half of the hidden columns, convolved. -/
def gateBlock (u : FVec F S528x1024 .bf16) (x6 : Vec F S1024x5632 .bf16) (x7 : Vec F S3x5632 .f32) (x8 : Vec F S1x5632 .f32) : FVec F S512x2816 .f32 :=
  convBlock (k0_pay10 u (View.ld x6 (Rect.unit ![0, 0] ![1024, 2816] inb_S1024x5632_S1024x2816_0_0)))
    (View.ld x8 (Rect.unit ![0, 0] ![1, 2816] inb_S1x5632_S1x2816_0_0)) (View.ld x7 (Rect.unit ![2, 0] ![1, 2816] inb_S3x5632_S1x2816_2_0))
    (View.ld x7 (Rect.unit ![1, 0] ![1, 2816] inb_S3x5632_S1x2816_1_0)) (View.ld x7 (Rect.unit ![0, 0] ![1, 2816] inb_S3x5632_S1x2816_0_0))

/-- The second half of the hidden columns, convolved. -/
def valBlock (u : FVec F S528x1024 .bf16) (x6 : Vec F S1024x5632 .bf16) (x7 : Vec F S3x5632 .f32) (x8 : Vec F S1x5632 .f32) : FVec F S512x2816 .f32 :=
  convBlock (k0_pay10 u (View.ld x6 (Rect.unit ![0, 2816] ![1024, 2816] inb_S1024x5632_S1024x2816_0_2816)))
    (View.ld x8 (Rect.unit ![0, 2816] ![1, 2816] inb_S1x5632_S1x2816_0_2816)) (View.ld x7 (Rect.unit ![2, 2816] ![1, 2816] inb_S3x5632_S1x2816_2_2816))
    (View.ld x7 (Rect.unit ![1, 2816] ![1, 2816] inb_S3x5632_S1x2816_1_2816)) (View.ld x7 (Rect.unit ![0, 2816] ![1, 2816] inb_S3x5632_S1x2816_0_2816))

/-- What the body stores, from the loaded blocks. -/
def blockVal (i : grid0.Coords) (x0 : Vec F S512x1024 .f32) (x1 : Vec F S16x1024 .f32) (x2 : Vec F S512x1024 .bf16) (x3 : Vec F S16x1024 .bf16)
    (x4 : Vec F S1024x1024 .bf16) (x5 : Vec F S1x1024 .f32) (x6 : Vec F S1024x5632 .bf16) (x7 : Vec F S3x5632 .f32) (x8 : Vec F S1x5632 .f32)
    (x9 : Vec F S2816x1024 .bf16) : FVec F S512x1024 .f32 :=
  k0_pay1 (k0_pay2 x0 x2 x4) (valBlock (normed i x0 x1 x2 x3 x4 x5) x6 x7 x8)
    (mulf (gateBlock (normed i x0 x1 x2 x3 x4 x5) x6 x7 x8) (logistic (gateBlock (normed i x0 x1 x2 x3 x4 x5) x6 x7 x8))) x9

theorem pay8_eq (x7 : FVec F S512x1024 .f32) (x9 : FVec F S1x1024 .f32) (x21 : F .f32) (x29 : FVec F S16x1024 .f32) (x32 : FVec F S16x1 .f32) (w : Vec F S1024x2816 .bf16) :
    k0_pay8 x7 x9 x21 x29 x32 w = k0_pay10 (k0_pay7 x7 x9 x21 x29 x32) w := rfl

theorem pay12_eq (cb c2 c1 c0 : Vec F S1x2816 .f32) (a b d : FVec F S512x2816 .f32) :
    k0_pay12 (k0_pay9 cb c2 a) c1 b c0 d = mulf (k0_pay11 cb c2 a c1 b c0 d) (logistic (k0_pay11 cb c2 a c1 b c0 d)) := rfl

variable (m : (ℓ : Loc nD τ sig) → Buf (Elt F) ℓ)

/-- The block a grid point leaves. -/
theorem out_open (c : Dev nD) (t : Fin cfg0.N) :
    outsAt0 m c t = blockVal (grid0.coords t) (iblk m c 0 t) (iblk m c 1 t) (iblk m c 2 t) (iblk m c 3 t) (iblk m c 4 t) (iblk m c 5 t)
      (iblk m c 6 t) (iblk m c 7 t) (iblk m c 8 t) (iblk m c 9 t) := by
  unfold outsAt0 out0_A_10
  rw [View.read_writes_junk_eq_canon]
  unfold kernelRun0_A
  dsimp only
  sl_unfold_words
  simp (disch := decide) only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread]
  refine (View.canon_cons_unit_lit _ _ _ (by decide)).trans ?_
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  have l0 : ∀ x : Vec F S512x1024 .f32, View.ld x (Rect.unit ![0, 0] ![512, 1024] inb_S512x1024_S512x1024_0_0) = x := fun x => View.ld_unit_lit (S := S512x1024) _ x (by decide)
  have l1 : ∀ x : Vec F S16x1024 .f32, View.ld x (Rect.unit ![0, 0] ![16, 1024] inb_S16x1024_S16x1024_0_0) = x := fun x => View.ld_unit_lit (S := S16x1024) _ x (by decide)
  have l2 : ∀ x : Vec F S512x1024 .bf16, View.ld x (Rect.unit ![0, 0] ![512, 1024] inb_S512x1024_S512x1024_0_0) = x := fun x => View.ld_unit_lit (S := S512x1024) _ x (by decide)
  have l3 : ∀ x : Vec F S16x1024 .bf16, View.ld x (Rect.unit ![0, 0] ![16, 1024] inb_S16x1024_S16x1024_0_0) = x := fun x => View.ld_unit_lit (S := S16x1024) _ x (by decide)
  have l4 : ∀ x : Vec F S1024x1024 .bf16, View.ld x (Rect.unit ![0, 0] ![1024, 1024] inb_S1024x1024_S1024x1024_0_0) = x := fun x => View.ld_unit_lit (S := S1024x1024) _ x (by decide)
  have l5 : ∀ x : Vec F S1x1024 .f32, View.ld x (Rect.unit ![0, 0] ![1, 1024] inb_S1x1024_S1x1024_0_0) = x := fun x => View.ld_unit_lit (S := S1x1024) _ x (by decide)
  have l9 : ∀ x : Vec F S2816x1024 .bf16, View.ld x (Rect.unit ![0, 0] ![2816, 1024] inb_S2816x1024_S2816x1024_0_0) = x := fun x => View.ld_unit_lit (S := S2816x1024) _ x (by decide)
  have hr : ∀ (P : Vec F S528x2816 .f32) (L : List (View.Piece (Elt F) S528x2816 .f32)) (r : Rect S528x2816),
      (View.whole cc0_scratch0).readCov ((⟨Rect.unit ![0, 0] ![528, 2816] inb_S528x2816_S528x2816_0_0, P⟩ : View.Piece (Elt F) S528x2816 .f32) :: L) r.toLoadRect
        = View.ld P r := fun P L r => readCov_part (S := S528x2816) _ _ P L r (by decide)
  rw [l0, l1, l2, l3, l4, l5, l9]
  simp only [hr, pay8_eq, pay12_eq]
  unfold blockVal normed gateBlock valBlock convBlock
  rfl

end Structure

variable (i : grid0.Coords)

theorem pay2_at (x0 : Vec Ideal S512x1024 .f32) (x2 : Vec Ideal S512x1024 .bf16) (x4 : Vec Ideal S1024x1024 .bf16) (r : Fin 512) (k : Fin 1024) :
    k0_pay2 x0 x2 x4 (ix2 r k) = x0 (ix2 r k) + ∑ z : Fin 1024, x2 (ix2 r z) * x4 (ix2 z k) := by
  pointwise [k0_pay2]

theorem pay5_at (x0 : Vec Ideal S16x1024 .f32) (x2 : Vec Ideal S16x1024 .bf16) (x4 : Vec Ideal S1024x1024 .bf16) (r : Fin 16) (k : Fin 1024) :
    k0_pay5 x0 x2 x4 (ix2 r k) = x0 (ix2 r k) + ∑ z : Fin 1024, x2 (ix2 r z) * x4 (ix2 z k) := by
  pointwise [k0_pay5]

theorem pay10_at (u : FVec Ideal S528x1024 .bf16) (w : Vec Ideal S1024x2816 .bf16) (e : Fin 528) (j : Fin 2816) :
    k0_pay10 u w (ix2 e j) = ∑ k : Fin 1024, u (ix2 e k) * w (ix2 k j) := by
  pointwise [k0_pay10]

theorem ldRows (hd : Vec Ideal S528x2816 .f32) (o : ℕ) (ho : o + 512 ≤ 528) (inb) (r : Fin 512) (j : Fin 2816) :
    View.ld (Val := Elt Ideal) (e' := .f32) hd (Rect.unit ![o, 0] ![512, 2816] inb) (ix2 r j) = hd (ix2 ⟨o + r.val, by omega⟩ j) := by
  refine View.ld_unit_apply_of _ _ _ _ _ _ fun a => ?_
  fin_cases a <;> simp [ix2]

theorem ldTap (x : Vec Ideal S3x5632 .f32) (d : Fin 3) (o : ℕ) (ho : o + 2816 ≤ 5632) (inb) (j : Fin 2816) :
    View.ld (Val := Elt Ideal) (e' := .f32) x (Rect.unit ![d.val, o] ![1, 2816] inb) (ix2 0 j) = x (ix2 d ⟨o + j.val, by omega⟩) := by
  refine View.ld_unit_apply_of _ _ _ _ _ _ fun a => ?_
  fin_cases a <;> simp [ix2]

theorem ldBias (x : Vec Ideal S1x5632 .f32) (o : ℕ) (ho : o + 2816 ≤ 5632) (inb) (j : Fin 2816) :
    View.ld (Val := Elt Ideal) (e' := .f32) x (Rect.unit ![0, o] ![1, 2816] inb) (ix2 0 j) = x (ix2 0 ⟨o + j.val, by omega⟩) := by
  refine View.ld_unit_apply_of _ _ _ _ _ _ fun a => ?_
  fin_cases a <;> simp [ix2]

theorem conv_at (hd : Vec Ideal S528x2816 .f32) (cb c2 c1 c0 : Vec Ideal S1x2816 .f32) (r : Fin 512) (j : Fin 2816) :
    convBlock hd cb c2 c1 c0 (ix2 r j)
      = cb (ix2 0 j) + hd (ix2 ⟨16 + r.val, by omega⟩ j) * c2 (ix2 0 j) + hd (ix2 ⟨15 + r.val, by omega⟩ j) * c1 (ix2 0 j)
        + hd (ix2 ⟨14 + r.val, by omega⟩ j) * c0 (ix2 0 j) := by
  have h : ∀ a b d : FVec Ideal S512x2816 .f32, k0_pay11 cb c2 a c1 b c0 d (ix2 r j)
      = cb (ix2 0 j) + a (ix2 r j) * c2 (ix2 0 j) + b (ix2 r j) * c1 (ix2 0 j) + d (ix2 r j) * c0 (ix2 0 j) := fun a b d => by
    pointwise [k0_pay11]
  unfold convBlock
  rw [h, ldRows hd 16 (by omega), ldRows hd 15 (by omega), ldRows hd 14 (by omega)]

theorem pay1_at (x : FVec Ideal S512x1024 .f32) (a b : FVec Ideal S512x2816 .f32) (w : Vec Ideal S2816x1024 .bf16) (r : Fin 512) (k : Fin 1024) :
    k0_pay1 x a b w (ix2 r k) = x (ix2 r k) + ∑ j : Fin 2816, (b (ix2 r j) * a (ix2 r j)) * w (ix2 j k) := by
  pointwise [k0_pay1]

/-- The root-mean-square norm of a row, at lane `k`. -/
def rms (x g : Fin 1024 → EReal) (k : Fin 1024) : EReal :=
  x k * Ideal.rsqrt (Ideal.div (∑ z : Fin 1024, x z * x z) (Ideal.ofBits FTy.f32 1149239296#32) + Ideal.ofBits FTy.f32 897988541#32) * g k

theorem pay7_tile (x : FVec Ideal S512x1024 .f32) (g : FVec Ideal S1x1024 .f32) (s : EReal) (h : FVec Ideal S16x1024 .f32) (q : FVec Ideal S16x1 .f32)
    (r : Fin 512) (k : Fin 1024) :
    k0_pay7 x g s h q (ix2 ⟨16 + r.val, by omega⟩ k) = rms (fun z => x (ix2 r z)) (fun z => g (ix2 0 z)) k := by
  pointwise [k0_pay7]
  rfl

theorem pay7_halo (x : FVec Ideal S512x1024 .f32) (g : FVec Ideal S1x1024 .f32) (s : EReal) (x1 : Vec Ideal S16x1024 .f32) (x3 : Vec Ideal S16x1024 .bf16)
    (x4 : Vec Ideal S1024x1024 .bf16) (e : Fin 16) (k : Fin 1024) :
    k0_pay7 x g s (k0_pay5 x1 x3 x4) (k0_pay6 x1 x3 x4) (ix2 ⟨e.val, by omega⟩ k)
      = rms (fun z => k0_pay5 x1 x3 x4 (ix2 e z)) (fun z => g (ix2 0 z)) k * s := by
  pointwise [k0_pay7, k0_pay6]
  rfl

/-- Whether the rows before the tile belong to the tile's own sequence: sixteen tiles make a sequence, and its first tile has none. -/
def keep (n : ℕ) : EReal := if n % 16 = 0 then 0 else 1

theorem one_word : Ideal.ofBits FTy.f32 1065353216#32 = 1 := by
  simp [Ideal.ofBits, Ideal.ieee]
  rw [← EReal.coe_mul]; norm_num

theorem keep_word : ∀ n : Fin 128,
    Scalar.cmpi .ne (Scalar.select (Scalar.andi (Scalar.xori (Scalar.cmpi .slt (Scalar.remsi (BitVec.ofNat 32 n.val) (Scalar.select (Scalar.cmpi .eq 16#32 0#32) 1#32 16#32)) 0#32)
        (Scalar.cmpi .slt (Scalar.select (Scalar.cmpi .eq 16#32 0#32) 1#32 16#32) 0#32))
        (Scalar.cmpi .ne (Scalar.remsi (BitVec.ofNat 32 n.val) (Scalar.select (Scalar.cmpi .eq 16#32 0#32) 1#32 16#32)) 0#32))
      (Scalar.addi (Scalar.remsi (BitVec.ofNat 32 n.val) (Scalar.select (Scalar.cmpi .eq 16#32 0#32) 1#32 16#32)) (Scalar.select (Scalar.cmpi .eq 16#32 0#32) 1#32 16#32))
      (Scalar.remsi (BitVec.ofNat 32 n.val) (Scalar.select (Scalar.cmpi .eq 16#32 0#32) 1#32 16#32))) 0#32 = if n.val % 16 = 0 then 0#1 else 1#1 := by
  decide +kernel

theorem pay4_at (i : grid0.Coords) : k0_pay4 (F := Ideal) i = keep (i 0).val := by
  refine (congrArg (fun b => Scalar.select b (Ideal.ofBits FTy.f32 1065353216#32) (Ideal.ofBits FTy.f32 0#32)) (keep_word (i 0))).trans ?_
  rw [one_word, Ideal.ofBits_zero_f32]
  unfold keep; split <;> rfl

section Values

variable (i : grid0.Coords) (x0 : Vec Ideal S512x1024 .f32) (x1 : Vec Ideal S16x1024 .f32) (x2 : Vec Ideal S512x1024 .bf16) (x3 : Vec Ideal S16x1024 .bf16)
  (x4 : Vec Ideal S1024x1024 .bf16) (x5 : Vec Ideal S1x1024 .f32) (x6 : Vec Ideal S1024x5632 .bf16) (x7 : Vec Ideal S3x5632 .f32) (x8 : Vec Ideal S1x5632 .f32)
  (x9 : Vec Ideal S2816x1024 .bf16)

/-- Row `r` of the tile's residual stream after the output projection. -/
def tileRow (r : Fin 512) (k : Fin 1024) : EReal := x0 (ix2 r k) + ∑ z : Fin 1024, x2 (ix2 r z) * x4 (ix2 z k)

/-- Row `e` of the sixteen before the tile, likewise. -/
def haloRow (e : Fin 16) (k : Fin 1024) : EReal := x1 (ix2 e k) + ∑ z : Fin 1024, x3 (ix2 e z) * x4 (ix2 z k)

/-- The projection up of the 528 rows, at hidden column `j`. -/
def blockUp (e : Fin 528) (j : Fin 5632) : EReal :=
  if h : e.val < 16 then ∑ k : Fin 1024, rms (haloRow x1 x3 x4 ⟨e.val, h⟩) (fun z => x5 (ix2 0 z)) k * keep (i 0).val * x6 (ix2 k j)
  else ∑ k : Fin 1024, rms (tileRow x0 x2 x4 ⟨e.val - 16, by omega⟩) (fun z => x5 (ix2 0 z)) k * x6 (ix2 k j)

/-- The convolution of three successive rows, at row `r` of the tile and hidden column `j`. -/
def blockConv (r : Fin 512) (j : Fin 5632) : EReal :=
  x8 (ix2 0 j) + blockUp i x0 x1 x2 x3 x4 x5 x6 ⟨16 + r.val, by omega⟩ j * x7 (ix2 2 j) + blockUp i x0 x1 x2 x3 x4 x5 x6 ⟨15 + r.val, by omega⟩ j * x7 (ix2 1 j)
    + blockUp i x0 x1 x2 x3 x4 x5 x6 ⟨14 + r.val, by omega⟩ j * x7 (ix2 0 j)

theorem normed_at (e : Fin 528) (k : Fin 1024) :
    normed i x0 x1 x2 x3 x4 x5 (ix2 e k)
      = if h : e.val < 16 then rms (haloRow x1 x3 x4 ⟨e.val, h⟩) (fun z => x5 (ix2 0 z)) k * keep (i 0).val
        else rms (tileRow x0 x2 x4 ⟨e.val - 16, by omega⟩) (fun z => x5 (ix2 0 z)) k := by
  have hg : k0_pay3 x5 = x5 := by funext y; idx_vars y; pointwise [k0_pay3]
  unfold normed
  rw [hg]
  split
  · rename_i h
    refine (pay7_halo _ _ _ x1 x3 x4 ⟨e.val, h⟩ k).trans ?_
    rw [pay4_at]
    have e : (fun z => k0_pay5 x1 x3 x4 (ix2 ⟨e.val, h⟩ z)) = haloRow x1 x3 x4 ⟨e.val, h⟩ := funext fun z => pay5_at x1 x3 x4 ⟨e.val, h⟩ z
    rw [e]
  · rename_i h
    have e1 : (ix2 e k : S528x1024.Idx) = ix2 ⟨16 + (e.val - 16), by omega⟩ k := (ix2_inj _ _ _ _).2 ⟨Fin.ext (by dsimp only; omega), rfl⟩
    rw [e1]
    refine (pay7_tile _ _ _ _ _ ⟨e.val - 16, by omega⟩ k).trans ?_
    have e : (fun z => k0_pay2 x0 x2 x4 (ix2 ⟨e.val - 16, by omega⟩ z)) = tileRow x0 x2 x4 ⟨e.val - 16, by omega⟩ := funext fun z => pay2_at x0 x2 x4 ⟨e.val - 16, by omega⟩ z
    rw [e]

theorem up_at (o : ℕ) (ho : o + 2816 ≤ 5632) (inb) (e : Fin 528) (j : Fin 2816) :
    k0_pay10 (normed i x0 x1 x2 x3 x4 x5) (View.ld x6 (Rect.unit ![0, o] ![1024, 2816] inb)) (ix2 e j)
      = blockUp i x0 x1 x2 x3 x4 x5 x6 e ⟨o + j.val, by omega⟩ := by
  rw [pay10_at]
  have hw : ∀ k : Fin 1024, View.ld x6 (Rect.unit ![0, o] ![1024, 2816] inb) (ix2 k j) = x6 (ix2 k ⟨o + j.val, by omega⟩) := fun k =>
    View.ld_unit_apply_of _ _ _ _ _ _ fun a => by fin_cases a <;> simp [ix2]
  simp only [hw, normed_at]
  unfold blockUp
  split <;> rfl

theorem gate_at (r : Fin 512) (j : Fin 2816) :
    gateBlock (normed i x0 x1 x2 x3 x4 x5) x6 x7 x8 (ix2 r j) = blockConv i x0 x1 x2 x3 x4 x5 x6 x7 x8 r ⟨j.val, by omega⟩ := by
  unfold gateBlock blockConv
  rw [conv_at, up_at _ _ _ _ _ _ _ _ 0 (by omega), up_at _ _ _ _ _ _ _ _ 0 (by omega), up_at _ _ _ _ _ _ _ _ 0 (by omega)]
  have ej : (⟨0 + j.val, by omega⟩ : Fin 5632) = ⟨j.val, by omega⟩ := Fin.ext (Nat.zero_add _)
  refine Eq.trans (congrArg₂ (· + ·) (congrArg₂ (· + ·) (congrArg₂ (· + ·) (ldBias x8 0 (by omega) _ j) (congrArg (_ * ·) (ldTap x7 2 0 (by omega) _ j)))
    (congrArg (_ * ·) (ldTap x7 1 0 (by omega) _ j))) (congrArg (_ * ·) (ldTap x7 0 0 (by omega) _ j))) ?_
  rw [ej]

theorem val_at (r : Fin 512) (j : Fin 2816) :
    valBlock (normed i x0 x1 x2 x3 x4 x5) x6 x7 x8 (ix2 r j) = blockConv i x0 x1 x2 x3 x4 x5 x6 x7 x8 r ⟨2816 + j.val, by omega⟩ := by
  unfold valBlock blockConv
  rw [conv_at, up_at _ _ _ _ _ _ _ _ 2816 (by omega), up_at _ _ _ _ _ _ _ _ 2816 (by omega), up_at _ _ _ _ _ _ _ _ 2816 (by omega)]
  exact congrArg₂ (· + ·) (congrArg₂ (· + ·) (congrArg₂ (· + ·) (ldBias x8 2816 (by omega) _ j) (congrArg (_ * ·) (ldTap x7 2 2816 (by omega) _ j)))
    (congrArg (_ * ·) (ldTap x7 1 2816 (by omega) _ j))) (congrArg (_ * ·) (ldTap x7 0 2816 (by omega) _ j))

/-- The block's value at row `r`, lane `k`. -/
def blockOut (r : Fin 512) (k : Fin 1024) : EReal :=
  tileRow x0 x2 x4 r k + ∑ j : Fin 2816,
    (blockConv i x0 x1 x2 x3 x4 x5 x6 x7 x8 r ⟨j.val, by omega⟩ * Ideal.logistic (blockConv i x0 x1 x2 x3 x4 x5 x6 x7 x8 r ⟨j.val, by omega⟩)
      * blockConv i x0 x1 x2 x3 x4 x5 x6 x7 x8 r ⟨2816 + j.val, by omega⟩) * x9 (ix2 j k)

theorem blockVal_at (r : Fin 512) (k : Fin 1024) :
    blockVal i x0 x1 x2 x3 x4 x5 x6 x7 x8 x9 (ix2 r k) = blockOut i x0 x1 x2 x3 x4 x5 x6 x7 x8 x9 r k := by
  unfold blockVal blockOut
  rw [pay1_at, pay2_at]
  unfold tileRow
  have e : ∀ j : Fin 2816, mulf (gateBlock (normed i x0 x1 x2 x3 x4 x5) x6 x7 x8) (logistic (gateBlock (normed i x0 x1 x2 x3 x4 x5) x6 x7 x8)) (ix2 r j)
      = gateBlock (normed i x0 x1 x2 x3 x4 x5) x6 x7 x8 (ix2 r j) * Ideal.logistic (gateBlock (normed i x0 x1 x2 x3 x4 x5) x6 x7 x8 (ix2 r j)) := fun j => rfl
  simp only [e, val_at, gate_at]

end Values

end Cert.Ffn
end
-- ==== Proof.FfnArray.lean ====
/-
  The result array of the output projection, norm and convolved gated MLP: every grid point's block is a block of one function of the arrays
  the call reads.
-/
module

public import proofs.«01_k».proof.Proof.FfnBlock
public import Idealize.ShloMosaic.Lib.Pipeline.Covers

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

theorem idx0 : ∀ t : Fin grid0.N, win0_0.index t = ![(grid0.coords t 0).val, 0] := by decide +kernel
theorem idx1 : ∀ t : Fin grid0.N, win0_1.index t = ![32 * (grid0.coords t 0).val - 1, 0] := by decide +kernel
theorem idx2 : ∀ t : Fin grid0.N, win0_2.index t = ![(grid0.coords t 0).val, 0] := by decide +kernel
theorem idx3 : ∀ t : Fin grid0.N, win0_3.index t = ![32 * (grid0.coords t 0).val - 1, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![(grid0.coords t 0).val, 0] := by decide +kernel

theorem ct (t : Fin grid0.N) : (grid0.coords t 0).val < 128 := (grid0.coords t 0).isLt

/-! ## The result array -/

section Array

variable (H Y : S65536x1024.Idx → EReal) (Wo : S1024x1024.Idx → EReal) (G : S1x1024.Idx → EReal) (Wu : S1024x5632.Idx → EReal)
  (Cw : S3x5632.Idx → EReal) (Cb : S1x5632.Idx → EReal) (Wd : S2816x1024.Idx → EReal)

/-- Row `t` of the residual stream after the output projection. -/
def arrRow (t : Fin 65536) (k : Fin 1024) : EReal := H (ix2 t k) + ∑ z : Fin 1024, Y (ix2 t z) * Wo (ix2 z k)

/-- Row `t`, normalised and projected up, at hidden column `j`. -/
def arrUp (t : Fin 65536) (j : Fin 5632) : EReal := ∑ k : Fin 1024, rms (arrRow H Y Wo t) (fun z => G (ix2 0 z)) k * Wu (ix2 k j)

/-- The projection of the row `d` before `t` in the sequence of `t`: zero where the sequence has no such row. -/
def arrBack (t : Fin 65536) (d : Fin 3) (j : Fin 5632) : EReal := if d.val ≤ t.val % 8192 then arrUp H Y Wo G Wu ⟨t.val - d.val, by omega⟩ j else 0

/-- The convolution over three rows of a sequence. -/
def arrConv (t : Fin 65536) (j : Fin 5632) : EReal :=
  Cb (ix2 0 j) + arrBack H Y Wo G Wu t 0 j * Cw (ix2 2 j) + arrBack H Y Wo G Wu t 1 j * Cw (ix2 1 j) + arrBack H Y Wo G Wu t 2 j * Cw (ix2 0 j)

/-- The result at row `t`, lane `k`. -/
def arrOut (t : Fin 65536) (k : Fin 1024) : EReal :=
  arrRow H Y Wo t k + ∑ j : Fin 2816,
    (arrConv H Y Wo G Wu Cw Cb t ⟨j.val, by omega⟩ * Ideal.logistic (arrConv H Y Wo G Wu Cw Cb t ⟨j.val, by omega⟩)
      * arrConv H Y Wo G Wu Cw Cb t ⟨2816 + j.val, by omega⟩) * Wd (ix2 j k)

theorem read0_eq (t : Fin cfg0.N) (r : Fin 512) (k : Fin 1024) :
    ((cfg0.win 0).blk t).view.read (Elt Ideal) H (ix2 r k) = H (ix2 ⟨512 * (grid0.coords t 0).val + r.val, by have := ct t; omega⟩ k) := by
  have h0 := ct t
  blk_ext [idx0 t]

theorem read2_eq (t : Fin cfg0.N) (r : Fin 512) (k : Fin 1024) :
    ((cfg0.win 2).blk t).view.read (Elt Ideal) Y (ix2 r k) = Y (ix2 ⟨512 * (grid0.coords t 0).val + r.val, by have := ct t; omega⟩ k) := by
  have h0 := ct t
  blk_ext [idx2 t]

theorem read1_eq (t : Fin cfg0.N) (r : Fin 16) (k : Fin 1024) :
    ((cfg0.win 1).blk t).view.read (Elt Ideal) H (ix2 r k) = H (ix2 ⟨16 * (32 * (grid0.coords t 0).val - 1) + r.val, by have := ct t; omega⟩ k) := by
  have h0 := ct t
  blk_ext [idx1 t]

theorem read3_eq (t : Fin cfg0.N) (r : Fin 16) (k : Fin 1024) :
    ((cfg0.win 3).blk t).view.read (Elt Ideal) Y (ix2 r k) = Y (ix2 ⟨16 * (32 * (grid0.coords t 0).val - 1) + r.val, by have := ct t; omega⟩ k) := by
  have h0 := ct t
  blk_ext [idx3 t]

theorem read4_eq (t : Fin cfg0.N) (a : Fin 1024) (k : Fin 1024) : ((cfg0.win 4).blk t).view.read (Elt Ideal) Wo (ix2 a k) = Wo (ix2 a k) := by
  blk_ext [idx4 t]
theorem read5_eq (t : Fin cfg0.N) (k : Fin 1024) : ((cfg0.win 5).blk t).view.read (Elt Ideal) G (ix2 0 k) = G (ix2 0 k) := by
  blk_ext [idx5 t]
theorem read6_eq (t : Fin cfg0.N) (a : Fin 1024) (j : Fin 5632) : ((cfg0.win 6).blk t).view.read (Elt Ideal) Wu (ix2 a j) = Wu (ix2 a j) := by
  blk_ext [idx6 t]
theorem read7_eq (t : Fin cfg0.N) (a : Fin 3) (j : Fin 5632) : ((cfg0.win 7).blk t).view.read (Elt Ideal) Cw (ix2 a j) = Cw (ix2 a j) := by
  blk_ext [idx7 t]
theorem read8_eq (t : Fin cfg0.N) (j : Fin 5632) : ((cfg0.win 8).blk t).view.read (Elt Ideal) Cb (ix2 0 j) = Cb (ix2 0 j) := by
  blk_ext [idx8 t]
theorem read9_eq (t : Fin cfg0.N) (a : Fin 2816) (k : Fin 1024) : ((cfg0.win 9).blk t).view.read (Elt Ideal) Wd (ix2 a k) = Wd (ix2 a k) := by
  blk_ext [idx9 t]

end Array

section Match

variable (H Y : S65536x1024.Idx → EReal) (Wo : S1024x1024.Idx → EReal) (G : S1x1024.Idx → EReal) (Wu : S1024x5632.Idx → EReal)
  (Cw : S3x5632.Idx → EReal) (Cb : S1x5632.Idx → EReal) (Wd : S2816x1024.Idx → EReal)
variable (i : grid0.Coords) (x0 : Vec Ideal S512x1024 .f32) (x1 : Vec Ideal S16x1024 .f32) (x2 : Vec Ideal S512x1024 .bf16) (x3 : Vec Ideal S16x1024 .bf16)
  (x4 : Vec Ideal S1024x1024 .bf16) (x5 : Vec Ideal S1x1024 .f32) (x6 : Vec Ideal S1024x5632 .bf16) (x7 : Vec Ideal S3x5632 .f32) (x8 : Vec Ideal S1x5632 .f32)
  (x9 : Vec Ideal S2816x1024 .bf16)
variable (hi : (i 0).val < 128)
variable (e0 : ∀ (r : Fin 512) (k : Fin 1024), x0 (ix2 r k) = H (ix2 ⟨512 * (i 0).val + r.val, by omega⟩ k))
  (e1 : ∀ (r : Fin 16) (k : Fin 1024), x1 (ix2 r k) = H (ix2 ⟨16 * (32 * (i 0).val - 1) + r.val, by omega⟩ k))
  (e2 : ∀ (r : Fin 512) (k : Fin 1024), x2 (ix2 r k) = Y (ix2 ⟨512 * (i 0).val + r.val, by omega⟩ k))
  (e3 : ∀ (r : Fin 16) (k : Fin 1024), x3 (ix2 r k) = Y (ix2 ⟨16 * (32 * (i 0).val - 1) + r.val, by omega⟩ k))
  (e4 : ∀ (a k : Fin 1024), x4 (ix2 a k) = Wo (ix2 a k)) (e5 : ∀ k : Fin 1024, x5 (ix2 0 k) = G (ix2 0 k))
  (e6 : ∀ (a : Fin 1024) (j : Fin 5632), x6 (ix2 a j) = Wu (ix2 a j)) (e7 : ∀ (a : Fin 3) (j : Fin 5632), x7 (ix2 a j) = Cw (ix2 a j))
  (e8 : ∀ j : Fin 5632, x8 (ix2 0 j) = Cb (ix2 0 j)) (e9 : ∀ (a : Fin 2816) (k : Fin 1024), x9 (ix2 a k) = Wd (ix2 a k))

include e0 e2 e4 in
theorem tileRow_eq (r : Fin 512) : tileRow x0 x2 x4 r = arrRow H Y Wo ⟨512 * (i 0).val + r.val, by omega⟩ := by
  funext k
  simp only [tileRow, arrRow, e0, e2, e4]

include e1 e3 e4 in
theorem haloRow_eq (e : Fin 16) : haloRow x1 x3 x4 e = arrRow H Y Wo ⟨16 * (32 * (i 0).val - 1) + e.val, by omega⟩ := by
  funext k
  simp only [haloRow, arrRow, e1, e3, e4]

include e0 e1 e2 e3 e4 e5 e6 in
theorem blockUp_eq (r : Fin 512) (d : Fin 3) (j : Fin 5632) (e : Fin 528) (he : e.val + d.val = 16 + r.val) :
    blockUp i x0 x1 x2 x3 x4 x5 x6 e j = arrBack H Y Wo G Wu ⟨512 * (i 0).val + r.val, by omega⟩ d j := by
  unfold blockUp arrBack
  have hg : (fun z => x5 (ix2 0 z)) = fun z : Fin 1024 => G (ix2 0 z) := funext e5
  split
  · rename_i h
    rw [haloRow_eq H Y Wo i x1 x3 x4 hi e1 e3 e4, hg]
    simp only [e6]
    by_cases hk : (i 0).val % 16 = 0
    · have hz : keep (i 0).val = 0 := if_pos hk
      rw [hz, if_neg (by omega)]
      exact Finset.sum_eq_zero fun k _ => by rw [mul_zero, zero_mul]
    · have hz : keep (i 0).val = 1 := if_neg hk
      rw [hz, if_pos (by omega)]
      have er : (⟨16 * (32 * (i 0).val - 1) + e.val, by omega⟩ : Fin 65536) = ⟨512 * (i 0).val + r.val - d.val, by omega⟩ := Fin.ext (by dsimp only; omega)
      rw [er]
      exact Finset.sum_congr rfl fun k _ => by rw [mul_one]
  · rename_i h
    rw [tileRow_eq H Y Wo i x0 x2 x4 hi e0 e2 e4, hg, if_pos (by dsimp only; omega)]
    simp only [e6]
    have er : (⟨512 * (i 0).val + (e.val - 16), by omega⟩ : Fin 65536) = ⟨512 * (i 0).val + r.val - d.val, by omega⟩ := Fin.ext (by dsimp only; omega)
    rw [er]
    rfl

include e0 e1 e2 e3 e4 e5 e6 e7 e8 in
theorem blockConv_eq (r : Fin 512) (j : Fin 5632) :
    blockConv i x0 x1 x2 x3 x4 x5 x6 x7 x8 r j = arrConv H Y Wo G Wu Cw Cb ⟨512 * (i 0).val + r.val, by omega⟩ j := by
  unfold blockConv arrConv
  rw [e8, e7, e7, e7, blockUp_eq H Y Wo G Wu i x0 x1 x2 x3 x4 x5 x6 hi e0 e1 e2 e3 e4 e5 e6 r 0 j _ (by dsimp only [Fin.val_zero]; omega),
    blockUp_eq H Y Wo G Wu i x0 x1 x2 x3 x4 x5 x6 hi e0 e1 e2 e3 e4 e5 e6 r 1 j _ (by show 15 + r.val + 1 = _; omega),
    blockUp_eq H Y Wo G Wu i x0 x1 x2 x3 x4 x5 x6 hi e0 e1 e2 e3 e4 e5 e6 r 2 j _ (by show 14 + r.val + 2 = _; omega)]

include e0 e1 e2 e3 e4 e5 e6 e7 e8 e9 in
theorem blockOut_eq (r : Fin 512) (k : Fin 1024) :
    blockOut i x0 x1 x2 x3 x4 x5 x6 x7 x8 x9 r k = arrOut H Y Wo G Wu Cw Cb Wd ⟨512 * (i 0).val + r.val, by omega⟩ k := by
  unfold blockOut arrOut
  rw [tileRow_eq H Y Wo i x0 x2 x4 hi e0 e2 e4]
  simp only [e9, blockConv_eq H Y Wo G Wu Cw Cb i x0 x1 x2 x3 x4 x5 x6 x7 x8 hi e0 e1 e2 e3 e4 e5 e6 e7 e8]

end Match

/-- The same, with the rows' places in the whole arrays named. -/
theorem blockOut_of (H Y : S65536x1024.Idx → EReal) (Wo : S1024x1024.Idx → EReal) (G : S1x1024.Idx → EReal) (Wu : S1024x5632.Idx → EReal)
    (Cw : S3x5632.Idx → EReal) (Cb : S1x5632.Idx → EReal) (Wd : S2816x1024.Idx → EReal)
    (i : grid0.Coords) (x0 : Vec Ideal S512x1024 .f32) (x1 : Vec Ideal S16x1024 .f32) (x2 : Vec Ideal S512x1024 .bf16) (x3 : Vec Ideal S16x1024 .bf16)
    (x4 : Vec Ideal S1024x1024 .bf16) (x5 : Vec Ideal S1x1024 .f32) (x6 : Vec Ideal S1024x5632 .bf16) (x7 : Vec Ideal S3x5632 .f32) (x8 : Vec Ideal S1x5632 .f32)
    (x9 : Vec Ideal S2816x1024 .bf16) (hi : (i 0).val < 128) (o : Fin 512 → Fin 65536) (p : Fin 16 → Fin 65536)
    (ho : ∀ r, (o r).val = 512 * (i 0).val + r.val) (hp : ∀ r, (p r).val = 16 * (32 * (i 0).val - 1) + r.val)
    (e0 : ∀ (r : Fin 512) (k : Fin 1024), x0 (ix2 r k) = H (ix2 (o r) k)) (e1 : ∀ (r : Fin 16) (k : Fin 1024), x1 (ix2 r k) = H (ix2 (p r) k))
    (e2 : ∀ (r : Fin 512) (k : Fin 1024), x2 (ix2 r k) = Y (ix2 (o r) k)) (e3 : ∀ (r : Fin 16) (k : Fin 1024), x3 (ix2 r k) = Y (ix2 (p r) k))
    (e4 : ∀ (a k : Fin 1024), x4 (ix2 a k) = Wo (ix2 a k)) (e5 : ∀ k : Fin 1024, x5 (ix2 0 k) = G (ix2 0 k))
    (e6 : ∀ (a : Fin 1024) (j : Fin 5632), x6 (ix2 a j) = Wu (ix2 a j)) (e7 : ∀ (a : Fin 3) (j : Fin 5632), x7 (ix2 a j) = Cw (ix2 a j))
    (e8 : ∀ j : Fin 5632, x8 (ix2 0 j) = Cb (ix2 0 j)) (e9 : ∀ (a : Fin 2816) (k : Fin 1024), x9 (ix2 a k) = Wd (ix2 a k)) (r : Fin 512) (k : Fin 1024) :
    blockOut i x0 x1 x2 x3 x4 x5 x6 x7 x8 x9 r k = arrOut H Y Wo G Wu Cw Cb Wd (o r) k := by
  obtain rfl : o = fun r => ⟨512 * (i 0).val + r.val, by omega⟩ := funext fun r => Fin.ext (ho r)
  obtain rfl : p = fun r => ⟨16 * (32 * (i 0).val - 1) + r.val, by omega⟩ := funext fun r => Fin.ext (hp r)
  exact blockOut_eq H Y Wo G Wu Cw Cb Wd i x0 x1 x2 x3 x4 x5 x6 x7 x8 x9 hi e0 e1 e2 e3 e4 e5 e6 e7 e8 e9 r k

variable (m : (ℓ : Loc nD τ sig) → Buf (Elt Ideal) ℓ)

theorem outs_apply (c : Dev nD) (t : Fin cfg0.N) (r : Fin 512) (k : Fin 1024) :
    outsAt0 m c t (ix2 r k) = arrOut (V m c main_v0) (V m c main_v2) (V m c main_v3) (V m c main_v6) (V m c main_v4) (V m c main_arg5) (V m c main_v7)
      (V m c main_v5) ⟨512 * (grid0.coords t 0).val + r.val, by have := ct t; omega⟩ k := by
  rw [out_open]
  refine (blockVal_at _ _ _ _ _ _ _ _ _ _ _ r k).trans ?_
  exact blockOut_eq _ _ _ _ _ _ _ _ (grid0.coords t) _ _ _ _ _ _ _ _ _ _ (ct t) (read0_eq (V m c main_v0) t) (read1_eq (V m c main_v0) t)
    (read2_eq (V m c main_v2) t) (read3_eq (V m c main_v2) t) (read4_eq (V m c main_v3) t) (read5_eq (V m c main_v6) t) (read6_eq (V m c main_v4) t)
    (read7_eq (V m c main_arg5) t) (read8_eq (V m c main_v7) t) (read9_eq (V m c main_v5) t) r k

/-- The whole result array after the run. -/
theorem arrAt_eq (c : Dev nD) :
    (dats m 0 c).arrAt 10 cfg0.N
      = fun y : S65536x1024.Idx => arrOut (V m c main_v0) (V m c main_v2) (V m c main_v3) (V m c main_v6) (V m c main_v4) (V m c main_arg5) (V m c main_v7)
          (V m c main_v5) (y 0) (y 1) := by
  refine (dats m 0 c).arrAt_eq_of_covers 10 _ ((cfg0.win 10).covers_of_indexMap_surj rfl (by decide)
    fun β => ⟨(fun a => match a with | 0 => (⟨(β 0).val, (β 0).isLt⟩ : Fin 128)), fun a => ?_⟩) fun t hf y => ?_
  · match a with
    | 0 => exact (BitVec.toNat_ofNat _ _).trans (Nat.mod_eq_of_lt (lt_of_lt_of_le (show (β 0).val < 128 from (β 0).isLt) (by decide)))
    | 1 =>
      have h : (β 1).val < 1 := (β 1).isLt
      show 0 = (β 1).val
      omega
  · blk_simp
    rw [after0_10]
    have h0 : (y 0).val < 512 := (y 0).isLt
    have h1 : (y 1).val < 1024 := (y 1).isLt
    have hy : y = (ix2 ⟨(y 0).val, h0⟩ ⟨(y 1).val, h1⟩ : S512x1024.Idx) := by
      funext a
      fin_cases a <;> rfl
    refine (congrArg (outsAt0 m c t) hy).trans ((outs_apply m c t _ _).trans ?_)
    have e0 : (win0_10.blk t).view.emb y 0 = ⟨512 * (grid0.coords t 0).val + (y 0).val, by have := ct t; exact (show 512 * (grid0.coords t 0).val + (y 0).val < 65536 by omega)⟩ :=
      Fin.ext (by blk_simp [idx10 t]; exact congrArg (· + (y 0).val) (Nat.mul_comm _ _))
    have e1 : (win0_10.blk t).view.emb y 1 = ⟨(y 1).val, h1⟩ := Fin.ext (by blk_simp [idx10 t])
    rw [e0, e1]
    rfl

end Cert.Ffn
end
-- ==== Proof.FfnHost.lean ====
/-
  The arrays that the output projection, norm and convolved gated MLP call reads, at an index, in terms of the arguments.
-/
module

public import proofs.«01_k».proof.Proof.FfnArray
public import Idealize.ShloMosaic.Lib.StableHlo.RunRead

@[expose] public section

set_option maxRecDepth 16384

noncomputable section

namespace Cert.Ffn

open Cert.Kernel2Ideal Cert.Kernel2Ideal.Gen Idealize.ShloMosaic Idealize.ShloMosaic.TcCoe Idealize.SL.Sem
open StableHlo

variable (m : (ℓ : Loc nD τ sig) → Buf (Elt Ideal) ℓ) (c : Dev nD)

/-- The residual stream. -/
abbrev argH : S8x8192x1024.Idx → EReal := m (c.tc.loc main_arg0)
/-- The attention's output. -/
abbrev argY : S8x8192x1024.Idx → EReal := m (c.tc.loc main_arg1)
/-- The output projection's weight. -/
abbrev argWo : S1024x1024.Idx → EReal := m (c.tc.loc main_arg2)
/-- The norm's gain. -/
abbrev argG : S1024.Idx → EReal := m (c.tc.loc main_arg3)
/-- The weight of the projection up. -/
abbrev argWu : S1024x5632.Idx → EReal := m (c.tc.loc main_arg4)
/-- The convolution's taps. -/
abbrev argCw : S3x5632.Idx → EReal := m (c.tc.loc main_arg5)
/-- The convolution's bias. -/
abbrev argCb : S5632.Idx → EReal := m (c.tc.loc main_arg6)
/-- The weight of the projection down. -/
abbrev argWd : S2816x1024.Idx → EReal := m (c.tc.loc main_arg7)

theorem host_h (t : Fin 65536) (k : Fin 1024) : V m c main_v0 (ix2 t k) = argH m c (ix3 ⟨t.val / 8192, by omega⟩ ⟨t.val % 8192, by omega⟩ k) := by
  unfold V
  after_reads_simp
  pointwise

theorem host_y (t : Fin 65536) (k : Fin 1024) : V m c main_v2 (ix2 t k) = argY m c (ix3 ⟨t.val / 8192, by omega⟩ ⟨t.val % 8192, by omega⟩ k) := by
  unfold V
  after_reads_simp
  pointwise

theorem host_wo (a k : Fin 1024) : V m c main_v3 (ix2 a k) = argWo m c (ix2 a k) := by
  unfold V
  after_reads_simp
  pointwise

theorem host_g (k : Fin 1024) : V m c main_v6 (ix2 0 k) = argG m c (ix1 k) := by
  unfold V
  after_reads_simp
  pointwise

theorem host_wu (a : Fin 1024) (j : Fin 5632) : V m c main_v4 (ix2 a j) = argWu m c (ix2 a j) := by
  unfold V
  after_reads_simp
  pointwise

theorem host_cb (j : Fin 5632) : V m c main_v7 (ix2 0 j) = argCb m c (ix1 j) := by
  unfold V
  after_reads_simp
  pointwise

theorem host_wd (a : Fin 2816) (k : Fin 1024) : V m c main_v5 (ix2 a k) = argWd m c (ix2 a k) := by
  unfold V
  after_reads_simp
  pointwise

theorem host_cw : V m c main_arg5 = argCw m c := V_main_arg5 m c

end Cert.Ffn

end
-- ==== Proof.FfnRef.lean ====
/-
  The reference of the output projection, norm and convolved gated MLP, at an index.
-/
module

public import proofs.«01_k».proof.Proof.Gen.Reference2Ideal.Read
public import proofs.«01_k».proof.Proof.FfnBlock
public import Idealize.ShloMosaic.Lib.Pointwise

@[expose] public section

set_option maxRecDepth 16384

noncomputable section

namespace Cert.FfnRef

open Cert.Reference2Ideal Cert.Reference2Ideal.Gen Cert.Reference2Ideal.Read Idealize.ShloMosaic Idealize.ShloMosaic.TcCoe Idealize.SL.Sem

section
variable (x0 x1 : S8x8192x1024.Idx → EReal) (x2 : S1024x1024.Idx → EReal) (x3 : S1024.Idx → EReal) (x4 : S1024x5632.Idx → EReal)
  (x5 : S3x5632.Idx → EReal) (x6 : S5632.Idx → EReal) (x7 : S2816x1024.Idx → EReal)

/-- The residual stream after the output projection. -/
def refRow (b : Fin 8) (s : Fin 8192) (k : Fin 1024) : EReal := x0 (ix3 b s k) + ∑ z : Fin 1024, x1 (ix3 b s z) * x2 (ix2 z k)

/-- A position, normalised and projected up, at hidden column `j`. -/
def refUp (b : Fin 8) (s : Fin 8192) (j : Fin 5632) : EReal :=
  ∑ k : Fin 1024, Cert.Ffn.rms (refRow x0 x1 x2 b s) (fun z => x3 (ix1 z)) k * x4 (ix2 k j)

/-- The projection of the position `d` before `s`: zero in front of the sequence. -/
def refBack (b : Fin 8) (s : Fin 8192) (d : Fin 3) (j : Fin 5632) : EReal :=
  if d.val ≤ s.val then refUp x0 x1 x2 x3 x4 b ⟨s.val - d.val, by omega⟩ j else 0

/-- The convolution over three positions. -/
def refConv (b : Fin 8) (s : Fin 8192) (j : Fin 5632) : EReal :=
  x6 (ix1 j) + refBack x0 x1 x2 x3 x4 b s 2 j * x5 (ix2 0 j) + refBack x0 x1 x2 x3 x4 b s 1 j * x5 (ix2 1 j) + refBack x0 x1 x2 x3 x4 b s 0 j * x5 (ix2 2 j)

theorem row_at (b : Fin 8) (s : Fin 8192) (k : Fin 1024) : val_main_v1 (F := Ideal) x0 x1 x2 (ix3 b s k) = refRow x0 x1 x2 b s k := by
  unfold refRow
  pointwise [val_main_v1, val_main_v0]

theorem norm_at (b : Fin 8) (s : Fin 8192) (k : Fin 1024) :
    val_main_v14 (F := Ideal) x0 x1 x2 x3 (ix3 b s k) = Cert.Ffn.rms (refRow x0 x1 x2 b s) (fun z => x3 (ix1 z)) k := by
  unfold Cert.Ffn.rms
  pointwise [val_main_v14, val_main_v13, val_main_v12, val_main_v11, val_main_v10, val_main_v9, val_main_v8, val_main_v7, val_main_v6, val_main_v5,
    val_main_v4, val_main_v3, val_main_v2, val_main_cst, val_main_cst_0, val_main_cst_1, row_at]

theorem up_at (b : Fin 8) (s : Fin 8192) (j : Fin 5632) : val_main_v15 (F := Ideal) x0 x1 x2 x3 x4 (ix3 b s j) = refUp x0 x1 x2 x3 x4 b s j := by
  unfold refUp
  pointwise [val_main_v15, norm_at]

theorem pad_at (x : S8x8192x5632.Idx → EReal) (b : Fin 8) (s : Fin 8194) (j : Fin 5632) :
    pad S8x8194x5632 ![0, 2, 0] ![0, 0, 0] ![0, 0, 0] x (val_main_call0_v0 (F := Ideal)) pads_S8x8192x5632_S8x8194x5632_000_200_000 h_S_ (ix3 b s j)
      = if h : 2 ≤ s.val then x (ix3 b ⟨s.val - 2, by omega⟩ j) else 0 := by
  have hs := s.isLt
  pointwise [val_main_call0_v0, val_main_c]
  by_cases e : 2 ≤ s.val
  · rw [dif_pos ⟨e, by omega⟩, dif_pos e]
  · rw [dif_neg (fun h => e h.1), dif_neg e]
    show (((0#32 : BitVec 32).toInt : ℝ) : EReal) = 0
    simp

theorem back_at (b : Fin 8) (s : Fin 8192) (d : Fin 3) (j : Fin 5632) :
    val_main_v16 (F := Ideal) x0 x1 x2 x3 x4 (ix3 b ⟨s.val + (2 - d.val), by omega⟩ j) = refBack x0 x1 x2 x3 x4 b s d j := by
  refine (pad_at _ b _ j).trans ?_
  unfold refBack
  by_cases e : d.val ≤ s.val
  · rw [dif_pos (by dsimp only; omega), if_pos e, up_at]
    exact congrArg (fun u => refUp x0 x1 x2 x3 x4 b u j) (Fin.ext (by dsimp only; omega))
  · rw [dif_neg (by dsimp only; omega), if_neg e]

theorem conv_at (b : Fin 8) (s : Fin 8192) (j : Fin 5632) :
    val_main_v39 (F := Ideal) x0 x1 x2 x3 x4 x5 x6 (ix3 b s j) = refConv x0 x1 x2 x3 x4 x5 x6 b s j := by
  unfold refConv
  rw [← back_at x0 x1 x2 x3 x4 b s 2 j, ← back_at x0 x1 x2 x3 x4 b s 1 j, ← back_at x0 x1 x2 x3 x4 b s 0 j]
  pointwise [val_main_v39, val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20, val_main_v19,
    val_main_v18, val_main_v17]
  exact congrArg₂ (fun u w => x6 (ix1 j) + val_main_v16 (F := Ideal) x0 x1 x2 x3 x4 (ix3 b ⟨s.val, by omega⟩ j) * x5 (ix2 0 j)
    + val_main_v16 (F := Ideal) x0 x1 x2 x3 x4 (ix3 b u j) * x5 (ix2 1 j) + val_main_v16 (F := Ideal) x0 x1 x2 x3 x4 (ix3 b w j) * x5 (ix2 2 j))
    (Fin.ext (Nat.add_comm 1 s.val)) (Fin.ext (Nat.add_comm 2 s.val))

theorem act_at (b : Fin 8) (s : Fin 8192) (j : Fin 2816) :
    val_main_v43 (F := Ideal) x0 x1 x2 x3 x4 x5 x6 (ix3 b s j)
      = refConv x0 x1 x2 x3 x4 x5 x6 b s ⟨j.val, by omega⟩ * Ideal.logistic (refConv x0 x1 x2 x3 x4 x5 x6 b s ⟨j.val, by omega⟩)
        * refConv x0 x1 x2 x3 x4 x5 x6 b s ⟨2816 + j.val, by omega⟩ := by
  pointwise [val_main_v43, val_main_v42, val_main_v41, val_main_v40, val_main_call1_v5, val_main_call1_v4, val_main_call1_v3, val_main_call1_v2, val_main_call1_v1,
    val_main_call1_v0, val_main_call1_cst, val_main_call1_cst_0, conv_at]
  rfl

theorem res_at (b : Fin 8) (s : Fin 8192) (k : Fin 1024) :
    val_main_v45 (F := Ideal) x0 x1 x2 x3 x4 x5 x6 x7 (ix3 b s k)
      = refRow x0 x1 x2 b s k + ∑ j : Fin 2816,
        (refConv x0 x1 x2 x3 x4 x5 x6 b s ⟨j.val, by omega⟩ * Ideal.logistic (refConv x0 x1 x2 x3 x4 x5 x6 b s ⟨j.val, by omega⟩)
          * refConv x0 x1 x2 x3 x4 x5 x6 b s ⟨2816 + j.val, by omega⟩) * x7 (ix2 j k) := by
  pointwise [val_main_v45, val_main_v44, act_at, row_at]

theorem out_at (t : Fin 65536) (k : Fin 1024) :
    val_main_v46 (F := Ideal) x0 x1 x2 x3 x4 x5 x6 x7 (ix2 t k)
      = val_main_v45 (F := Ideal) x0 x1 x2 x3 x4 x5 x6 x7 (ix3 ⟨t.val / 8192, by omega⟩ ⟨t.val % 8192, by omega⟩ k) := by
  rw [val_main_v46_apply]
  generalize val_main_v45 (F := Ideal) x0 x1 x2 x3 x4 x5 x6 x7 = y
  refine congrArg y (funext fun a => Fin.ext ?_)
  have h0 := t.isLt
  have h1 := k.isLt
  fin_cases a
  · show (t.val * 1024 + k.val) / 8388608 = t.val / 8192
    omega
  · show (t.val * 1024 + k.val) / 1024 % 8192 = t.val % 8192
    omega
  · show (t.val * 1024 + k.val) % 1024 = k.val
    omega

end

end Cert.FfnRef

end
-- ==== Proof.FfnEq.lean ====
/-
  The kernel's array of the output projection, norm and convolved gated MLP is the reference's.
-/
module

public import proofs.«01_k».proof.Proof.FfnHost
public import proofs.«01_k».proof.Proof.FfnRef

@[expose] public section

set_option maxRecDepth 16384

noncomputable section

namespace Cert.Ffn

open Cert.Kernel2Ideal Cert.Kernel2Ideal.Gen Cert.FfnRef Idealize.ShloMosaic Idealize.ShloMosaic.TcCoe Idealize.SL.Sem

section
variable {H Y : S65536x1024.Idx → EReal} {Wo : S1024x1024.Idx → EReal} {G : S1x1024.Idx → EReal} {Wu : S1024x5632.Idx → EReal}
  {Cw : S3x5632.Idx → EReal} {Cb : S1x5632.Idx → EReal} {Wd : S2816x1024.Idx → EReal}
  {x0 x1 : S8x8192x1024.Idx → EReal} {x2 : S1024x1024.Idx → EReal} {x3 : S1024.Idx → EReal} {x4 : S1024x5632.Idx → EReal}
  {x5 : S3x5632.Idx → EReal} {x6 : S5632.Idx → EReal} {x7 : S2816x1024.Idx → EReal}
  (hH : ∀ (t : Fin 65536) (k : Fin 1024), H (ix2 t k) = x0 (ix3 ⟨t.val / 8192, by omega⟩ ⟨t.val % 8192, by omega⟩ k))
  (hY : ∀ (t : Fin 65536) (k : Fin 1024), Y (ix2 t k) = x1 (ix3 ⟨t.val / 8192, by omega⟩ ⟨t.val % 8192, by omega⟩ k))
  (hWo : ∀ a k : Fin 1024, Wo (ix2 a k) = x2 (ix2 a k))
  (hG : ∀ k : Fin 1024, G (ix2 0 k) = x3 (ix1 k))
  (hWu : ∀ (a : Fin 1024) (j : Fin 5632), Wu (ix2 a j) = x4 (ix2 a j))
  (hCw : Cw = x5)
  (hCb : ∀ j : Fin 5632, Cb (ix2 0 j) = x6 (ix1 j))
  (hWd : ∀ (a : Fin 2816) (k : Fin 1024), Wd (ix2 a k) = x7 (ix2 a k))

include hH hY hWo in
theorem row_eq (t : Fin 65536) : arrRow H Y Wo t = refRow x0 x1 x2 ⟨t.val / 8192, by omega⟩ ⟨t.val % 8192, by omega⟩ := by
  funext k
  unfold arrRow refRow
  exact congrArg₂ (· + ·) (hH t k) (Finset.sum_congr rfl fun z _ => congrArg₂ (· * ·) (hY t z) (hWo z k))

include hH hY hWo hG hWu in
theorem up_eq (t : Fin 65536) (j : Fin 5632) :
    arrUp H Y Wo G Wu t j = refUp x0 x1 x2 x3 x4 ⟨t.val / 8192, by omega⟩ ⟨t.val % 8192, by omega⟩ j := by
  unfold arrUp refUp
  rw [row_eq hH hY hWo t, show (fun z : Fin 1024 => G (ix2 0 z)) = fun z => x3 (ix1 z) from funext hG]
  exact Finset.sum_congr rfl fun k _ => congrArg _ (hWu k j)

include hH hY hWo hG hWu in
theorem back_eq (t : Fin 65536) (d : Fin 3) (j : Fin 5632) :
    arrBack H Y Wo G Wu t d j = refBack x0 x1 x2 x3 x4 ⟨t.val / 8192, by omega⟩ ⟨t.val % 8192, by omega⟩ d j := by
  unfold arrBack refBack
  by_cases e : d.val ≤ t.val % 8192
  · rw [if_pos e, if_pos e, up_eq hH hY hWo hG hWu]
    exact congrArg₂ (fun b s => refUp x0 x1 x2 x3 x4 b s j) (Fin.ext (by dsimp only; omega)) (Fin.ext (by dsimp only; omega))
  · rw [if_neg e, if_neg e]

include hH hY hWo hG hWu hCw hCb in
/-- The taps are added in opposite order. -/
theorem conv_eq (t : Fin 65536) (j : Fin 5632) :
    arrConv H Y Wo G Wu Cw Cb t j = refConv x0 x1 x2 x3 x4 x5 x6 ⟨t.val / 8192, by omega⟩ ⟨t.val % 8192, by omega⟩ j := by
  unfold arrConv refConv
  rw [hCb, hCw, back_eq hH hY hWo hG hWu, back_eq hH hY hWo hG hWu, back_eq hH hY hWo hG hWu,
    add_right_comm (_ + _), add_right_comm (x6 _), add_right_comm (_ + _)]

include hH hY hWo hG hWu hCw hCb hWd in
theorem out_eq (t : Fin 65536) (k : Fin 1024) :
    arrOut H Y Wo G Wu Cw Cb Wd t k = Cert.Reference2Ideal.Read.val_main_v46 (F := Ideal) x0 x1 x2 x3 x4 x5 x6 x7 (ix2 t k) := by
  rw [out_at, res_at]
  unfold arrOut
  rw [row_eq hH hY hWo t]
  refine congrArg _ (Finset.sum_congr rfl fun j _ => ?_)
  rw [conv_eq hH hY hWo hG hWu hCw hCb, conv_eq hH hY hWo hG hWu hCw hCb, hWd]

end

/-- The same, with batch and place of a row named. -/
theorem out_of {H Y : S65536x1024.Idx → EReal} {Wo : S1024x1024.Idx → EReal} {G : S1x1024.Idx → EReal} {Wu : S1024x5632.Idx → EReal}
    {Cw : S3x5632.Idx → EReal} {Cb : S1x5632.Idx → EReal} {Wd : S2816x1024.Idx → EReal}
    {x0 x1 : S8x8192x1024.Idx → EReal} {x2 : S1024x1024.Idx → EReal} {x3 : S1024.Idx → EReal} {x4 : S1024x5632.Idx → EReal}
    {x5 : S3x5632.Idx → EReal} {x6 : S5632.Idx → EReal} {x7 : S2816x1024.Idx → EReal}
    (b : Fin 65536 → Fin 8) (s : Fin 65536 → Fin 8192) (hb : ∀ t, (b t).val = t.val / 8192) (hs : ∀ t, (s t).val = t.val % 8192)
    (hH : ∀ (t : Fin 65536) (k : Fin 1024), H (ix2 t k) = x0 (ix3 (b t) (s t) k)) (hY : ∀ (t : Fin 65536) (k : Fin 1024), Y (ix2 t k) = x1 (ix3 (b t) (s t) k))
    (hWo : ∀ a k : Fin 1024, Wo (ix2 a k) = x2 (ix2 a k)) (hG : ∀ k : Fin 1024, G (ix2 0 k) = x3 (ix1 k))
    (hWu : ∀ (a : Fin 1024) (j : Fin 5632), Wu (ix2 a j) = x4 (ix2 a j)) (hCw : Cw = x5) (hCb : ∀ j : Fin 5632, Cb (ix2 0 j) = x6 (ix1 j))
    (hWd : ∀ (a : Fin 2816) (k : Fin 1024), Wd (ix2 a k) = x7 (ix2 a k)) (t : Fin 65536) (k : Fin 1024) :
    arrOut H Y Wo G Wu Cw Cb Wd t k = Cert.Reference2Ideal.Read.val_main_v46 (F := Ideal) x0 x1 x2 x3 x4 x5 x6 x7 (ix2 t k) := by
  obtain rfl : b = fun t => ⟨t.val / 8192, by omega⟩ := funext fun t => Fin.ext (hb t)
  obtain rfl : s = fun t => ⟨t.val % 8192, by omega⟩ := funext fun t => Fin.ext (hs t)
  exact out_eq hH hY hWo hG hWu hCw hCb hWd t k

/-- What the kernel's result array holds is what the reference computes from the same arguments. -/
theorem arrAt_ref (m : (ℓ : Loc nD τ sig) → Buf (Elt Ideal) ℓ) (c : Dev nD) :
    (dats m 0 c).arrAt 10 cfg0.N = Cert.Reference2Ideal.Read.val_main_v46 (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7)) := by
  rw [arrAt_eq]
  funext y
  obtain ⟨a, b, rfl⟩ : ∃ (a : Fin 65536) (b : Fin 1024), y = ix2 a b := ⟨y 0, y 1, by funext i; fin_cases i <;> rfl⟩
  exact out_eq (host_h m c) (host_y m c) (host_wo m c) (host_g m c) (host_wu m c) (host_cw m c) (host_cb m c) (host_wd m c) a b

end Cert.Ffn

end
-- ==== Proof.FfeBlock.lean ====
/-
  One block of the even layers' output projection, norm and convolved gated MLP. Two arrays are projected instead of one; with the two laid
  side by side the tile's value is that of the odd layers' call.
-/
module

public import proofs.«01_k».proof.Proof.Gen.Kernel3Ideal.Value
public import proofs.«01_k».proof.Proof.FfnArray

@[expose] public section

set_option maxRecDepth 16384

noncomputable section

namespace Cert.Ffe

open Cert.Kernel3Ideal Cert.Kernel3Ideal.Gen Idealize.ShloMosaic Idealize.ShloMosaic.TcCoe Idealize.SL.Sem
open Idealize.ShloMosaic.Pipeline (Dat)

section Structure

variable {F : FTy → Type} [FloatOps F]

/-- The upper and lower half of the output projection's weight, which meet the first and the second array. -/
def top (w : Vec F S1024x1024 .bf16) : Vec F S512x1024 .bf16 := View.ld w (Rect.unit ![0, 0] ![512, 1024] inb_S1024x1024_S512x1024_0_0)
def low (w : Vec F S1024x1024 .bf16) : Vec F S512x1024 .bf16 := View.ld w (Rect.unit ![512, 0] ![512, 1024] inb_S1024x1024_S512x1024_512_0)

/-- The tile's rows of the residual stream after the output projection. -/
def rowsOf (x0 : Vec F S512x1024 .f32) (x2 x3 : Vec F S512x512 .bf16) (x6 : Vec F S1024x1024 .bf16) : FVec F S512x1024 .f32 :=
  k0_pay2 x0 x2 (top x6) x3 (low x6)

/-- The normalised rows that are projected up: the 16 before the tile, then the tile's. -/
def normed (i : grid0.Coords) (x0 : Vec F S512x1024 .f32) (x1 : Vec F S16x1024 .f32) (x2 x3 : Vec F S512x512 .bf16) (x4 x5 : Vec F S16x512 .bf16)
    (x6 : Vec F S1024x1024 .bf16) (x7 : Vec F S1x1024 .f32) : FVec F S528x1024 .bf16 :=
  k0_pay7 (rowsOf x0 x2 x3 x6) (k0_pay3 x7) (k0_pay4 i) (k0_pay5 x1) (k0_pay6 x4) (top x6) x5 (low x6)

/-- What the body stores from its rows and their normalised ones: the second half of the work is the odd layers'. -/
def tail (x : FVec F S512x1024 .f32) (u : FVec F S528x1024 .bf16) (x8 : Vec F S1024x5632 .bf16) (x9 : Vec F S3x5632 .f32) (x10 : Vec F S1x5632 .f32)
    (x11 : Vec F S2816x1024 .bf16) : FVec F S512x1024 .f32 :=
  Cert.Kernel2Ideal.Gen.k0_pay1 x (Cert.Ffn.valBlock u x8 x9 x10) (mulf (Cert.Ffn.gateBlock u x8 x9 x10) (logistic (Cert.Ffn.gateBlock u x8 x9 x10))) x11

theorem pay9_eq (a : FVec F S512x1024 .f32) (b : FVec F S1x1024 .f32) (s : F .f32) (d : FVec F S16x1024 .f32) (e : FVec F S16x512 .bf16)
    (f : Vec F S512x1024 .bf16) (g : Vec F S16x512 .bf16) (h : Vec F S512x1024 .bf16) (w : Vec F S1024x2816 .bf16) :
    k0_pay9 (k0_pay8 a b s d e f g h w) = Cert.Kernel2Ideal.Gen.k0_pay10 (k0_pay7 a b s d e f g h) w := rfl

theorem pay11_eq (u : FVec F S528x1024 .bf16) (w : Vec F S1024x2816 .bf16) : k0_pay11 u w = Cert.Kernel2Ideal.Gen.k0_pay10 u w := rfl

theorem pay10_eq (cb c2 c1 c0 : Vec F S1x2816 .f32) (a b d : FVec F S512x2816 .f32) :
    k0_pay10 cb c2 a c1 b c0 d = Cert.Kernel2Ideal.Gen.k0_pay11 cb c2 a c1 b c0 d := rfl

theorem pay1_eq (x : FVec F S512x1024 .f32) (g : FVec F S512x2816 .f32) (cb c2 c1 c0 : Vec F S1x2816 .f32) (a b d : FVec F S512x2816 .f32)
    (w : Vec F S2816x1024 .bf16) :
    k0_pay1 x g (k0_pay12 cb) (k0_pay13 c2 a) c1 b c0 d w
      = Cert.Kernel2Ideal.Gen.k0_pay1 x (Cert.Kernel2Ideal.Gen.k0_pay11 cb c2 a c1 b c0 d) (mulf g (logistic g)) w := rfl

variable (m : (ℓ : Loc nD τ sig) → Buf (Elt F) ℓ)

/-- The block a grid point leaves. -/
theorem out_open (c : Dev nD) (t : Fin cfg0.N) :
    outsAt0 m c t = tail (rowsOf (iblk m c 0 t) (iblk m c 2 t) (iblk m c 3 t) (iblk m c 6 t))
      (normed (grid0.coords t) (iblk m c 0 t) (iblk m c 1 t) (iblk m c 2 t) (iblk m c 3 t) (iblk m c 4 t) (iblk m c 5 t) (iblk m c 6 t) (iblk m c 7 t))
      (iblk m c 8 t) (iblk m c 9 t) (iblk m c 10 t) (iblk m c 11 t) := by
  unfold outsAt0 out0_A_12
  rw [View.read_writes_junk_eq_canon]
  unfold kernelRun0_A
  dsimp only
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  refine (View.canon_cons_unit_lit _ _ _ (by decide)).trans ?_
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  have l0 : ∀ x : Vec F S512x1024 .f32, View.ld x (Rect.unit ![0, 0] ![512, 1024] inb_S512x1024_S512x1024_0_0) = x := fun x => View.ld_unit_lit (S := S512x1024) _ x (by decide)
  have l1 : ∀ x : Vec F S16x1024 .f32, View.ld x (Rect.unit ![0, 0] ![16, 1024] inb_S16x1024_S16x1024_0_0) = x := fun x => View.ld_unit_lit (S := S16x1024) _ x (by decide)
  have l2 : ∀ x : Vec F S512x512 .bf16, View.ld x (Rect.unit ![0, 0] ![512, 512] inb_S512x512_S512x512_0_0) = x := fun x => View.ld_unit_lit (S := S512x512) _ x (by decide)
  have l3 : ∀ x : Vec F S16x512 .bf16, View.ld x (Rect.unit ![0, 0] ![16, 512] inb_S16x512_S16x512_0_0) = x := fun x => View.ld_unit_lit (S := S16x512) _ x (by decide)
  have l5 : ∀ x : Vec F S1x1024 .f32, View.ld x (Rect.unit ![0, 0] ![1, 1024] inb_S1x1024_S1x1024_0_0) = x := fun x => View.ld_unit_lit (S := S1x1024) _ x (by decide)
  have l9 : ∀ x : Vec F S2816x1024 .bf16, View.ld x (Rect.unit ![0, 0] ![2816, 1024] inb_S2816x1024_S2816x1024_0_0) = x := fun x => View.ld_unit_lit (S := S2816x1024) _ x (by decide)
  have hr : ∀ (P : Vec F S528x2816 .f32) (L : List (View.Piece (Elt F) S528x2816 .f32)) (r : Rect S528x2816),
      (View.whole cc0_scratch0).readCov ((⟨Rect.unit ![0, 0] ![528, 2816] inb_S528x2816_S528x2816_0_0, P⟩ : View.Piece (Elt F) S528x2816 .f32) :: L) r.toLoadRect
        = View.ld P r := fun P L r => Cert.Ffn.readCov_part (S := S528x2816) _ _ P L r (by decide)
  rw [l0, l1, l2, l2, l3, l3, l5, l9]
  simp only [hr, pay9_eq, pay11_eq, pay10_eq, pay1_eq]
  unfold tail normed rowsOf top low Cert.Ffn.gateBlock Cert.Ffn.valBlock Cert.Ffn.convBlock
  rfl

end Structure

/-- Two arrays side by side. -/
def side {n : ℕ} (A B : Fin n → Fin 512 → EReal) (r : Fin n) (z : Fin 1024) : EReal :=
  if h : z.val < 512 then A r ⟨z.val, h⟩ else B r ⟨z.val - 512, by omega⟩

/-- A sum over both is the sum over the first and the sum over the second. -/
theorem side_sum {n : ℕ} (A B : Fin n → Fin 512 → EReal) (r : Fin n) (w : Fin 1024 → EReal) :
    ∑ z, side A B r z * w z = (∑ z : Fin 512, A r z * w ⟨z.val, by omega⟩) + ∑ z : Fin 512, B r z * w ⟨512 + z.val, by omega⟩ := by
  refine (Fin.sum_univ_add (a := 512) (b := 512) fun z : Fin 1024 => side A B r z * w z).trans ?_
  refine congrArg₂ (· + ·) (Finset.sum_congr rfl fun z _ => ?_) (Finset.sum_congr rfl fun z _ => ?_)
  · exact congrArg (· * _) (dif_pos z.isLt)
  · refine congrArg (· * _) ((dif_neg (by simp)).trans ?_)
    exact congrArg (B r) (Fin.ext (by simp))

/-- The tile's two blocks side by side. -/
def sideT (a b : Vec Ideal S512x512 .bf16) : Vec Ideal S512x1024 .bf16 := fun y : S512x1024.Idx => side (fun r z => a (ix2 r z)) (fun r z => b (ix2 r z)) (y 0) (y 1)

/-- The two blocks of the sixteen rows before the tile side by side. -/
def sideH (a b : Vec Ideal S16x512 .bf16) : Vec Ideal S16x1024 .bf16 := fun y : S16x1024.Idx => side (fun r z => a (ix2 r z)) (fun r z => b (ix2 r z)) (y 0) (y 1)

theorem top_at (w : Vec Ideal S1024x1024 .bf16) (z : Fin 512) (k : Fin 1024) : top w (ix2 z k) = w (ix2 ⟨z.val, by omega⟩ k) := by
  refine View.ld_unit_apply_of _ _ _ _ _ _ fun a => ?_
  fin_cases a <;> simp [ix2]

theorem low_at (w : Vec Ideal S1024x1024 .bf16) (z : Fin 512) (k : Fin 1024) : low w (ix2 z k) = w (ix2 ⟨512 + z.val, by omega⟩ k) := by
  refine View.ld_unit_apply_of _ _ _ _ _ _ fun a => ?_
  fin_cases a <;> simp [ix2]

section Values

variable (i : grid0.Coords) (x0 : Vec Ideal S512x1024 .f32) (x1 : Vec Ideal S16x1024 .f32) (x2 x3 : Vec Ideal S512x512 .bf16)
  (x4 x5 : Vec Ideal S16x512 .bf16) (x6 : Vec Ideal S1024x1024 .bf16) (x7 : Vec Ideal S1x1024 .f32)

theorem rows_at (r : Fin 512) (k : Fin 1024) : rowsOf x0 x2 x3 x6 (ix2 r k) = Cert.Ffn.tileRow x0 (sideT x2 x3) x6 r k := by
  have h : ∀ a b : Vec Ideal S512x1024 .bf16, k0_pay2 x0 x2 a x3 b (ix2 r k)
      = x0 (ix2 r k) + (∑ z : Fin 512, x2 (ix2 r z) * a (ix2 z k)) + ∑ z : Fin 512, x3 (ix2 r z) * b (ix2 z k) := fun a b => by
    pointwise [k0_pay2]
  unfold rowsOf Cert.Ffn.tileRow
  rw [h, add_assoc]
  simp only [top_at, low_at]
  exact congrArg _ (side_sum (fun r z => x2 (ix2 r z)) (fun r z => x3 (ix2 r z)) r fun z => x6 (ix2 z k)).symm

theorem tile_at (x : FVec Ideal S512x1024 .f32) (g : FVec Ideal S1x1024 .f32) (s : EReal) (h : FVec Ideal S16x1024 .f32) (q : FVec Ideal S16x512 .bf16)
    (a : Vec Ideal S512x1024 .bf16) (p : Vec Ideal S16x512 .bf16) (b : Vec Ideal S512x1024 .bf16) (r : Fin 512) (k : Fin 1024) :
    k0_pay7 x g s h q a p b (ix2 ⟨16 + r.val, by omega⟩ k) = Cert.Ffn.rms (fun z => x (ix2 r z)) (fun z => g (ix2 0 z)) k := by
  pointwise [k0_pay7]
  rfl

theorem halo_at (x : FVec Ideal S512x1024 .f32) (g : FVec Ideal S1x1024 .f32) (s : EReal) (h : FVec Ideal S16x1024 .f32) (q : FVec Ideal S16x512 .bf16)
    (a : Vec Ideal S512x1024 .bf16) (p : Vec Ideal S16x512 .bf16) (b : Vec Ideal S512x1024 .bf16) (e : Fin 16) (k : Fin 1024) :
    k0_pay7 x g s h q a p b (ix2 ⟨e.val, by omega⟩ k)
      = Cert.Ffn.rms (fun v => h (ix2 e v) + (∑ z : Fin 512, q (ix2 e z) * a (ix2 z v)) + ∑ z : Fin 512, p (ix2 e z) * b (ix2 z v)) (fun z => g (ix2 0 z)) k * s := by
  pointwise [k0_pay7]
  rfl

theorem pay4_eq : k0_pay4 (F := Ideal) i = Cert.Kernel2Ideal.Gen.k0_pay4 (F := Ideal) i := rfl

theorem normed_eq : normed i x0 x1 x2 x3 x4 x5 x6 x7 = Cert.Ffn.normed i x0 x1 (sideT x2 x3) (sideH x4 x5) x6 x7 := by
  have hg : k0_pay3 x7 = x7 := by funext y; idx_vars y; pointwise [k0_pay3]
  have h5 : k0_pay5 x1 = x1 := by funext y; idx_vars y; pointwise [k0_pay5]
  have h6 : k0_pay6 x4 = x4 := by funext y; idx_vars y; pointwise [k0_pay6]
  funext y
  obtain ⟨e, k, rfl⟩ : ∃ (e : Fin 528) (k : Fin 1024), y = ix2 e k := ⟨y 0, y 1, by funext a; fin_cases a <;> rfl⟩
  refine Eq.trans ?_ (Cert.Ffn.normed_at i x0 x1 (sideT x2 x3) (sideH x4 x5) x6 x7 e k).symm
  unfold normed
  rw [hg, h5, h6, pay4_eq, Cert.Ffn.pay4_at]
  split
  · rename_i h
    refine (halo_at _ _ _ _ _ _ _ _ ⟨e.val, h⟩ k).trans ?_
    refine congrArg (fun u => Cert.Ffn.rms u (fun z => x7 (ix2 0 z)) k * Cert.Ffn.keep (i 0).val) (funext fun v => ?_)
    unfold Cert.Ffn.haloRow
    rw [add_assoc]
    simp only [top_at, low_at]
    exact congrArg _ (side_sum (fun r z => x4 (ix2 r z)) (fun r z => x5 (ix2 r z)) ⟨e.val, h⟩ fun z => x6 (ix2 z v)).symm
  · rename_i h
    have e1 : (ix2 e k : S528x1024.Idx) = ix2 ⟨16 + (e.val - 16), by omega⟩ k := (ix2_inj _ _ _ _).2 ⟨Fin.ext (by dsimp only; omega), rfl⟩
    rw [e1]
    refine (tile_at _ _ _ _ _ _ _ _ ⟨e.val - 16, by omega⟩ k).trans ?_
    exact congrArg (fun u => Cert.Ffn.rms u (fun z => x7 (ix2 0 z)) k) (funext fun z => rows_at x0 x2 x3 x6 ⟨e.val - 16, by omega⟩ z)

/-- What the body stores is what the odd layers' body stores with the two arrays side by side. -/
theorem tail_eq (x8 : Vec Ideal S1024x5632 .bf16) (x9 : Vec Ideal S3x5632 .f32) (x10 : Vec Ideal S1x5632 .f32) (x11 : Vec Ideal S2816x1024 .bf16) :
    tail (rowsOf x0 x2 x3 x6) (normed i x0 x1 x2 x3 x4 x5 x6 x7) x8 x9 x10 x11
      = Cert.Ffn.blockVal i x0 x1 (sideT x2 x3) (sideH x4 x5) x6 x7 x8 x9 x10 x11 := by
  have hr : rowsOf x0 x2 x3 x6 = Cert.Kernel2Ideal.Gen.k0_pay2 x0 (sideT x2 x3) x6 := by
    funext y
    obtain ⟨e, k, rfl⟩ : ∃ (e : Fin 512) (k : Fin 1024), y = ix2 e k := ⟨y 0, y 1, by funext a; fin_cases a <;> rfl⟩
    exact (rows_at x0 x2 x3 x6 e k).trans (Cert.Ffn.pay2_at x0 (sideT x2 x3) x6 e k).symm
  rw [hr, normed_eq]
  rfl

end Values

end Cert.Ffe
end
-- ==== Proof.FfeArray.lean ====
/-
  The result array of the even layers' output projection, norm and convolved gated MLP: the odd layers' function of the arrays the call reads,
  with the two arrays to be projected laid side by side.
-/
module

public import proofs.«01_k».proof.Proof.FfeBlock
public import Idealize.ShloMosaic.Lib.Pipeline.Covers

@[expose] public section

set_option maxRecDepth 16384

noncomputable section

namespace Cert.Ffe

open Cert.Kernel3Ideal Cert.Kernel3Ideal.Gen Idealize.ShloMosaic Idealize.ShloMosaic.TcCoe Idealize.SL.Sem
open Idealize.ShloMosaic.Pipeline (Dat)

theorem idx0 : ∀ t : Fin grid0.N, win0_0.index t = ![(grid0.coords t 0).val, 0] := by decide +kernel
theorem idx1 : ∀ t : Fin grid0.N, win0_1.index t = ![32 * (grid0.coords t 0).val - 1, 0] := by decide +kernel
theorem idx2 : ∀ t : Fin grid0.N, win0_2.index t = ![(grid0.coords t 0).val, 0] := by decide +kernel
theorem idx3 : ∀ t : Fin grid0.N, win0_3.index t = ![(grid0.coords t 0).val, 0] := by decide +kernel
theorem idx4 : ∀ t : Fin grid0.N, win0_4.index t = ![32 * (grid0.coords t 0).val - 1, 0] := by decide +kernel
theorem idx5 : ∀ t : Fin grid0.N, win0_5.index t = ![32 * (grid0.coords t 0).val - 1, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![(grid0.coords t 0).val, 0] := by decide +kernel

theorem ct (t : Fin grid0.N) : (grid0.coords t 0).val < 128 := (grid0.coords t 0).isLt

section Array

variable (H : S65536x1024.Idx → EReal) (A B : S65536x512.Idx → EReal) (Wo : S1024x1024.Idx → EReal) (G : S1x1024.Idx → EReal)
  (Wu : S1024x5632.Idx → EReal) (Cw : S3x5632.Idx → EReal) (Cb : S1x5632.Idx → EReal) (Wd : S2816x1024.Idx → EReal)

/-- Two whole arrays side by side. -/
def sideArr : S65536x1024.Idx → EReal := fun y => side (fun r z => A (ix2 r z)) (fun r z => B (ix2 r z)) (y 0) (y 1)

theorem read0_eq (t : Fin cfg0.N) (r : Fin 512) (k : Fin 1024) :
    ((cfg0.win 0).blk t).view.read (Elt Ideal) H (ix2 r k) = H (ix2 ⟨512 * (grid0.coords t 0).val + r.val, by have := ct t; omega⟩ k) := by
  have h0 := ct t
  blk_ext [idx0 t]

theorem read1_eq (t : Fin cfg0.N) (r : Fin 16) (k : Fin 1024) :
    ((cfg0.win 1).blk t).view.read (Elt Ideal) H (ix2 r k) = H (ix2 ⟨16 * (32 * (grid0.coords t 0).val - 1) + r.val, by have := ct t; omega⟩ k) := by
  have h0 := ct t
  blk_ext [idx1 t]

theorem read2_eq (t : Fin cfg0.N) (r : Fin 512) (k : Fin 512) :
    ((cfg0.win 2).blk t).view.read (Elt Ideal) A (ix2 r k) = A (ix2 ⟨512 * (grid0.coords t 0).val + r.val, by have := ct t; omega⟩ k) := by
  have h0 := ct t
  blk_ext [idx2 t]

theorem read3_eq (t : Fin cfg0.N) (r : Fin 512) (k : Fin 512) :
    ((cfg0.win 3).blk t).view.read (Elt Ideal) B (ix2 r k) = B (ix2 ⟨512 * (grid0.coords t 0).val + r.val, by have := ct t; omega⟩ k) := by
  have h0 := ct t
  blk_ext [idx3 t]

theorem read4_eq (t : Fin cfg0.N) (r : Fin 16) (k : Fin 512) :
    ((cfg0.win 4).blk t).view.read (Elt Ideal) A (ix2 r k) = A (ix2 ⟨16 * (32 * (grid0.coords t 0).val - 1) + r.val, by have := ct t; omega⟩ k) := by
  have h0 := ct t
  blk_ext [idx4 t]

theorem read5_eq (t : Fin cfg0.N) (r : Fin 16) (k : Fin 512) :
    ((cfg0.win 5).blk t).view.read (Elt Ideal) B (ix2 r k) = B (ix2 ⟨16 * (32 * (grid0.coords t 0).val - 1) + r.val, by have := ct t; omega⟩ k) := by
  have h0 := ct t
  blk_ext [idx5 t]

theorem read6_eq (t : Fin cfg0.N) (a : Fin 1024) (k : Fin 1024) : ((cfg0.win 6).blk t).view.read (Elt Ideal) Wo (ix2 a k) = Wo (ix2 a k) := by
  blk_ext [idx6 t]
theorem read7_eq (t : Fin cfg0.N) (a : Fin 1) (k : Fin 1024) : ((cfg0.win 7).blk t).view.read (Elt Ideal) G (ix2 a k) = G (ix2 a k) := by
  blk_ext [idx7 t]
theorem read8_eq (t : Fin cfg0.N) (a : Fin 1024) (k : Fin 5632) : ((cfg0.win 8).blk t).view.read (Elt Ideal) Wu (ix2 a k) = Wu (ix2 a k) := by
  blk_ext [idx8 t]
theorem read9_eq (t : Fin cfg0.N) (a : Fin 3) (k : Fin 5632) : ((cfg0.win 9).blk t).view.read (Elt Ideal) Cw (ix2 a k) = Cw (ix2 a k) := by
  blk_ext [idx9 t]
theorem read10_eq (t : Fin cfg0.N) (a : Fin 1) (k : Fin 5632) : ((cfg0.win 10).blk t).view.read (Elt Ideal) Cb (ix2 a k) = Cb (ix2 a k) := by
  blk_ext [idx10 t]
theorem read11_eq (t : Fin cfg0.N) (a : Fin 2816) (k : Fin 1024) : ((cfg0.win 11).blk t).view.read (Elt Ideal) Wd (ix2 a k) = Wd (ix2 a k) := by
  blk_ext [idx11 t]

/-- Blocks side by side are the block of the arrays side by side. -/
theorem sideT_eq (a b : Vec Ideal S512x512 .bf16) (o : Fin 512 → Fin 65536) (ha : ∀ (r : Fin 512) (z : Fin 512), a (ix2 r z) = A (ix2 (o r) z))
    (hb : ∀ (r : Fin 512) (z : Fin 512), b (ix2 r z) = B (ix2 (o r) z)) (r : Fin 512) (k : Fin 1024) :
    sideT a b (ix2 r k) = sideArr A B (ix2 (o r) k) := by
  show side (fun r z => a (ix2 r z)) (fun r z => b (ix2 r z)) r k = side (fun r z => A (ix2 r z)) (fun r z => B (ix2 r z)) (o r) k
  unfold side
  split
  · exact ha r _
  · exact hb r _

theorem sideH_eq (a b : Vec Ideal S16x512 .bf16) (o : Fin 16 → Fin 65536) (ha : ∀ (r : Fin 16) (z : Fin 512), a (ix2 r z) = A (ix2 (o r) z))
    (hb : ∀ (r : Fin 16) (z : Fin 512), b (ix2 r z) = B (ix2 (o r) z)) (r : Fin 16) (k : Fin 1024) :
    sideH a b (ix2 r k) = sideArr A B (ix2 (o r) k) := by
  show side (fun r z => a (ix2 r z)) (fun r z => b (ix2 r z)) r k = side (fun r z => A (ix2 r z)) (fun r z => B (ix2 r z)) (o r) k
  unfold side
  split
  · exact ha r _
  · exact hb r _

end Array

variable (m : (ℓ : Loc nD τ sig) → Buf (Elt Ideal) ℓ)

theorem outs_apply (c : Dev nD) (t : Fin cfg0.N) (r : Fin 512) (k : Fin 1024) :
    outsAt0 m c t (ix2 r k) = Cert.Ffn.arrOut (V m c main_v4) (sideArr (V m c main_v1) (V m c main_v3)) (V m c main_v5) (V m c main_v8) (V m c main_v6) (V m c main_arg6) (V m c main_v9) (V m c main_v7) ⟨512 * (grid0.coords t 0).val + r.val, by have := ct t; omega⟩ k := by
  rw [out_open]
  refine (congrFun (tail_eq _ _ _ _ _ _ _ _ _ _ _ _ _) (ix2 r k)).trans ((Cert.Ffn.blockVal_at _ _ _ _ _ _ _ _ _ _ _ r k).trans ?_)
  exact Cert.Ffn.blockOut_of _ _ _ _ _ _ _ _ (grid0.coords t) _ _ _ _ _ _ _ _ _ _ (ct t)
    (fun r => ⟨512 * (grid0.coords t 0).val + r.val, by have := ct t; omega⟩) (fun r => ⟨16 * (32 * (grid0.coords t 0).val - 1) + r.val, by have := ct t; omega⟩)
    (fun _ => rfl) (fun _ => rfl) (read0_eq (V m c main_v4) t) (read1_eq (V m c main_v4) t)
    (sideT_eq (V m c main_v1) (V m c main_v3) _ _ _ (read2_eq (V m c main_v1) t) (read3_eq (V m c main_v3) t))
    (sideH_eq (V m c main_v1) (V m c main_v3) _ _ _ (read4_eq (V m c main_v1) t) (read5_eq (V m c main_v3) t))
    (read6_eq (V m c main_v5) t) (read7_eq (V m c main_v8) t 0) (read8_eq (V m c main_v6) t)
    (read9_eq (V m c main_arg6) t) (read10_eq (V m c main_v9) t 0) (read11_eq (V m c main_v7) t) r k

/-- The whole result array after the run. -/
theorem arrAt_eq (c : Dev nD) :
    (dats m 0 c).arrAt 12 cfg0.N
      = fun y : S65536x1024.Idx => Cert.Ffn.arrOut (V m c main_v4) (sideArr (V m c main_v1) (V m c main_v3)) (V m c main_v5) (V m c main_v8) (V m c main_v6) (V m c main_arg6)
          (V m c main_v9) (V m c main_v7) (y 0) (y 1) := by
  refine (dats m 0 c).arrAt_eq_of_covers 12 _ ((cfg0.win 12).covers_of_indexMap_surj rfl (by decide)
    fun β => ⟨(fun a => match a with | 0 => (⟨(β 0).val, (β 0).isLt⟩ : Fin 128)), fun a => ?_⟩) fun t hf y => ?_
  · match a with
    | 0 => exact (BitVec.toNat_ofNat _ _).trans (Nat.mod_eq_of_lt (lt_of_lt_of_le (show (β 0).val < 128 from (β 0).isLt) (by decide)))
    | 1 =>
      have h : (β 1).val < 1 := (β 1).isLt
      show 0 = (β 1).val
      omega
  · blk_simp
    rw [after0_12]
    have h0 : (y 0).val < 512 := (y 0).isLt
    have h1 : (y 1).val < 1024 := (y 1).isLt
    have hy : y = (ix2 ⟨(y 0).val, h0⟩ ⟨(y 1).val, h1⟩ : S512x1024.Idx) := by
      funext a
      fin_cases a <;> rfl
    refine (congrArg (outsAt0 m c t) hy).trans ((outs_apply m c t _ _).trans ?_)
    have e0 : (win0_12.blk t).view.emb y 0 = ⟨512 * (grid0.coords t 0).val + (y 0).val, by have := ct t; exact (show 512 * (grid0.coords t 0).val + (y 0).val < 65536 by omega)⟩ :=
      Fin.ext (by blk_simp [idx12 t]; exact congrArg (· + (y 0).val) (Nat.mul_comm _ _))
    have e1 : (win0_12.blk t).view.emb y 1 = ⟨(y 1).val, h1⟩ := Fin.ext (by blk_simp [idx12 t])
    rw [e0, e1]
    rfl

end Cert.Ffe
end
-- ==== Proof.FfeEq.lean ====
/-
  The even layers' output projection, norm and convolved gated MLP: the arrays the call reads, in terms of the arguments, the reference as the odd
  layers' reference of the joined arrays, and the equality of both results.
-/
module

public import proofs.«01_k».proof.Proof.FfeArray
public import proofs.«01_k».proof.Proof.FfnEq
public import proofs.«01_k».proof.Proof.Gen.Reference3Ideal.Read
public import Idealize.ShloMosaic.Lib.StableHlo.RunRead

@[expose] public section

set_option maxRecDepth 16384

noncomputable section

namespace Cert.Ffe

open Cert.Kernel3Ideal Cert.Kernel3Ideal.Gen Idealize.ShloMosaic Idealize.ShloMosaic.TcCoe Idealize.SL.Sem
open StableHlo

section
variable (m : (ℓ : Loc nD τ sig) → Buf (Elt Ideal) ℓ) (c : Dev nD)

/-- The residual stream. -/
abbrev argH : S8x8192x1024.Idx → EReal := m (c.tc.loc main_arg0)
/-- The two attentions' outputs. -/
abbrev argA : S8x8192x512.Idx → EReal := m (c.tc.loc main_arg1)
abbrev argB : S8x8192x512.Idx → EReal := m (c.tc.loc main_arg2)
/-- The output projection's weight. -/
abbrev argWo : S1024x1024.Idx → EReal := m (c.tc.loc main_arg3)
/-- The norm's gain. -/
abbrev argG : S1024.Idx → EReal := m (c.tc.loc main_arg4)
/-- The weight of the projection up. -/
abbrev argWu : S1024x5632.Idx → EReal := m (c.tc.loc main_arg5)
/-- The convolution's taps. -/
abbrev argCw : S3x5632.Idx → EReal := m (c.tc.loc main_arg6)
/-- The convolution's bias. -/
abbrev argCb : S5632.Idx → EReal := m (c.tc.loc main_arg7)
/-- The weight of the projection down. -/
abbrev argWd : S2816x1024.Idx → EReal := m (c.tc.loc main_arg8)

theorem host_h (t : Fin 65536) (k : Fin 1024) : V m c main_v4 (ix2 t k) = argH m c (ix3 ⟨t.val / 8192, by omega⟩ ⟨t.val % 8192, by omega⟩ k) := by
  unfold V
  after_reads_simp
  pointwise

theorem host_a (t : Fin 65536) (k : Fin 512) : V m c main_v1 (ix2 t k) = argA m c (ix3 ⟨t.val / 8192, by omega⟩ ⟨t.val % 8192, by omega⟩ k) := by
  unfold V
  after_reads_simp
  pointwise

theorem host_b (t : Fin 65536) (k : Fin 512) : V m c main_v3 (ix2 t k) = argB m c (ix3 ⟨t.val / 8192, by omega⟩ ⟨t.val % 8192, by omega⟩ k) := by
  unfold V
  after_reads_simp
  pointwise

theorem host_wo (a k : Fin 1024) : V m c main_v5 (ix2 a k) = argWo m c (ix2 a k) := by
  unfold V
  after_reads_simp
  pointwise

theorem host_g (k : Fin 1024) : V m c main_v8 (ix2 0 k) = argG m c (ix1 k) := by
  unfold V
  after_reads_simp
  pointwise

theorem host_wu (a : Fin 1024) (j : Fin 5632) : V m c main_v6 (ix2 a j) = argWu m c (ix2 a j) := by
  unfold V
  after_reads_simp
  pointwise

theorem host_cb (j : Fin 5632) : V m c main_v9 (ix2 0 j) = argCb m c (ix1 j) := by
  unfold V
  after_reads_simp
  pointwise

theorem host_wd (a : Fin 2816) (k : Fin 1024) : V m c main_v7 (ix2 a k) = argWd m c (ix2 a k) := by
  unfold V
  after_reads_simp
  pointwise

theorem host_cw : V m c main_arg6 = argCw m c := V_main_arg6 m c

end

open Cert.Reference3Ideal.Read in
/-- The two attentions' outputs joined, at an index. -/
theorem cat_at (A B : S8x8192x512.Idx → EReal) (b : Fin 8) (s : Fin 8192) (k : Fin 1024) :
    val_main_v0 (F := Ideal) A B (ix3 b s k) = if h : k.val < 512 then A (ix3 b s ⟨k.val, h⟩) else B (ix3 b s ⟨k.val - 512, by omega⟩) := by
  pointwise [val_main_v0]

open Cert.Reference3Ideal.Read in
/-- The reference is the odd layers' reference of the joined outputs. -/
theorem ref_eq (x0 : S8x8192x1024.Idx → EReal) (xa xb : S8x8192x512.Idx → EReal) (x2 : S1024x1024.Idx → EReal) (x3 : S1024.Idx → EReal)
    (x4 : S1024x5632.Idx → EReal) (x5 : S3x5632.Idx → EReal) (x6 : S5632.Idx → EReal) (x7 : S2816x1024.Idx → EReal) :
    val_main_v47 (F := Ideal) x0 xa xb x2 x3 x4 x5 x6 x7
      = Cert.Reference2Ideal.Read.val_main_v46 (F := Ideal) x0 (val_main_v0 (F := Ideal) xa xb) x2 x3 x4 x5 x6 x7 := rfl

/-- The arrays side by side are the joined outputs, one row per position. -/
theorem side_host {A B : S65536x512.Idx → EReal} {xa xb : S8x8192x512.Idx → EReal}
    (hA : ∀ (t : Fin 65536) (k : Fin 512), A (ix2 t k) = xa (ix3 ⟨t.val / 8192, by omega⟩ ⟨t.val % 8192, by omega⟩ k))
    (hB : ∀ (t : Fin 65536) (k : Fin 512), B (ix2 t k) = xb (ix3 ⟨t.val / 8192, by omega⟩ ⟨t.val % 8192, by omega⟩ k)) (t : Fin 65536) (k : Fin 1024) :
    sideArr A B (ix2 t k) = Cert.Reference3Ideal.Read.val_main_v0 (F := Ideal) xa xb (ix3 ⟨t.val / 8192, by omega⟩ ⟨t.val % 8192, by omega⟩ k) := by
  rw [cat_at]
  show side (fun r z => A (ix2 r z)) (fun r z => B (ix2 r z)) t k = _
  unfold side
  split
  · exact hA t _
  · exact hB t _

/-- What the kernel's result array holds is what the reference computes from the same arguments. -/
theorem arrAt_ref (m : (ℓ : Loc nD τ sig) → Buf (Elt Ideal) ℓ) (c : Dev nD) :
    (dats m 0 c).arrAt 12 cfg0.N = Cert.Reference3Ideal.Read.val_main_v47 (F := Ideal) (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7)) (m (c.tc.loc main_arg8)) := by
  rw [arrAt_eq, ref_eq]
  funext y
  obtain ⟨a, b, rfl⟩ : ∃ (a : Fin 65536) (b : Fin 1024), y = ix2 a b := ⟨y 0, y 1, by funext i; fin_cases i <;> rfl⟩
  exact Cert.Ffn.out_of (fun t => ⟨t.val / 8192, by omega⟩) (fun t => ⟨t.val % 8192, by omega⟩) (fun _ => rfl) (fun _ => rfl) (host_h m c) (side_host (host_a m c) (host_b m c)) (host_wo m c) (host_g m c) (host_wu m c) (host_cw m c) (host_cb m c)
    (host_wd m c) a b

end Cert.Ffe

end
-- ==== Proof.NpBlock.lean ====
/-
  One block of the norm and projection of an odd layer: the values the kernel's body stores for a tile of 1024 rows.

  The body normalises its rows, projects them to the 2048 query and key columns, and normalises every group of 64 columns of the product:
  128 columns at a time, sixteen stores (`lanes`). The value columns are projected transposed and stored in 8 × 4 tiles of 128 × 256
  (`tileOf`), each followed by sixteen rows of ones.
-/
module

public import proofs.«01_k».proof.Proof.Gen.Kernel4Ideal.Value
public import proofs.«01_k».proof.Proof.BandBlock
public import proofs.«01_k».proof.Proof.FfnBlock
public import Idealize.ShloMosaic.Lib.Pipeline.ReadBack
public import Idealize.ShloMosaic.Lib.Pipeline.ValueKit
public import Idealize.ShloMosaic.Lib.Pointwise

@[expose] public section

set_option maxRecDepth 65536

noncomputable section

namespace Cert.Np

open Cert.Kernel4Ideal Cert.Kernel4Ideal.Gen Idealize.ShloMosaic Idealize.ShloMosaic.TcCoe Idealize.SL.Sem
open Idealize.ShloMosaic.Pipeline (Dat)

section Structure

variable {F : FTy → Type} [FloatOps F]

/-- Half `h` of the 256 columns of a product. -/
def halfOf (y : FVec F S1024x256 .f32) (h : Fin 2) : FVec F S1024x128 .f32 :=
  extractStridedSlice S1024x128 ![0, 128 * h.val] y ((by decide : ∀ h : Fin 2, S1024x256.Slices ![0, 128 * h.val] S1024x128) h)

/-- The 128 columns of store `p`, from the normalised rows `u`, the weight and the gain. -/
def lanes (u : FVec F S1024x1024 .bf16) (x2 : Vec F S1024x2048 .bf16) (x3 : Vec F S1x2048 .f32) (p : Fin 16) : FVec F S1024x128 .bf16 :=
  let y := halfOf (k0_pay9 u (View.ld x2 (Rect.unit ![0, 256 * (p.val / 2)] ![1024, 256] (by
    intro a; match a with
    | ⟨0, _⟩ => exact Nat.le_refl 1024
    | ⟨1, _⟩ => exact (show 256 * (p.val / 2) + 256 ≤ 2048 by omega))))) ⟨p.val % 2, by omega⟩
  k0_pay12 k0_pay3 y (mulf y y) (Scalar.ofBits .f32 0x00000000#32) (View.ld x3 (Rect.unit ![0, 128 * p.val] ![1, 128] (by
    intro a; match a with
    | ⟨0, _⟩ => exact Nat.le_refl 1
    | ⟨1, _⟩ => exact (show 128 * p.val + 128 ≤ 2048 by omega))))

/-- Tile `q` of the transposed values: group `q / 4` of 128 value columns, rows from `256 * (q % 4)`. -/
def tileOf (y : FVec F S1024x1024 .bf16) (q : Fin 32) : FVec F S1x1x1x128x256 .bf16 :=
  k0_pay52 (extractStridedSlice S128x256 ![128 * (q.val / 4), 256 * (q.val % 4)] y
    ((by decide : ∀ q : Fin 32, S1024x1024.Slices ![128 * (q.val / 4), 256 * (q.val % 4)] S128x256) q))

/-- The store of tile `q`. -/
def tilePiece (y : FVec F S1024x1024 .bf16) (q : Fin 32) : View.Piece (Elt F) S1x8x4x144x256 .bf16 :=
  ⟨Rect.unit ![0, q.val / 4, q.val % 4, 0, 0] ![1, 1, 1, 128, 256] (by
    intro a; match a with
    | ⟨0, _⟩ => exact Nat.le_refl 1
    | ⟨1, _⟩ => exact (show q.val / 4 + 1 ≤ 8 by omega)
    | ⟨2, _⟩ => exact (show q.val % 4 + 1 ≤ 4 by omega)
    | ⟨3, _⟩ => exact (show 0 + 128 ≤ 144 by omega)
    | ⟨4, _⟩ => exact Nat.le_refl 256), tileOf y q⟩

/-- The store of the rows of ones below tile `q`. -/
def onesPiece (q : Fin 32) : View.Piece (Elt F) S1x8x4x144x256 .bf16 :=
  ⟨Rect.unit ![0, q.val / 4, q.val % 4, 128, 0] ![1, 1, 1, 16, 256] (by
    intro a; match a with
    | ⟨0, _⟩ => exact Nat.le_refl 1
    | ⟨1, _⟩ => exact (show q.val / 4 + 1 ≤ 8 by omega)
    | ⟨2, _⟩ => exact (show q.val % 4 + 1 ≤ 4 by omega)
    | ⟨3, _⟩ => exact Nat.le_refl 144
    | ⟨4, _⟩ => exact Nat.le_refl 256), k0_pay50 (F := F)⟩

/-- Sixteen stores of 128 query or key columns, the last first. -/
def laneList (f : Fin 16 → FVec F S1024x128 .bf16) : List (View.Piece (Elt F) S1024x2048 .bf16) :=
  List.ofFn fun k : Fin 16 => ⟨Rect.unit ![0, 128 * (15 - k.val)] ![1024, 128] (by
    intro a; match a with
    | ⟨0, _⟩ => exact Nat.le_refl 1024
    | ⟨1, _⟩ => exact (show 128 * (15 - k.val) + 128 ≤ 2048 by omega)), f ⟨15 - k.val, by omega⟩⟩

/-- The stores of values and ones, the last first. -/
def tileList (y : FVec F S1024x1024 .bf16) : List (View.Piece (Elt F) S1x8x4x144x256 .bf16) :=
  (List.ofFn fun k : Fin 32 => [onesPiece ⟨31 - k.val, by omega⟩, tilePiece y ⟨31 - k.val, by omega⟩]).flatten

variable (m : (ℓ : Loc nD τ sig) → Buf (Elt F) ℓ)

/-- The query and key block a grid point leaves. -/
theorem lanes_open (c : Dev nD) (t : Fin cfg0.N) :
    (outsAt0 m c t).1 = View.canon (laneList (lanes (k0_pay2 (iblk m c 0 t) (iblk m c 1 t)) (iblk m c 2 t) (iblk m c 3 t))) := by
  unfold outsAt0 out0_A_5
  dsimp only
  rw [View.read_writes_junk_eq_canon]
  unfold kernelRun0_A
  dsimp only
  sl_unfold_words
  simp (disch := decide) only [View.readAt_eq_ld, (hs0_0 t).read_unread, (hs0_1 t).read_unread, (hs0_2 t).read_unread, (hs0_3 t).read_unread,
    (hs0_4 t).read_unread]
  generalize iblk m c 0 t = x0
  generalize iblk m c 1 t = x1
  generalize iblk m c 2 t = x2
  generalize iblk m c 3 t = x3
  generalize iblk m c 4 t = x4
  have l0 : ∀ x : Vec F S1024x1024 .f32, View.ld x (Rect.unit ![0, 0] ![1024, 1024] inb_S1024x1024_S1024x1024_0_0) = x := fun x => View.ld_unit_lit (S := S1024x1024) _ x (by decide)
  have l1 : ∀ x : Vec F S1x1024 .f32, View.ld x (Rect.unit ![0, 0] ![1, 1024] inb_S1x1024_S1x1024_0_0) = x := fun x => View.ld_unit_lit (S := S1x1024) _ x (by decide)
  rw [l0, l1]
  rfl

/-- The block of transposed values a grid point leaves. -/
theorem tiles_open (c : Dev nD) (t : Fin cfg0.N) :
    (outsAt0 m c t).2 = View.canon (tileList (k0_pay48 (k0_pay2 (iblk m c 0 t) (iblk m c 1 t)) (iblk m c 4 t))) := by
  unfold outsAt0 out0_A_6
  dsimp only
  rw [View.read_writes_junk_eq_canon]
  unfold kernelRun0_A
  dsimp only
  sl_unfold_words
  simp (disch := decide) only [View.readAt_eq_ld, (hs0_0 t).read_unread, (hs0_1 t).read_unread, (hs0_2 t).read_unread, (hs0_3 t).read_unread,
    (hs0_4 t).read_unread]
  generalize iblk m c 0 t = x0
  generalize iblk m c 1 t = x1
  generalize iblk m c 2 t = x2
  generalize iblk m c 3 t = x3
  generalize iblk m c 4 t = x4
  have l0 : ∀ x : Vec F S1024x1024 .f32, View.ld x (Rect.unit ![0, 0] ![1024, 1024] inb_S1024x1024_S1024x1024_0_0) = x := fun x => View.ld_unit_lit (S := S1024x1024) _ x (by decide)
  have l1 : ∀ x : Vec F S1x1024 .f32, View.ld x (Rect.unit ![0, 0] ![1, 1024] inb_S1x1024_S1x1024_0_0) = x := fun x => View.ld_unit_lit (S := S1x1024) _ x (by decide)
  have l4 : ∀ x : Vec F S1024x1024 .bf16, View.ld x (Rect.unit ![0, 0] ![1024, 1024] inb_S1024x1024_S1024x1024_0_0) = x := fun x => View.ld_unit_lit (S := S1024x1024) _ x (by decide)
  rw [l0, l1, l4]
  rfl

end Structure

/-! ## The stored values at an index -/

theorem pay2_at (x0 : Vec Ideal S1024x1024 .f32) (x1 : Vec Ideal S1x1024 .f32) (r k : Fin 1024) :
    k0_pay2 x0 x1 (ix2 r k) = Cert.Ffn.rms (fun z => x0 (ix2 r z)) (fun z => x1 (ix2 0 z)) k := by
  unfold Cert.Ffn.rms
  pointwise [k0_pay2]

theorem pay9_at (u : FVec Ideal S1024x1024 .bf16) (w : Vec Ideal S1024x256 .bf16) (r : Fin 1024) (j : Fin 256) :
    k0_pay9 u w (ix2 r j) = ∑ k : Fin 1024, u (ix2 r k) * w (ix2 k j) := by
  pointwise [k0_pay9]

theorem pay48_at (u : FVec Ideal S1024x1024 .bf16) (w : Vec Ideal S1024x1024 .bf16) (j r : Fin 1024) :
    k0_pay48 u w (ix2 j r) = ∑ k : Fin 1024, w (ix2 j k) * u (ix2 r k) := by
  pointwise [k0_pay48]

/-- A row `y` of a product, normalised over its groups of 64 columns, at column `j`. -/
def headNorm (y : Fin 2048 → EReal) (j : Fin 2048) : EReal :=
  y j * Ideal.rsqrt ((∑ z : Fin 64, y ⟨64 * (j.val / 64) + z.val, by omega⟩ * y ⟨64 * (j.val / 64) + z.val, by omega⟩)
    * Ideal.ofBits FTy.f32 1015021568#32 + Ideal.ofBits FTy.f32 897988541#32)

theorem sum_low (g : Fin 128 → EReal) :
    ∑ x : Fin 128, Scalar.select (IntOp.cmpi CmpIPredicate.slt (BitVec.ofNat 32 (x : ℕ)) 64#32) (g x) 0 = ∑ z : Fin 64, g ⟨z.val, by omega⟩ := by
  have h := Cert.Band.sum_lower (fun _ => 1) g
  simpa only [one_mul] using h

theorem sum_high (g : Fin 128 → EReal) :
    ∑ x : Fin 128, Scalar.select (IntOp.cmpi CmpIPredicate.slt (BitVec.ofNat 32 (x : ℕ)) 64#32) 0 (g x) = ∑ z : Fin 64, g ⟨64 + z.val, by omega⟩ := by
  have h := Cert.Band.sum_upper (fun _ => 1) g
  simpa only [one_mul] using h

theorem pay12_at (y : FVec Ideal S1024x128 .f32) (g : Vec Ideal S1x128 .f32) (r : Fin 1024) (l : Fin 128) :
    k0_pay12 k0_pay3 y (mulf y y) (Scalar.ofBits (F := Ideal) .f32 0x00000000#32) g (ix2 r l)
      = y (ix2 r l) * Ideal.rsqrt ((∑ z : Fin 64, y (ix2 r ⟨64 * (l.val / 64) + z.val, by omega⟩) * y (ix2 r ⟨64 * (l.val / 64) + z.val, by omega⟩))
          * Ideal.ofBits FTy.f32 1015021568#32 + Ideal.ofBits FTy.f32 897988541#32) * g (ix2 0 l) := by
  pointwise [k0_pay12, k0_pay3]
  rw [sum_low (fun x => y (ix2 r x) * y (ix2 r x)), sum_high (fun x => y (ix2 r x) * y (ix2 r x)), Cert.Band.lane_cmp l]
  by_cases h : l.val < 64
  · have e : ∀ z : Fin 64, (⟨64 * (l.val / 64) + z.val, by omega⟩ : Fin 128) = ⟨z.val, by omega⟩ := fun z => Fin.ext (by dsimp only; omega)
    simp only [if_pos h, e]
    rfl
  · have e : ∀ z : Fin 64, (⟨64 * (l.val / 64) + z.val, by omega⟩ : Fin 128) = ⟨64 + z.val, by omega⟩ := fun z => Fin.ext (by dsimp only; omega)
    simp only [if_neg h, e]
    rfl

theorem halfOf_at (y : FVec Ideal S1024x256 .f32) (h : Fin 2) (r : Fin 1024) (l : Fin 128) :
    halfOf y h (ix2 r l) = y (ix2 r ⟨128 * h.val + l.val, by omega⟩) := by
  unfold halfOf
  pointwise

theorem ldW (x2 : Vec Ideal S1024x2048 .bf16) (o : ℕ) (ho : o + 256 ≤ 2048) (inb) (k : Fin 1024) (j : Fin 256) :
    View.ld (Val := Elt Ideal) (e' := .bf16) x2 (Rect.unit ![0, o] ![1024, 256] inb) (ix2 k j) = x2 (ix2 k ⟨o + j.val, by omega⟩) := by
  refine View.ld_unit_apply_of _ _ _ _ _ _ fun a => ?_
  fin_cases a <;> simp [ix2]

theorem ldG (x3 : Vec Ideal S1x2048 .f32) (o : ℕ) (ho : o + 128 ≤ 2048) (inb) (j : Fin 128) :
    View.ld (Val := Elt Ideal) (e' := .f32) x3 (Rect.unit ![0, o] ![1, 128] inb) (ix2 0 j) = x3 (ix2 0 ⟨o + j.val, by omega⟩) := by
  refine View.ld_unit_apply_of _ _ _ _ _ _ fun a => ?_
  fin_cases a <;> simp [ix2]

/-- Store `p`, at row `r` and lane `l`. -/
theorem lanes_at (u : FVec Ideal S1024x1024 .bf16) (x2 : Vec Ideal S1024x2048 .bf16) (x3 : Vec Ideal S1x2048 .f32) (p : Fin 16) (r : Fin 1024) (l : Fin 128)
    (j : Fin 2048) (hj : 128 * p.val + l.val = j.val) :
    lanes u x2 x3 p (ix2 r l) = headNorm (fun j => ∑ k : Fin 1024, u (ix2 r k) * x2 (ix2 k j)) j * x3 (ix2 0 j) := by
  have e : ∀ (a : Fin 128) (b : Fin 2048), 128 * p.val + a.val = b.val →
      (⟨256 * (p.val / 2) + (128 * (p.val % 2) + a.val), by omega⟩ : Fin 2048) = b := fun a b h => Fin.ext (by dsimp only; omega)
  have e1 : (⟨128 * p.val + l.val, by omega⟩ : Fin 2048) = j := Fin.ext hj
  have e2 : ∀ z : Fin 64, (⟨256 * (p.val / 2) + (128 * (p.val % 2) + (64 * (l.val / 64) + z.val)), by omega⟩ : Fin 2048)
      = ⟨64 * (j.val / 64) + z.val, by omega⟩ := fun z => Fin.ext (by dsimp only; omega)
  unfold lanes headNorm
  dsimp only
  rw [pay12_at, ldG _ _ (by omega)]
  simp only [halfOf_at, pay9_at, e1]
  simp only [ldW x2 (256 * (p.val / 2)) (by omega), e l j hj, e2]

theorem tileOf_at (y : FVec Ideal S1024x1024 .bf16) (q : Fin 32) (l : Fin 128) (x : Fin 256) :
    tileOf y q (ix5 0 0 0 l x) = y (ix2 ⟨128 * (q.val / 4) + l.val, by omega⟩ ⟨256 * (q.val % 4) + x.val, by omega⟩) := by
  unfold tileOf
  pointwise [k0_pay52]

theorem pay50_at (l : Fin 16) (x : Fin 256) : k0_pay50 (F := Ideal) (ix5 0 0 0 l x) = (1 : EReal) := by
  pointwise [k0_pay50]

/-- A block of sixteen stores at row `r`, column `j`. -/
theorem stores_canon (f : Fin 16 → FVec Ideal S1024x128 .bf16) (v : Fin 1024 → Fin 2048 → EReal)
    (hf : ∀ (p : Fin 16) (r : Fin 1024) (l : Fin 128) (j : Fin 2048), 128 * p.val + l.val = j.val → f p (ix2 r l) = v r j) (r : Fin 1024) (j : Fin 2048) :
    View.canon (laneList f) (ix2 r j) = v r j := by
  unfold laneList
  refine View.canon_ofFn_unit_eq_of_forall (S := S1024x2048) (fun k : Fin 16 => ![0, 128 * (15 - k.val)]) ![1024, 128] _ _ _ _ ⟨⟨15 - j.val / 128, by omega⟩, fun a => ?_⟩ fun k x hx => ?_
  · match a with
    | ⟨0, _⟩ => exact ⟨Nat.zero_le _, (Nat.zero_add 1024).symm ▸ r.isLt⟩
    | ⟨1, _⟩ =>
      show 128 * (15 - (15 - j.val / 128)) ≤ j.val ∧ j.val < 128 * (15 - (15 - j.val / 128)) + 128
      omega
  · have h0 : r.val = 0 + (x 0).val := hx 0
    have h1 : j.val = 128 * (15 - k.val) + (x 1).val := hx 1
    have hl : (x 1).val < 128 := (x 1).isLt
    have ex : x = ix2 r (⟨(x 1).val, hl⟩ : Fin 128) := by
      funext a
      fin_cases a
      exacts [Fin.ext (h0.trans (Nat.zero_add _)).symm, rfl]
    exact (congrArg (f ⟨15 - k.val, by omega⟩) ex).trans (hf ⟨15 - k.val, by omega⟩ r ⟨(x 1).val, hl⟩ j h1.symm)

/-- The query and key block at row `r`, column `j`. -/
theorem lanes_canon (u : FVec Ideal S1024x1024 .bf16) (x2 : Vec Ideal S1024x2048 .bf16) (x3 : Vec Ideal S1x2048 .f32) (r : Fin 1024) (j : Fin 2048) :
    View.canon (laneList (lanes u x2 x3)) (ix2 r j) = headNorm (fun j => ∑ k : Fin 1024, u (ix2 r k) * x2 (ix2 k j)) j * x3 (ix2 0 j) :=
  stores_canon (lanes u x2 x3) (fun r j => headNorm (fun j => ∑ k : Fin 1024, u (ix2 r k) * x2 (ix2 k j)) j * x3 (ix2 0 j)) (lanes_at u x2 x3) r j

/-- The block of transposed values at group `p`, tile `n`, row `l` and column `x`. -/
theorem tiles_canon (y : FVec Ideal S1024x1024 .bf16) (p : Fin 8) (n : Fin 4) (l : Fin 144) (x : Fin 256) :
    View.canon (tileList y) (ix5 0 p n l x)
      = if h : l.val < 128 then y (ix2 ⟨128 * p.val + l.val, by omega⟩ ⟨256 * n.val + x.val, by omega⟩) else (1 : EReal) := by
  have hm : ∀ P : View.Piece (Elt Ideal) S1x8x4x144x256 .bf16, P ∈ tileList y ↔ ∃ q : Fin 32, P = onesPiece q ∨ P = tilePiece y q := fun P => by
    unfold tileList
    rw [List.mem_flatten]
    constructor
    · rintro ⟨L, hL, hP⟩
      obtain ⟨k, rfl⟩ := List.mem_ofFn.1 hL
      refine ⟨⟨31 - k.val, by omega⟩, ?_⟩
      rcases List.mem_cons.1 hP with h | h
      · exact Or.inl h
      · exact Or.inr (List.mem_singleton.1 h)
    · rintro ⟨q, h⟩
      refine ⟨_, List.mem_ofFn.2 ⟨⟨31 - q.val, by omega⟩, rfl⟩, ?_⟩
      have e : (⟨31 - (31 - q.val), by omega⟩ : Fin 32) = q := Fin.ext (by dsimp only; omega)
      dsimp only
      rw [e]
      rcases h with h | h
      · exact h ▸ List.mem_cons_self
      · exact h ▸ List.mem_cons_of_mem _ (List.mem_singleton.2 rfl)
  have hq : ∃ q : Fin 32, q.val = 4 * p.val + n.val := ⟨⟨4 * p.val + n.val, by omega⟩, rfl⟩
  refine View.canon_eq_of_allAt _ _ _ ?_ fun P hP z hz => ?_
  · obtain ⟨q, hq⟩ := hq
    by_cases h : l.val < 128
    · refine ⟨tilePiece y q, (hm _).2 ⟨q, Or.inr rfl⟩, ?_⟩
      unfold tilePiece
      dsimp only
      refine Rect.mem_set_unit.2 fun a => ?_
      match a with
      | ⟨0, _⟩ => exact ⟨Nat.le_refl 0, Nat.one_pos⟩
      | ⟨1, _⟩ => show q.val / 4 ≤ p.val ∧ p.val < q.val / 4 + 1; omega
      | ⟨2, _⟩ => show q.val % 4 ≤ n.val ∧ n.val < q.val % 4 + 1; omega
      | ⟨3, _⟩ => show 0 ≤ l.val ∧ l.val < 0 + 128; omega
      | ⟨4, _⟩ => show 0 ≤ x.val ∧ x.val < 0 + 256; omega
    · refine ⟨onesPiece q, (hm _).2 ⟨q, Or.inl rfl⟩, ?_⟩
      unfold onesPiece
      dsimp only
      refine Rect.mem_set_unit.2 fun a => ?_
      match a with
      | ⟨0, _⟩ => exact ⟨Nat.le_refl 0, Nat.one_pos⟩
      | ⟨1, _⟩ => show q.val / 4 ≤ p.val ∧ p.val < q.val / 4 + 1; omega
      | ⟨2, _⟩ => show q.val % 4 ≤ n.val ∧ n.val < q.val % 4 + 1; omega
      | ⟨3, _⟩ => show 128 ≤ l.val ∧ l.val < 128 + 16; omega
      | ⟨4, _⟩ => show 0 ≤ x.val ∧ x.val < 0 + 256; omega
  · obtain ⟨q, rfl | rfl⟩ := (hm P).1 hP
    · have hz3 : 128 + 1 * (z 3).val = l.val := congrArg (fun i : S1x8x4x144x256.Idx => (i 3).val) hz
      rw [dif_neg (by omega)]
      have h0 : (z 0).val < 1 := (z 0).isLt
      have h1 : (z 1).val < 1 := (z 1).isLt
      have h2 : (z 2).val < 1 := (z 2).isLt
      have h3 : (z 3).val < 16 := (z 3).isLt
      have h4 : (z 4).val < 256 := (z 4).isLt
      have ez : z = ix5 (0 : Fin 1) (0 : Fin 1) (0 : Fin 1) (⟨(z 3).val, h3⟩ : Fin 16) (⟨(z 4).val, h4⟩ : Fin 256) := by
        funext a
        fin_cases a
        exacts [Fin.ext (Nat.lt_one_iff.1 h0), Fin.ext (Nat.lt_one_iff.1 h1), Fin.ext (Nat.lt_one_iff.1 h2), rfl, rfl]
      exact (congrArg (k0_pay50 (F := Ideal)) ez).trans (pay50_at _ _)
    · have hz1 : q.val / 4 + 1 * (z 1).val = p.val := congrArg (fun i : S1x8x4x144x256.Idx => (i 1).val) hz
      have hz2 : q.val % 4 + 1 * (z 2).val = n.val := congrArg (fun i : S1x8x4x144x256.Idx => (i 2).val) hz
      have hz3 : 0 + 1 * (z 3).val = l.val := congrArg (fun i : S1x8x4x144x256.Idx => (i 3).val) hz
      have hz4 : 0 + 1 * (z 4).val = x.val := congrArg (fun i : S1x8x4x144x256.Idx => (i 4).val) hz
      have h0 : (z 0).val < 1 := (z 0).isLt
      have h1 : (z 1).val < 1 := (z 1).isLt
      have h2 : (z 2).val < 1 := (z 2).isLt
      have h3 : (z 3).val < 128 := (z 3).isLt
      have h4 : (z 4).val < 256 := (z 4).isLt
      rw [dif_pos (by omega)]
      have ez : z = ix5 (0 : Fin 1) (0 : Fin 1) (0 : Fin 1) (⟨(z 3).val, h3⟩ : Fin 128) (⟨(z 4).val, h4⟩ : Fin 256) := by
        funext a
        fin_cases a
        exacts [Fin.ext (Nat.lt_one_iff.1 h0), Fin.ext (Nat.lt_one_iff.1 h1), Fin.ext (Nat.lt_one_iff.1 h2), rfl, rfl]
      refine (congrArg (tileOf y q) ez).trans ((tileOf_at y q _ _).trans (congrArg y ((ix2_inj _ _ _ _).2 ⟨Fin.ext ?_, Fin.ext ?_⟩)))
      · show 128 * (q.val / 4) + (z 3).val = 128 * p.val + l.val
        omega
      · show 256 * (q.val % 4) + (z 4).val = 256 * n.val + x.val
        omega

end Cert.Np

end
-- ==== Proof.NpArray.lean ====
/-
  The two result arrays of the norm and projection of an odd layer: every grid point's blocks are blocks of functions of the arrays the call
  reads.
-/
module

public import proofs.«01_k».proof.Proof.NpBlock
public import Idealize.ShloMosaic.Lib.Pipeline.Covers

@[expose] public section

set_option maxRecDepth 16384

noncomputable section

namespace Cert.Np

open Cert.Kernel4Ideal Cert.Kernel4Ideal.Gen Idealize.ShloMosaic Idealize.ShloMosaic.TcCoe Idealize.SL.Sem
open Idealize.ShloMosaic.Pipeline (Dat)

/-! ## The windows' blocks in their arrays -/

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![(grid0.coords t 0).val, 0] := by decide +kernel
theorem idx6 : ∀ t : Fin grid0.N, win0_6.index t = ![(grid0.coords t 0).val / 8, 0, (grid0.coords t 0).val % 8, 0, 0] := by decide +kernel

/-- The transposed values' block of a grid coordinate. -/
theorem map6 : ∀ n : Fin 64, cc0_transform_6 (fun a => match a with | 0 => n) = ![n.val / 8, 0, n.val % 8, 0, 0] := by decide +kernel

theorem ct (t : Fin grid0.N) : (grid0.coords t 0).val < 64 := (grid0.coords t 0).isLt

/-! ## The result arrays -/

section Array

variable (H : S65536x1024.Idx → EReal) (G : S1x1024.Idx → EReal) (W : S1024x2048.Idx → EReal) (Q : S1x2048.Idx → EReal) (Wv : S1024x1024.Idx → EReal)

/-- Row `t`, normalised. -/
def arrU (t : Fin 65536) (k : Fin 1024) : EReal := Cert.Ffn.rms (fun z => H (ix2 t z)) (fun z => G (ix2 0 z)) k

/-- The first result at row `t`, column `j`. -/
def arrLane (t : Fin 65536) (j : Fin 2048) : EReal := headNorm (fun j => ∑ k : Fin 1024, arrU H G t k * W (ix2 k j)) j * Q (ix2 0 j)

/-- The second result: value column `128 p + l` of position `256 n + x` of batch `b`, and ones below the values. -/
def arrTile (b p : Fin 8) (n : Fin 32) (l : Fin 144) (x : Fin 256) : EReal :=
  if h : l.val < 128 then ∑ k : Fin 1024, Wv (ix2 ⟨128 * p.val + l.val, by omega⟩ k) * arrU H G ⟨8192 * b.val + 256 * n.val + x.val, by omega⟩ k else 1

theorem read0_eq (t : Fin cfg0.N) (r k : Fin 1024) :
    ((cfg0.win 0).blk t).view.read (Elt Ideal) H (ix2 r k) = H (ix2 ⟨1024 * (grid0.coords t 0).val + r.val, by have := ct t; omega⟩ k) := by
  have h0 := ct t
  blk_ext [idx0 t]

theorem read1_eq (t : Fin cfg0.N) (k : Fin 1024) : ((cfg0.win 1).blk t).view.read (Elt Ideal) G (ix2 0 k) = G (ix2 0 k) := by
  blk_ext [idx1 t]
theorem read2_eq (t : Fin cfg0.N) (k : Fin 1024) (j : Fin 2048) : ((cfg0.win 2).blk t).view.read (Elt Ideal) W (ix2 k j) = W (ix2 k j) := by
  blk_ext [idx2 t]
theorem read3_eq (t : Fin cfg0.N) (j : Fin 2048) : ((cfg0.win 3).blk t).view.read (Elt Ideal) Q (ix2 0 j) = Q (ix2 0 j) := by
  blk_ext [idx3 t]
theorem read4_eq (t : Fin cfg0.N) (a k : Fin 1024) : ((cfg0.win 4).blk t).view.read (Elt Ideal) Wv (ix2 a k) = Wv (ix2 a k) := by
  blk_ext [idx4 t]

end Array

section Match

variable {H : S65536x1024.Idx → EReal} {G : S1x1024.Idx → EReal} {W : S1024x2048.Idx → EReal} {Q : S1x2048.Idx → EReal} {Wv : S1024x1024.Idx → EReal}
variable {x0 : Vec Ideal S1024x1024 .f32} {x1 : Vec Ideal S1x1024 .f32} {x2 : Vec Ideal S1024x2048 .bf16} {x3 : Vec Ideal S1x2048 .f32} {x4 : Vec Ideal S1024x1024 .bf16}
variable {o : Fin 1024 → Fin 65536} (e0 : ∀ r k : Fin 1024, x0 (ix2 r k) = H (ix2 (o r) k)) (e1 : ∀ k : Fin 1024, x1 (ix2 0 k) = G (ix2 0 k))
  (e2 : ∀ (k : Fin 1024) (j : Fin 2048), x2 (ix2 k j) = W (ix2 k j)) (e3 : ∀ j : Fin 2048, x3 (ix2 0 j) = Q (ix2 0 j))
  (e4 : ∀ a k : Fin 1024, x4 (ix2 a k) = Wv (ix2 a k))

include e0 e1 in
theorem u_eq (r k : Fin 1024) : k0_pay2 x0 x1 (ix2 r k) = arrU H G (o r) k := by
  rw [pay2_at]
  unfold arrU
  simp only [e0, e1]

include e0 e1 e2 e3 in
theorem lane_eq (r : Fin 1024) (j : Fin 2048) : View.canon (laneList (lanes (k0_pay2 x0 x1) x2 x3)) (ix2 r j) = arrLane H G W Q (o r) j := by
  rw [lanes_canon]
  unfold arrLane
  simp only [u_eq e0 e1, e2, e3]

include e0 e1 e4 in
theorem tile_eq (p : Fin 8) (n : Fin 4) (l : Fin 144) (x : Fin 256) (b : Fin 8) (n' : Fin 32)
    (ho : ∀ r : Fin 1024, r.val = 256 * n.val + x.val → (o r).val = 8192 * b.val + 256 * n'.val + x.val) :
    View.canon (tileList (k0_pay48 (k0_pay2 x0 x1) x4)) (ix5 0 p n l x) = arrTile H G Wv b p n' l x := by
  rw [tiles_canon]
  unfold arrTile
  by_cases h : l.val < 128
  · have e : (⟨8192 * b.val + 256 * n'.val + x.val, by omega⟩ : Fin 65536) = o ⟨256 * n.val + x.val, by omega⟩ := Fin.ext (ho _ rfl).symm
    rw [dif_pos h, dif_pos h, pay48_at, e]
    simp only [u_eq e0 e1, e4]
  · rw [dif_neg h, dif_neg h]

end Match

variable (m : (ℓ : Loc nD τ sig) → Buf (Elt Ideal) ℓ)

/-- Row `r` of a grid point's tile. -/
def rowOf (t : Fin cfg0.N) (r : Fin 1024) : Fin 65536 := ⟨1024 * (grid0.coords t 0).val + r.val, by have := ct t; omega⟩

/-- The first result array after the run. -/
theorem arrAt5_eq (c : Dev nD) :
    (dats m 0 c).arrAt 5 cfg0.N
      = fun y : S65536x2048.Idx => arrLane (V m c main_v13) (V m c main_v17) (V m c main_v14) (V m c main_v18) (y 0) (y 1) := by
  refine (dats m 0 c).arrAt_eq_of_covers 5 _ ((cfg0.win 5).covers_of_indexMap_surj rfl (by decide)
    fun β => ⟨(fun a => match a with | 0 => (⟨(β 0).val, (β 0).isLt⟩ : Fin 64)), fun a => ?_⟩) fun t hf y => ?_
  · match a with
    | 0 => exact (BitVec.toNat_ofNat _ _).trans (Nat.mod_eq_of_lt (lt_of_lt_of_le (show (β 0).val < 64 from (β 0).isLt) (by decide)))
    | 1 =>
      have h : (β 1).val < 1 := (β 1).isLt
      show 0 = (β 1).val
      omega
  · blk_simp
    rw [after0_5]
    have h0 : (y 0).val < 1024 := (y 0).isLt
    have h1 : (y 1).val < 2048 := (y 1).isLt
    have hy : y = (ix2 ⟨(y 0).val, h0⟩ ⟨(y 1).val, h1⟩ : S1024x2048.Idx) := by
      funext a
      fin_cases a <;> rfl
    refine (congrArg (outsAt0 m c t).1 hy).trans ?_
    rw [lanes_open]
    refine (lane_eq (o := rowOf t) (read0_eq (V m c main_v13) t) (read1_eq (V m c main_v17) t) (read2_eq (V m c main_v14) t) (read3_eq (V m c main_v18) t) _ _).trans ?_
    have e0 : (win0_5.blk t).view.emb y 0 = rowOf t ⟨(y 0).val, h0⟩ :=
      Fin.ext (by blk_simp [idx5 t]; exact congrArg (· + (y 0).val) (Nat.mul_comm _ _))
    have e1 : (win0_5.blk t).view.emb y 1 = ⟨(y 1).val, h1⟩ := Fin.ext (by blk_simp [idx5 t])
    rw [e0, e1]
    rfl

/-- The second result array after the run. -/
theorem arrAt6_eq (c : Dev nD) :
    (dats m 0 c).arrAt 6 cfg0.N
      = fun y : S8x8x32x144x256.Idx => arrTile (V m c main_v13) (V m c main_v17) (V m c main_v16) (y 0) (y 1) (y 2) (y 3) (y 4) := by
  refine (dats m 0 c).arrAt_eq_of_covers 6 _ ((cfg0.win 6).covers_of_indexMap_surj rfl (by decide)
    fun β => ⟨(fun a => match a with | 0 => (⟨8 * (β 0).val + (β 2).val, by
      have h0 : (β 0).val < 8 := (β 0).isLt
      have h2 : (β 2).val < 8 := (β 2).isLt
      exact (show 8 * (β 0).val + (β 2).val < 64 by omega)⟩ : Fin 64)), fun a => ?_⟩) fun t hf y => ?_
  · have h0 : (β 0).val < 8 := (β 0).isLt
    have h1 : (β 1).val < 1 := (β 1).isLt
    have h2 : (β 2).val < 8 := (β 2).isLt
    have h3 : (β 3).val < 1 := (β 3).isLt
    have h4 : (β 4).val < 1 := (β 4).isLt
    refine (congrFun (map6 ⟨8 * (β 0).val + (β 2).val, by omega⟩) a).trans ?_
    match a with
    | 0 => show (8 * (β 0).val + (β 2).val) / 8 = (β 0).val; omega
    | 1 => show 0 = (β 1).val; omega
    | 2 => show (8 * (β 0).val + (β 2).val) % 8 = (β 2).val; omega
    | 3 => show 0 = (β 3).val; omega
    | 4 => show 0 = (β 4).val; omega
  · blk_simp
    rw [after0_6]
    have hc := ct t
    have h0 : (y 0).val < 1 := (y 0).isLt
    have h1 : (y 1).val < 8 := (y 1).isLt
    have h2 : (y 2).val < 4 := (y 2).isLt
    have h3 : (y 3).val < 144 := (y 3).isLt
    have h4 : (y 4).val < 256 := (y 4).isLt
    have hy : y = (ix5 0 ⟨(y 1).val, h1⟩ ⟨(y 2).val, h2⟩ ⟨(y 3).val, h3⟩ ⟨(y 4).val, h4⟩ : S1x8x4x144x256.Idx) := by
      funext a
      fin_cases a
      exacts [Fin.ext (Nat.lt_one_iff.1 h0), rfl, rfl, rfl, rfl]
    refine (congrArg (outsAt0 m c t).2 hy).trans ?_
    rw [tiles_open]
    refine (tile_eq (o := rowOf t) (read0_eq (V m c main_v13) t) (read1_eq (V m c main_v17) t) (read4_eq (V m c main_v16) t) _ _ _ _
      ⟨(grid0.coords t 0).val / 8, by omega⟩ ⟨4 * ((grid0.coords t 0).val % 8) + (y 2).val, by omega⟩ fun r hr => ?_).trans ?_
    · dsimp only at hr
      show 1024 * (grid0.coords t 0).val + r.val = 8192 * ((grid0.coords t 0).val / 8) + 256 * (4 * ((grid0.coords t 0).val % 8) + (y 2).val) + (y 4).val
      omega
    have e0 : (win0_6.blk t).view.emb y 0 = ⟨(grid0.coords t 0).val / 8, by exact (show (grid0.coords t 0).val / 8 < 8 by omega)⟩ := Fin.ext (by blk_simp [idx6 t])
    have e1 : (win0_6.blk t).view.emb y 1 = ⟨(y 1).val, h1⟩ := Fin.ext (by blk_simp [idx6 t])
    have e2 : (win0_6.blk t).view.emb y 2 = ⟨4 * ((grid0.coords t 0).val % 8) + (y 2).val, by exact (show 4 * ((grid0.coords t 0).val % 8) + (y 2).val < 32 by omega)⟩ :=
      Fin.ext (by blk_simp [idx6 t]; exact congrArg (· + (y 2).val) (Nat.mul_comm _ _))
    have e3 : (win0_6.blk t).view.emb y 3 = ⟨(y 3).val, h3⟩ := Fin.ext (by blk_simp [idx6 t])
    have e4 : (win0_6.blk t).view.emb y 4 = ⟨(y 4).val, h4⟩ := Fin.ext (by blk_simp [idx6 t])
    rw [e0, e1, e2, e3, e4]
    rfl

end Cert.Np

end
-- ==== Proof.NpHost.lean ====
/-
  The arrays that the norm and projection call of an odd layer reads, at an index, in terms of the arguments.
-/
module

public import proofs.«01_k».proof.Proof.NpArray
public import proofs.«01_k».proof.Proof.BandHost
public import Idealize.ShloMosaic.Lib.StableHlo.RunRead

@[expose] public section

set_option maxRecDepth 16384

noncomputable section

namespace Cert.Np

open Cert.Kernel4Ideal Cert.Kernel4Ideal.Gen Idealize.ShloMosaic Idealize.ShloMosaic.TcCoe Idealize.SL.Sem
open StableHlo

variable (m : (ℓ : Loc nD τ sig) → Buf (Elt Ideal) ℓ) (c : Dev nD)

/-- The residual stream. -/
abbrev argH : S8x8192x1024.Idx → EReal := m (c.tc.loc main_arg0)
/-- The norm's gain. -/
abbrev argG : S1024.Idx → EReal := m (c.tc.loc main_arg1)
/-- The projection's weight. -/
abbrev argW : S1024x3072.Idx → EReal := m (c.tc.loc main_arg2)
/-- The query norm's gain. -/
abbrev argQ : S64.Idx → EReal := m (c.tc.loc main_arg3)
/-- The key norm's gain. -/
abbrev argK : S64.Idx → EReal := m (c.tc.loc main_arg4)

theorem host_h (t : Fin 65536) (k : Fin 1024) : V m c main_v13 (ix2 t k) = argH m c (ix3 ⟨t.val / 8192, by omega⟩ ⟨t.val % 8192, by omega⟩ k) := by
  unfold V
  after_reads_simp
  pointwise

theorem host_g (k : Fin 1024) : V m c main_v17 (ix2 0 k) = argG m c (ix1 k) := by
  unfold V
  after_reads_simp
  pointwise

theorem host_w (k : Fin 1024) (j : Fin 2048) : V m c main_v14 (ix2 k j) = argW m c (ix2 k ⟨j.val, by omega⟩) := by
  unfold V
  after_reads_simp
  pointwise

theorem host_wv (a k : Fin 1024) : V m c main_v16 (ix2 a k) = argW m c (ix2 k ⟨2048 + a.val, by omega⟩) := by
  unfold V
  after_reads_simp
  pointwise

theorem host_q (h : Fin 16) (z : Fin 64) :
    V m c main_v18 (ix2 0 ⟨64 * h.val + z.val, by omega⟩) = argQ m c (ix1 z) * (Ideal.ofBits FTy.f32 1040187392#32 * Cert.Band.log2e) := by
  unfold V
  after_reads_simp
  pointwise
  rw [dif_pos (by omega)]
  after_reads_simp
  pointwise [Cert.Band.log2e]
  exact congrArg (fun i => argQ m c (ix1 i) * (Ideal.ofBits FTy.f32 1040187392#32 * Ideal.div 1 (Ideal.log (Ideal.ofBits FTy.f32 1073741824#32))))
    (Fin.ext (show (64 * h.val + z.val) % 64 = z.val by omega))

theorem host_k (h : Fin 16) (z : Fin 64) :
    V m c main_v18 (ix2 0 ⟨1024 + (64 * h.val + z.val), by omega⟩) = argK m c (ix1 z) := by
  unfold V
  after_reads_simp
  pointwise
  after_reads_simp
  pointwise

end Cert.Np

end
-- ==== Proof.NpRef.lean ====
/-
  The reference of the norm and projection of an odd layer, at an index.
-/
module

public import proofs.«01_k».proof.Proof.Gen.Reference4Ideal.Read
public import proofs.«01_k».proof.Proof.FfnBlock
public import Idealize.ShloMosaic.Lib.Pointwise

@[expose] public section

set_option maxRecDepth 16384

noncomputable section

namespace Cert.NpRef

open Cert.Reference4Ideal Cert.Reference4Ideal.Gen Cert.Reference4Ideal.Read Idealize.ShloMosaic Idealize.ShloMosaic.TcCoe Idealize.SL.Sem

/-- A head of 64 lanes, normalised to mean square one. -/
def refHead (y : Fin 64 → EReal) (z : Fin 64) : EReal :=
  y z * Ideal.rsqrt (Ideal.div (∑ w : Fin 64, y w * y w) (Ideal.ofBits FTy.f32 1115684864#32) + Ideal.ofBits FTy.f32 897988541#32)

section
variable (x0 : S8x8192x1024.Idx → EReal) (x1 : S1024.Idx → EReal) (x2 : S1024x3072.Idx → EReal) (x3 x4 : S64.Idx → EReal)

/-- A position, normalised and projected, at column `j`. -/
def refProj (b : Fin 8) (s : Fin 8192) (j : Fin 3072) : EReal :=
  ∑ k : Fin 1024, Cert.Ffn.rms (fun z => x0 (ix3 b s z)) (fun z => x1 (ix1 z)) k * x2 (ix2 k j)

theorem norm_at (b : Fin 8) (s : Fin 8192) (k : Fin 1024) :
    val_main_v12 (F := Ideal) x0 x1 (ix3 b s k) = Cert.Ffn.rms (fun z => x0 (ix3 b s z)) (fun z => x1 (ix1 z)) k := by
  unfold Cert.Ffn.rms
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem proj_at (b : Fin 8) (s : Fin 8192) (j : Fin 3072) : val_main_v13 (F := Ideal) x0 x1 x2 (ix3 b s j) = refProj x0 x1 x2 b s j := by
  unfold refProj
  pointwise [val_main_v13, norm_at]

theorem query_at (b : Fin 8) (s : Fin 8192) (h : Fin 16) (z : Fin 64) :
    val_main_v17 (F := Ideal) x0 x1 x2 (ix4 b s h z) = refProj x0 x1 x2 b s ⟨64 * h.val + z.val, by omega⟩ := by
  pointwise [val_main_v17, val_main_v14, proj_at]
  exact congrArg (refProj x0 x1 x2 b s) (Fin.ext (congrArg (· + z.val) (Nat.mul_comm _ _)))

theorem key_at (b : Fin 8) (s : Fin 8192) (h : Fin 16) (z : Fin 64) :
    val_main_v36 (F := Ideal) x0 x1 x2 (ix4 b s h z) = refProj x0 x1 x2 b s ⟨1024 + (64 * h.val + z.val), by omega⟩ := by
  pointwise [val_main_v36, val_main_v15, proj_at]
  exact congrArg (refProj x0 x1 x2 b s) (Fin.ext (congrArg (fun n => 1024 + (n + z.val)) (Nat.mul_comm _ _)))

theorem query_norm_at (b : Fin 8) (s : Fin 8192) (h : Fin 16) (z : Fin 64) :
    val_main_v35 (F := Ideal) x0 x1 x2 x3 (ix4 b s h z)
      = Ideal.div (refHead (fun z => refProj x0 x1 x2 b s ⟨64 * h.val + z.val, by omega⟩) z * x3 (ix1 z) * Ideal.ofBits FTy.f32 1040187392#32)
        (Ideal.log (Ideal.ofBits FTy.f32 1073741824#32)) := by
  unfold refHead
  pointwise [val_main_v35, val_main_v34, val_main_v33, val_main_cst_6, val_main_v32, val_main_v31, val_main_cst_5, val_main_v30, val_main_v29, val_main_v28,
    val_main_v27, val_main_v26, val_main_v25, val_main_v24, val_main_v23, val_main_v22, val_main_v21, val_main_v20, val_main_v19, val_main_v18, val_main_cst_2,
    val_main_cst_3, val_main_cst_4, query_at]

theorem key_norm_at (b : Fin 8) (s : Fin 8192) (h : Fin 16) (z : Fin 64) :
    val_main_v49 (F := Ideal) x0 x1 x2 x4 (ix4 b s h z)
      = refHead (fun z => refProj x0 x1 x2 b s ⟨1024 + (64 * h.val + z.val), by omega⟩) z * x4 (ix1 z) := by
  unfold refHead
  pointwise [val_main_v49, val_main_v48, val_main_v47, val_main_v46, val_main_v45, val_main_v44, val_main_v43, val_main_v42, val_main_v41, val_main_v40,
    val_main_v39, val_main_v38, val_main_v37, val_main_cst_7, val_main_cst_8, val_main_cst_9, key_at]

/-- Row `t` of the lanes: a query lane. -/
theorem lane_q (t : Fin 65536) (h : Fin 16) (z : Fin 64) :
    val_main_v56 (F := Ideal) x0 x1 x2 x3 x4 (ix2 t ⟨64 * h.val + z.val, by omega⟩)
      = val_main_v35 (F := Ideal) x0 x1 x2 x3 (ix4 ⟨t.val / 8192, by omega⟩ ⟨t.val % 8192, by omega⟩ h z) := by
  pointwise [val_main_v56, val_main_v52]
  rw [dif_pos (by omega), val_main_v50_apply]
  refine congrArg _ (funext fun a => Fin.ext ?_)
  fin_cases a
  · show (t.val * 1024 + (64 * h.val + z.val)) / 8388608 = t.val / 8192
    omega
  · show (t.val * 1024 + (64 * h.val + z.val)) / 1024 % 8192 = t.val % 8192
    omega
  · show (t.val * 1024 + (64 * h.val + z.val)) / 64 % 16 = h.val
    omega
  · show (t.val * 1024 + (64 * h.val + z.val)) % 64 = z.val
    omega

/-- Row `t` of the lanes: a key lane. -/
theorem lane_k (t : Fin 65536) (h : Fin 16) (z : Fin 64) :
    val_main_v56 (F := Ideal) x0 x1 x2 x3 x4 (ix2 t ⟨1024 + (64 * h.val + z.val), by omega⟩)
      = val_main_v49 (F := Ideal) x0 x1 x2 x4 (ix4 ⟨t.val / 8192, by omega⟩ ⟨t.val % 8192, by omega⟩ h z) := by
  pointwise [val_main_v56, val_main_v52]
  rw [val_main_v51_apply]
  refine congrArg _ (funext fun a => Fin.ext ?_)
  fin_cases a
  · show (t.val * 1024 + (64 * h.val + z.val)) / 8388608 = t.val / 8192
    omega
  · show (t.val * 1024 + (64 * h.val + z.val)) / 1024 % 8192 = t.val % 8192
    omega
  · show (t.val * 1024 + (64 * h.val + z.val)) / 64 % 16 = h.val
    omega
  · show (t.val * 1024 + (64 * h.val + z.val)) % 64 = z.val
    omega

theorem value_at (b : Fin 8) (n : Fin 32) (x : Fin 256) (p : Fin 8) (l : Fin 128) :
    val_main_v53 (F := Ideal) x0 x1 x2 (ix5 b n x p l)
      = refProj x0 x1 x2 b ⟨256 * n.val + x.val, by omega⟩ ⟨2048 + (128 * p.val + l.val), by omega⟩ := by
  rw [val_main_v53_apply]
  pointwise [val_main_v16]
  rw [← proj_at]
  refine congrArg _ (funext fun a => Fin.ext ?_)
  fin_cases a
  · show ((((b.val * 32 + n.val) * 256 + x.val) * 8 + p.val) * 128 + l.val) / 8388608 = b.val
    omega
  · show ((((b.val * 32 + n.val) * 256 + x.val) * 8 + p.val) * 128 + l.val) / 1024 % 8192 = 256 * n.val + x.val
    omega
  · show 2048 + ((((b.val * 32 + n.val) * 256 + x.val) * 8 + p.val) * 128 + l.val) % 1024 = 2048 + (128 * p.val + l.val)
    omega

/-- The second result: a value, or one. -/
theorem tile_at (b p : Fin 8) (n : Fin 32) (l : Fin 144) (x : Fin 256) :
    val_main_v58 (F := Ideal) x0 x1 x2 (ix5 b p n l x)
      = if h : l.val < 128 then refProj x0 x1 x2 b ⟨256 * n.val + x.val, by omega⟩ ⟨2048 + (128 * p.val + l.val), by omega⟩ else 1 := by
  pointwise [val_main_v58, val_main_v57]
  by_cases e : l.val < 128
  · rw [dif_pos e, dif_pos e, ← value_at x0 x1 x2 b n x p ⟨l.val, e⟩]
    pointwise [val_main_v54]
  · rw [dif_neg e, dif_neg e]
    pointwise [val_main_v55, val_main_cst_10]

end

end Cert.NpRef

end
-- ==== Proof.NpEq.lean ====
/-
  The kernel's two arrays of the norm and projection of an odd layer are the reference's.
-/
module

public import proofs.«01_k».proof.Proof.NpHost
public import proofs.«01_k».proof.Proof.NpRef
public import proofs.«01_k».proof.Proof.BandEq

@[expose] public section

set_option maxRecDepth 16384

noncomputable section

namespace Cert.Np

open Cert.Kernel4Ideal Cert.Kernel4Ideal.Gen Cert.NpRef Idealize.ShloMosaic Idealize.ShloMosaic.TcCoe Idealize.SL.Sem

/-! ## Constants -/

/-- Dividing by the head width is multiplying by its inverse's float. -/
theorem div_width (x : EReal) : Ideal.div x (Ideal.ofBits FTy.f32 1115684864#32) = x * Ideal.ofBits FTy.f32 1015021568#32 := by
  have h1 : Ideal.ofBits FTy.f32 1115684864#32 = ((64 : ℝ) : EReal) := by
    simp [Ideal.ofBits, Ideal.ieee]
    rw [← EReal.coe_mul]
    norm_num
  have h2 : Ideal.ofBits FTy.f32 1015021568#32 = (((64 : ℝ)⁻¹ : ℝ) : EReal) := by
    simp [Ideal.ofBits, Ideal.ieee]
    rw [← EReal.coe_mul]
    norm_num
  unfold Ideal.div
  rw [h1, h2, if_neg (by exact_mod_cast (show (64 : ℝ) ≠ 0 by norm_num)), EReal.coe_inv]

/-- Dividing by the logarithm of two is multiplying by the float quotient. -/
theorem div_log (x : EReal) : Ideal.div x (Ideal.log (Ideal.ofBits FTy.f32 1073741824#32)) = x * Cert.Band.log2e := by
  have h2 : Ideal.ofBits FTy.f32 1073741824#32 = ((2 : ℝ) : EReal) := by
    simp [Ideal.ofBits, Ideal.ieee]
    rw [← EReal.coe_mul]
    norm_num
  have hne : ((Real.log 2 : ℝ) : EReal) ≠ 0 := fun h => (Real.log_pos (by norm_num)).ne' (EReal.coe_eq_zero.1 h)
  unfold Cert.Band.log2e Ideal.div
  rw [h2, Ideal.log_coe, if_neg (show ¬ (2 : ℝ) ≤ 0 by norm_num), if_neg hne, if_neg hne, one_mul]

/-- The kernel's norm of the head that a lane lies in is the reference's norm of the head. -/
theorem head_eq (y : Fin 2048 → EReal) (o : Fin 64 → Fin 2048) (g : Fin 32) (ho : ∀ z, (o z).val = 64 * g.val + z.val) (z : Fin 64) :
    headNorm y (o z) = refHead (fun w => y (o w)) z := by
  unfold headNorm refHead
  rw [div_width]
  have e : ∀ (w : Fin 64) (p : 64 * ((o z).val / 64) + w.val < 2048), (⟨64 * ((o z).val / 64) + w.val, p⟩ : Fin 2048) = o w := fun w p =>
    Fin.ext (by have := ho z; have := ho w; dsimp only; omega)
  simp only [e]

section
variable {H : S65536x1024.Idx → EReal} {G : S1x1024.Idx → EReal} {W : S1024x2048.Idx → EReal} {Q : S1x2048.Idx → EReal} {Wv : S1024x1024.Idx → EReal}
  {x0 : S8x8192x1024.Idx → EReal} {x1 : S1024.Idx → EReal} {x2 : S1024x3072.Idx → EReal} {x3 x4 : S64.Idx → EReal}
  (hH : ∀ (t : Fin 65536) (k : Fin 1024), H (ix2 t k) = x0 (ix3 ⟨t.val / 8192, by omega⟩ ⟨t.val % 8192, by omega⟩ k))
  (hG : ∀ k : Fin 1024, G (ix2 0 k) = x1 (ix1 k))
  (hW : ∀ (k : Fin 1024) (j : Fin 2048), W (ix2 k j) = x2 (ix2 k ⟨j.val, by omega⟩))
  (hWv : ∀ a k : Fin 1024, Wv (ix2 a k) = x2 (ix2 k ⟨2048 + a.val, by omega⟩))
  (hQ : ∀ (h : Fin 16) (z : Fin 64), Q (ix2 0 ⟨64 * h.val + z.val, by omega⟩) = x3 (ix1 z) * (Ideal.ofBits FTy.f32 1040187392#32 * Cert.Band.log2e))
  (hK : ∀ (h : Fin 16) (z : Fin 64), Q (ix2 0 ⟨1024 + (64 * h.val + z.val), by omega⟩) = x4 (ix1 z))

theorem row_at {t : Fin 65536} {b : Fin 8} {s : Fin 8192} (e : ∀ k : Fin 1024, H (ix2 t k) = x0 (ix3 b s k)) (g : ∀ k : Fin 1024, G (ix2 0 k) = x1 (ix1 k))
    (k : Fin 1024) : arrU H G t k = Cert.Ffn.rms (fun z => x0 (ix3 b s z)) (fun z => x1 (ix1 z)) k := by
  unfold arrU
  simp only [e, g]

include hH hG in
theorem row_eq (t : Fin 65536) (b : Fin 8) (s : Fin 8192) (hb : b.val = t.val / 8192) (hs : s.val = t.val % 8192) (k : Fin 1024) :
    arrU H G t k = Cert.Ffn.rms (fun z => x0 (ix3 b s z)) (fun z => x1 (ix1 z)) k := by
  have eb : (⟨t.val / 8192, by omega⟩ : Fin 8) = b := Fin.ext hb.symm
  have es : (⟨t.val % 8192, by omega⟩ : Fin 8192) = s := Fin.ext hs.symm
  exact row_at (fun k => (hH t k).trans (by rw [eb, es])) hG k

include hH hG hW in
theorem proj_eq (t : Fin 65536) (j : Fin 2048) :
    (∑ k : Fin 1024, arrU H G t k * W (ix2 k j)) = refProj x0 x1 x2 ⟨t.val / 8192, by omega⟩ ⟨t.val % 8192, by omega⟩ ⟨j.val, by omega⟩ := by
  unfold refProj
  exact Finset.sum_congr rfl fun k _ => congrArg₂ (· * ·) (row_eq hH hG t _ _ rfl rfl k) (hW k j)

include hH hG hW hQ in
theorem query_eq (t : Fin 65536) (h : Fin 16) (z : Fin 64) :
    arrLane H G W Q t ⟨64 * h.val + z.val, by omega⟩
      = Cert.Reference4Ideal.Read.val_main_v56 (F := Ideal) x0 x1 x2 x3 x4 (ix2 t ⟨64 * h.val + z.val, by omega⟩) := by
  rw [lane_q, query_norm_at, div_log]
  unfold arrLane
  rw [head_eq _ (fun z : Fin 64 => ⟨64 * h.val + z.val, by omega⟩) ⟨h.val, by omega⟩ (fun _ => rfl), hQ h z]
  simp only [proj_eq hH hG hW, mul_assoc]

include hH hG hW hK in
theorem key_eq (t : Fin 65536) (h : Fin 16) (z : Fin 64) :
    arrLane H G W Q t ⟨1024 + (64 * h.val + z.val), by omega⟩
      = Cert.Reference4Ideal.Read.val_main_v56 (F := Ideal) x0 x1 x2 x3 x4 (ix2 t ⟨1024 + (64 * h.val + z.val), by omega⟩) := by
  rw [lane_k, key_norm_at]
  unfold arrLane
  rw [head_eq _ (fun z : Fin 64 => ⟨1024 + (64 * h.val + z.val), by omega⟩) ⟨16 + h.val, by omega⟩ (fun _ => by dsimp only; omega), hK h z]
  simp only [proj_eq hH hG hW]

include hH hG hW hQ hK in
theorem lane_out (t : Fin 65536) (j : Fin 2048) :
    arrLane H G W Q t j = Cert.Reference4Ideal.Read.val_main_v56 (F := Ideal) x0 x1 x2 x3 x4 (ix2 t j) := by
  by_cases e : j.val < 1024
  · have hq := query_eq (x4 := x4) hH hG hW hQ t ⟨j.val / 64, by omega⟩ ⟨j.val % 64, by omega⟩
    rwa [show (⟨64 * (j.val / 64) + j.val % 64, by omega⟩ : Fin 2048) = j from Fin.ext (by dsimp only; omega)] at hq
  · have hk := key_eq (x3 := x3) hH hG hW hK t ⟨(j.val - 1024) / 64, by omega⟩ ⟨j.val % 64, by omega⟩
    rwa [show (⟨1024 + (64 * ((j.val - 1024) / 64) + j.val % 64), by omega⟩ : Fin 2048) = j from Fin.ext (by dsimp only; omega)] at hk

include hH hG hWv in
theorem tile_out (b p : Fin 8) (n : Fin 32) (l : Fin 144) (x : Fin 256) :
    arrTile H G Wv b p n l x = Cert.Reference4Ideal.Read.val_main_v58 (F := Ideal) x0 x1 x2 (ix5 b p n l x) := by
  rw [tile_at]
  unfold arrTile refProj
  by_cases e : l.val < 128
  · rw [dif_pos e, dif_pos e]
    refine Finset.sum_congr rfl fun k _ => ?_
    rw [row_eq hH hG _ b ⟨256 * n.val + x.val, by omega⟩ (by dsimp only; omega) (by dsimp only; omega), hWv, mul_comm]
  · rw [dif_neg e, dif_neg e]

end

/-- What the kernel's first result array holds is what the reference computes from the same arguments. -/
theorem arrAt5_ref (m : (ℓ : Loc nD τ sig) → Buf (Elt Ideal) ℓ) (c : Dev nD) :
    (dats m 0 c).arrAt 5 cfg0.N = Cert.Reference4Ideal.Read.val_main_v56 (F := Ideal) (m (c.tc.loc main_arg0)) (m (c.tc.loc main_arg1)) (m (c.tc.loc main_arg2))
      (m (c.tc.loc main_arg3)) (m (c.tc.loc main_arg4)) := by
  rw [arrAt5_eq]
  funext y
  obtain ⟨a, b, rfl⟩ : ∃ (a : Fin 65536) (b : Fin 2048), y = ix2 a b := ⟨y 0, y 1, by funext i; fin_cases i <;> rfl⟩
  exact lane_out (host_h m c) (host_g m c) (host_w m c) (host_q m c) (host_k m c) a b

/-- What the kernel's second result array holds is what the reference computes from the same arguments. -/
theorem arrAt6_ref (m : (ℓ : Loc nD τ sig) → Buf (Elt Ideal) ℓ) (c : Dev nD) :
    (dats m 0 c).arrAt 6 cfg0.N = Cert.Reference4Ideal.Read.val_main_v58 (F := Ideal) (m (c.tc.loc main_arg0)) (m (c.tc.loc main_arg1)) (m (c.tc.loc main_arg2)) := by
  rw [arrAt6_eq]
  funext y
  obtain ⟨b, p, n, l, x, rfl⟩ : ∃ (b p : Fin 8) (n : Fin 32) (l : Fin 144) (x : Fin 256), y = ix5 b p n l x :=
    ⟨y 0, y 1, y 2, y 3, y 4, by funext i; fin_cases i <;> rfl⟩
  exact tile_out (host_h m c) (host_g m c) (host_wv m c) b p n l x

end Cert.Np

end
-- ==== Proof.NpeBlock.lean ====
/-
  One block of the norm and projection of an even layer. The first eight stores, of the first attention's queries and keys, and the stores of the
  values are those of the odd layers' call; the last eight, of the second attention's queries and keys, are not normalised.
-/
module

public import proofs.«01_k».proof.Proof.Gen.Kernel5Ideal.Value
public import proofs.«01_k».proof.Proof.NpBlock

@[expose] public section

set_option maxRecDepth 65536

noncomputable section

namespace Cert.Npe

open Cert.Kernel5Ideal Cert.Kernel5Ideal.Gen Cert.Np Idealize.ShloMosaic Idealize.ShloMosaic.TcCoe Idealize.SL.Sem
open Idealize.ShloMosaic.Pipeline (Dat)

section Structure

variable {F : FTy → Type} [FloatOps F]

/-- The 128 columns of store `p` of the unnormalised columns. -/
def plain (u : FVec F S1024x1024 .bf16) (x2 : Vec F S1024x2048 .bf16) (x3 : Vec F S1x2048 .f32) (p : Fin 16) : FVec F S1024x128 .bf16 :=
  truncf .bf16 (mulf (halfOf (k0_pay27 u (View.ld x2 (Rect.unit ![0, 256 * (p.val / 2)] ![1024, 256] (by
    intro a; match a with
    | ⟨0, _⟩ => exact Nat.le_refl 1024
    | ⟨1, _⟩ => exact (show 256 * (p.val / 2) + 256 ≤ 2048 by omega))))) ⟨p.val % 2, by omega⟩)
    (broadcastTo S1024x128 (shapeCast S1x128 (View.ld x3 (Rect.unit ![0, 128 * p.val] ![1, 128] (by
      intro a; match a with
      | ⟨0, _⟩ => exact Nat.le_refl 1
      | ⟨1, _⟩ => exact (show 128 * p.val + 128 ≤ 2048 by omega)))) shapeCasts_S1x128_S1x128) broadcasts_S1x128_S1024x128)) bitsLt_bf16_f32

/-- Store `p`. -/
def stored (u : FVec F S1024x1024 .bf16) (x2 : Vec F S1024x2048 .bf16) (x3 : Vec F S1x2048 .f32) (p : Fin 16) : FVec F S1024x128 .bf16 :=
  if p.val < 8 then lanes u x2 x3 p else plain u x2 x3 p

variable (m : (ℓ : Loc nD τ sig) → Buf (Elt F) ℓ)

/-- The query and key block a grid point leaves. -/
theorem lanes_open (c : Dev nD) (t : Fin cfg0.N) :
    (outsAt0 m c t).1
      = View.canon (laneList (stored (Cert.Kernel4Ideal.Gen.k0_pay2 (iblk m c 0 t) (iblk m c 1 t)) (iblk m c 2 t) (iblk m c 3 t))) := by
  unfold outsAt0 out0_A_5
  dsimp only
  rw [View.read_writes_junk_eq_canon]
  unfold kernelRun0_A
  dsimp only
  sl_unfold_words
  simp (disch := decide) only [View.readAt_eq_ld, (hs0_0 t).read_unread, (hs0_1 t).read_unread, (hs0_2 t).read_unread, (hs0_3 t).read_unread,
    (hs0_4 t).read_unread]
  generalize iblk m c 0 t = x0
  generalize iblk m c 1 t = x1
  generalize iblk m c 2 t = x2
  generalize iblk m c 3 t = x3
  generalize iblk m c 4 t = x4
  have l0 : ∀ x : Vec F S1024x1024 .f32, View.ld x (Rect.unit ![0, 0] ![1024, 1024] inb_S1024x1024_S1024x1024_0_0) = x := fun x => View.ld_unit_lit (S := S1024x1024) _ x (by decide)
  have l1 : ∀ x : Vec F S1x1024 .f32, View.ld x (Rect.unit ![0, 0] ![1, 1024] inb_S1x1024_S1x1024_0_0) = x := fun x => View.ld_unit_lit (S := S1x1024) _ x (by decide)
  rw [l0, l1]
  rfl

/-- The block of transposed values a grid point leaves. -/
theorem tiles_open (c : Dev nD) (t : Fin cfg0.N) :
    (outsAt0 m c t).2 = View.canon (tileList (Cert.Kernel4Ideal.Gen.k0_pay48 (Cert.Kernel4Ideal.Gen.k0_pay2 (iblk m c 0 t) (iblk m c 1 t)) (iblk m c 4 t))) := by
  unfold outsAt0 out0_A_6
  dsimp only
  rw [View.read_writes_junk_eq_canon]
  unfold kernelRun0_A
  dsimp only
  sl_unfold_words
  simp (disch := decide) only [View.readAt_eq_ld, (hs0_0 t).read_unread, (hs0_1 t).read_unread, (hs0_2 t).read_unread, (hs0_3 t).read_unread,
    (hs0_4 t).read_unread]
  generalize iblk m c 0 t = x0
  generalize iblk m c 1 t = x1
  generalize iblk m c 2 t = x2
  generalize iblk m c 3 t = x3
  generalize iblk m c 4 t = x4
  have l0 : ∀ x : Vec F S1024x1024 .f32, View.ld x (Rect.unit ![0, 0] ![1024, 1024] inb_S1024x1024_S1024x1024_0_0) = x := fun x => View.ld_unit_lit (S := S1024x1024) _ x (by decide)
  have l1 : ∀ x : Vec F S1x1024 .f32, View.ld x (Rect.unit ![0, 0] ![1, 1024] inb_S1x1024_S1x1024_0_0) = x := fun x => View.ld_unit_lit (S := S1x1024) _ x (by decide)
  have l4 : ∀ x : Vec F S1024x1024 .bf16, View.ld x (Rect.unit ![0, 0] ![1024, 1024] inb_S1024x1024_S1024x1024_0_0) = x := fun x => View.ld_unit_lit (S := S1024x1024) _ x (by decide)
  rw [l0, l1, l4]
  rfl

end Structure

theorem pay27_at (u : FVec Ideal S1024x1024 .bf16) (w : Vec Ideal S1024x256 .bf16) (r : Fin 1024) (j : Fin 256) :
    k0_pay27 u w (ix2 r j) = ∑ k : Fin 1024, u (ix2 r k) * w (ix2 k j) := by
  pointwise [k0_pay27]

theorem plain_at (u : FVec Ideal S1024x1024 .bf16) (x2 : Vec Ideal S1024x2048 .bf16) (x3 : Vec Ideal S1x2048 .f32) (p : Fin 16) (r : Fin 1024) (l : Fin 128)
    (j : Fin 2048) (hj : 128 * p.val + l.val = j.val) :
    plain u x2 x3 p (ix2 r l) = (∑ k : Fin 1024, u (ix2 r k) * x2 (ix2 k j)) * x3 (ix2 0 j) := by
  have e1 : (⟨128 * p.val + l.val, by omega⟩ : Fin 2048) = j := Fin.ext hj
  have e2 : (⟨256 * (p.val / 2) + (128 * (p.val % 2) + l.val), by omega⟩ : Fin 2048) = j := Fin.ext (by dsimp only; omega)
  unfold plain
  pointwise
  rw [e1, halfOf_at, pay27_at]
  simp only [ldW x2 (256 * (p.val / 2)) (by omega), e2]

/-- Column `j` of a row `y` of the product, normalised in the first half of the columns. -/
def halfNorm (y : Fin 2048 → EReal) (j : Fin 2048) : EReal := if j.val < 1024 then headNorm y j else y j

/-- The query and key block at row `r`, column `j`. -/
theorem stored_canon (u : FVec Ideal S1024x1024 .bf16) (x2 : Vec Ideal S1024x2048 .bf16) (x3 : Vec Ideal S1x2048 .f32) (r : Fin 1024) (j : Fin 2048) :
    View.canon (laneList (stored u x2 x3)) (ix2 r j) = halfNorm (fun j => ∑ k : Fin 1024, u (ix2 r k) * x2 (ix2 k j)) j * x3 (ix2 0 j) := by
  refine stores_canon (stored u x2 x3) (fun r j => halfNorm (fun j => ∑ k : Fin 1024, u (ix2 r k) * x2 (ix2 k j)) j * x3 (ix2 0 j))
    (fun p r l j h => ?_) r j
  unfold stored halfNorm
  by_cases e : p.val < 8
  · rw [if_pos e, if_pos (by omega)]
    exact lanes_at u x2 x3 p r l j h
  · rw [if_neg e, if_neg (by omega)]
    exact plain_at u x2 x3 p r l j h

end Cert.Npe

end
-- ==== Proof.NpeArray.lean ====
/-
  The two result arrays of the norm and projection of an even layer. The second is the odd layers' function of the arrays its call reads.
-/
module

public import proofs.«01_k».proof.Proof.NpeBlock
public import proofs.«01_k».proof.Proof.NpArray
public import Idealize.ShloMosaic.Lib.Pipeline.Covers

@[expose] public section

set_option maxRecDepth 16384

noncomputable section

namespace Cert.Npe

open Cert.Kernel5Ideal Cert.Kernel5Ideal.Gen Idealize.ShloMosaic Idealize.ShloMosaic.TcCoe Idealize.SL.Sem
open Idealize.ShloMosaic.Pipeline (Dat)
open Cert.Np (arrU arrTile u_eq tile_eq)

/-! ## The windows' blocks in their arrays -/

theorem idx0 : ∀ t : Fin grid0.N, win0_0.index t = ![(grid0.coords t 0).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![(grid0.coords t 0).val, 0] := by decide +kernel
theorem idx6 : ∀ t : Fin grid0.N, win0_6.index t = ![(grid0.coords t 0).val / 8, 0, (grid0.coords t 0).val % 8, 0, 0] := by decide +kernel

/-- The transposed values' block of a grid coordinate. -/
theorem map6 : ∀ n : Fin 64, cc0_transform_6 (fun a => match a with | 0 => n) = ![n.val / 8, 0, n.val % 8, 0, 0] := by decide +kernel

theorem ct (t : Fin grid0.N) : (grid0.coords t 0).val < 64 := (grid0.coords t 0).isLt

/-! ## The result arrays -/

section Array

variable (H : S65536x1024.Idx → EReal) (G : S1x1024.Idx → EReal) (W : S1024x2048.Idx → EReal) (Q : S1x2048.Idx → EReal) (Wv : S1024x1024.Idx → EReal)

/-- The first result at row `t`, column `j`. -/
def arrLane (t : Fin 65536) (j : Fin 2048) : EReal := halfNorm (fun j => ∑ k : Fin 1024, arrU H G t k * W (ix2 k j)) j * Q (ix2 0 j)

theorem read0_eq (t : Fin cfg0.N) (r k : Fin 1024) :
    ((cfg0.win 0).blk t).view.read (Elt Ideal) H (ix2 r k) = H (ix2 ⟨1024 * (grid0.coords t 0).val + r.val, by have := ct t; omega⟩ k) := by
  have h0 := ct t
  blk_ext [idx0 t]

theorem read1_eq (t : Fin cfg0.N) (k : Fin 1024) : ((cfg0.win 1).blk t).view.read (Elt Ideal) G (ix2 0 k) = G (ix2 0 k) := by
  blk_ext [idx1 t]
theorem read2_eq (t : Fin cfg0.N) (k : Fin 1024) (j : Fin 2048) : ((cfg0.win 2).blk t).view.read (Elt Ideal) W (ix2 k j) = W (ix2 k j) := by
  blk_ext [idx2 t]
theorem read3_eq (t : Fin cfg0.N) (j : Fin 2048) : ((cfg0.win 3).blk t).view.read (Elt Ideal) Q (ix2 0 j) = Q (ix2 0 j) := by
  blk_ext [idx3 t]
theorem read4_eq (t : Fin cfg0.N) (a k : Fin 1024) : ((cfg0.win 4).blk t).view.read (Elt Ideal) Wv (ix2 a k) = Wv (ix2 a k) := by
  blk_ext [idx4 t]

end Array

theorem lane_eq {H : S65536x1024.Idx → EReal} {G : S1x1024.Idx → EReal} {W : S1024x2048.Idx → EReal} {Q : S1x2048.Idx → EReal}
    {x0 : Vec Ideal S1024x1024 .f32} {x1 : Vec Ideal S1x1024 .f32} {x2 : Vec Ideal S1024x2048 .bf16} {x3 : Vec Ideal S1x2048 .f32}
    {o : Fin 1024 → Fin 65536} (e0 : ∀ r k : Fin 1024, x0 (ix2 r k) = H (ix2 (o r) k)) (e1 : ∀ k : Fin 1024, x1 (ix2 0 k) = G (ix2 0 k))
    (e2 : ∀ (k : Fin 1024) (j : Fin 2048), x2 (ix2 k j) = W (ix2 k j)) (e3 : ∀ j : Fin 2048, x3 (ix2 0 j) = Q (ix2 0 j)) (r : Fin 1024) (j : Fin 2048) :
    View.canon (Cert.Np.laneList (stored (Cert.Kernel4Ideal.Gen.k0_pay2 x0 x1) x2 x3)) (ix2 r j) = arrLane H G W Q (o r) j := by
  rw [stored_canon]
  unfold arrLane
  simp only [u_eq e0 e1, e2, e3]

variable (m : (ℓ : Loc nD τ sig) → Buf (Elt Ideal) ℓ)

/-- Row `r` of a grid point's tile. -/
def rowOf (t : Fin cfg0.N) (r : Fin 1024) : Fin 65536 := ⟨1024 * (grid0.coords t 0).val + r.val, by have := ct t; omega⟩

/-- The first result array after the run. -/
theorem arrAt5_eq (c : Dev nD) :
    (dats m 0 c).arrAt 5 cfg0.N
      = fun y : S65536x2048.Idx => arrLane (V m c main_v23) (V m c main_v25) (V m c main_v19) (V m c main_v26) (y 0) (y 1) := by
  refine (dats m 0 c).arrAt_eq_of_covers 5 _ ((cfg0.win 5).covers_of_indexMap_surj rfl (by decide)
    fun β => ⟨(fun a => match a with | 0 => (⟨(β 0).val, (β 0).isLt⟩ : Fin 64)), fun a => ?_⟩) fun t hf y => ?_
  · match a with
    | 0 => exact (BitVec.toNat_ofNat _ _).trans (Nat.mod_eq_of_lt (lt_of_lt_of_le (show (β 0).val < 64 from (β 0).isLt) (by decide)))
    | 1 =>
      have h : (β 1).val < 1 := (β 1).isLt
      show 0 = (β 1).val
      omega
  · blk_simp
    rw [after0_5]
    have h0 : (y 0).val < 1024 := (y 0).isLt
    have h1 : (y 1).val < 2048 := (y 1).isLt
    have hy : y = (ix2 ⟨(y 0).val, h0⟩ ⟨(y 1).val, h1⟩ : S1024x2048.Idx) := by
      funext a
      fin_cases a <;> rfl
    refine (congrArg (outsAt0 m c t).1 hy).trans ?_
    rw [lanes_open]
    refine (lane_eq (o := rowOf t) (read0_eq (V m c main_v23) t) (read1_eq (V m c main_v25) t) (read2_eq (V m c main_v19) t) (read3_eq (V m c main_v26) t) _ _).trans ?_
    have e0 : (win0_5.blk t).view.emb y 0 = rowOf t ⟨(y 0).val, h0⟩ :=
      Fin.ext (by blk_simp [idx5 t]; exact congrArg (· + (y 0).val) (Nat.mul_comm _ _))
    have e1 : (win0_5.blk t).view.emb y 1 = ⟨(y 1).val, h1⟩ := Fin.ext (by blk_simp [idx5 t])
    rw [e0, e1]
    rfl

/-- The second result array after the run. -/
theorem arrAt6_eq (c : Dev nD) :
    (dats m 0 c).arrAt 6 cfg0.N
      = fun y : S8x8x32x144x256.Idx => arrTile (V m c main_v23) (V m c main_v25) (V m c main_v24) (y 0) (y 1) (y 2) (y 3) (y 4) := by
  refine (dats m 0 c).arrAt_eq_of_covers 6 _ ((cfg0.win 6).covers_of_indexMap_surj rfl (by decide)
    fun β => ⟨(fun a => match a with | 0 => (⟨8 * (β 0).val + (β 2).val, by
      have h0 : (β 0).val < 8 := (β 0).isLt
      have h2 : (β 2).val < 8 := (β 2).isLt
      exact (show 8 * (β 0).val + (β 2).val < 64 by omega)⟩ : Fin 64)), fun a => ?_⟩) fun t hf y => ?_
  · have h0 : (β 0).val < 8 := (β 0).isLt
    have h1 : (β 1).val < 1 := (β 1).isLt
    have h2 : (β 2).val < 8 := (β 2).isLt
    have h3 : (β 3).val < 1 := (β 3).isLt
    have h4 : (β 4).val < 1 := (β 4).isLt
    refine (congrFun (map6 ⟨8 * (β 0).val + (β 2).val, by omega⟩) a).trans ?_
    match a with
    | 0 => show (8 * (β 0).val + (β 2).val) / 8 = (β 0).val; omega
    | 1 => show 0 = (β 1).val; omega
    | 2 => show (8 * (β 0).val + (β 2).val) % 8 = (β 2).val; omega
    | 3 => show 0 = (β 3).val; omega
    | 4 => show 0 = (β 4).val; omega
  · blk_simp
    rw [after0_6]
    have hc := ct t
    have h0 : (y 0).val < 1 := (y 0).isLt
    have h1 : (y 1).val < 8 := (y 1).isLt
    have h2 : (y 2).val < 4 := (y 2).isLt
    have h3 : (y 3).val < 144 := (y 3).isLt
    have h4 : (y 4).val < 256 := (y 4).isLt
    have hy : y = (ix5 0 ⟨(y 1).val, h1⟩ ⟨(y 2).val, h2⟩ ⟨(y 3).val, h3⟩ ⟨(y 4).val, h4⟩ : S1x8x4x144x256.Idx) := by
      funext a
      fin_cases a
      exacts [Fin.ext (Nat.lt_one_iff.1 h0), rfl, rfl, rfl, rfl]
    refine (congrArg (outsAt0 m c t).2 hy).trans ?_
    rw [tiles_open]
    refine (tile_eq (o := rowOf t) (read0_eq (V m c main_v23) t) (read1_eq (V m c main_v25) t) (read4_eq (V m c main_v24) t) _ _ _ _
      ⟨(grid0.coords t 0).val / 8, by omega⟩ ⟨4 * ((grid0.coords t 0).val % 8) + (y 2).val, by omega⟩ fun r hr => ?_).trans ?_
    · dsimp only at hr
      show 1024 * (grid0.coords t 0).val + r.val = 8192 * ((grid0.coords t 0).val / 8) + 256 * (4 * ((grid0.coords t 0).val % 8) + (y 2).val) + (y 4).val
      omega
    have e0 : (win0_6.blk t).view.emb y 0 = ⟨(grid0.coords t 0).val / 8, by exact (show (grid0.coords t 0).val / 8 < 8 by omega)⟩ := Fin.ext (by blk_simp [idx6 t])
    have e1 : (win0_6.blk t).view.emb y 1 = ⟨(y 1).val, h1⟩ := Fin.ext (by blk_simp [idx6 t])
    have e2 : (win0_6.blk t).view.emb y 2 = ⟨4 * ((grid0.coords t 0).val % 8) + (y 2).val, by exact (show 4 * ((grid0.coords t 0).val % 8) + (y 2).val < 32 by omega)⟩ :=
      Fin.ext (by blk_simp [idx6 t]; exact congrArg (· + (y 2).val) (Nat.mul_comm _ _))
    have e3 : (win0_6.blk t).view.emb y 3 = ⟨(y 3).val, h3⟩ := Fin.ext (by blk_simp [idx6 t])
    have e4 : (win0_6.blk t).view.emb y 4 = ⟨(y 4).val, h4⟩ := Fin.ext (by blk_simp [idx6 t])
    rw [e0, e1, e2, e3, e4]
    rfl

end Cert.Npe

end
-- ==== Proof.NpeRef.lean ====
/-
  The reference of the norm and projection of an even layer, at an index. Up to the projection it is the odd layers' reference.
-/
module

public import proofs.«01_k».proof.Proof.Gen.Reference5Ideal.Read
public import proofs.«01_k».proof.Proof.NpRef

@[expose] public section

set_option maxRecDepth 16384

noncomputable section

namespace Cert.NpeRef

open Cert.Reference5Ideal Cert.Reference5Ideal.Gen Cert.Reference5Ideal.Read Cert.NpRef Idealize.ShloMosaic Idealize.ShloMosaic.TcCoe Idealize.SL.Sem

/-- The weight's column of value column `a`. -/
def valCol (a : Fin 1024) : Fin 3072 := if a.val < 512 then ⟨1024 + a.val, by omega⟩ else ⟨2048 + a.val, by omega⟩

section
variable (x0 : S8x8192x1024.Idx → EReal) (x1 : S1024.Idx → EReal) (x2 : S1024x3072.Idx → EReal) (x3 x4 : S64.Idx → EReal)

theorem proj_same : val_main_v13 (F := Ideal) x0 x1 x2 = Cert.Reference4Ideal.Read.val_main_v13 (F := Ideal) x0 x1 x2 := rfl

theorem proj_at (b : Fin 8) (s : Fin 8192) (j : Fin 3072) : val_main_v13 (F := Ideal) x0 x1 x2 (ix3 b s j) = refProj x0 x1 x2 b s j :=
  (congrFun (proj_same x0 x1 x2) _).trans (Cert.NpRef.proj_at x0 x1 x2 b s j)

theorem query_at (b : Fin 8) (s : Fin 8192) (h : Fin 8) (z : Fin 64) :
    val_main_v20 (F := Ideal) x0 x1 x2 (ix4 b s h z) = refProj x0 x1 x2 b s ⟨64 * h.val + z.val, by omega⟩ := by
  pointwise [val_main_v20, val_main_v14, proj_at]
  exact congrArg (refProj x0 x1 x2 b s) (Fin.ext (congrArg (· + z.val) (Nat.mul_comm _ _)))

theorem key_at (b : Fin 8) (s : Fin 8192) (h : Fin 8) (z : Fin 64) :
    val_main_v39 (F := Ideal) x0 x1 x2 (ix4 b s h z) = refProj x0 x1 x2 b s ⟨512 + (64 * h.val + z.val), by omega⟩ := by
  pointwise [val_main_v39, val_main_v15, proj_at]
  exact congrArg (refProj x0 x1 x2 b s) (Fin.ext (congrArg (fun n => 512 + (n + z.val)) (Nat.mul_comm _ _)))

theorem query_norm_at (b : Fin 8) (s : Fin 8192) (h : Fin 8) (z : Fin 64) :
    val_main_v38 (F := Ideal) x0 x1 x2 x3 (ix4 b s h z)
      = Ideal.div (refHead (fun z => refProj x0 x1 x2 b s ⟨64 * h.val + z.val, by omega⟩) z * x3 (ix1 z) * Ideal.ofBits FTy.f32 1040187392#32)
        (Ideal.log (Ideal.ofBits FTy.f32 1073741824#32)) := by
  unfold refHead
  pointwise [val_main_v38, val_main_v37, val_main_v36, val_main_cst_6, val_main_v35, val_main_v34, val_main_cst_5, val_main_v33, val_main_v32, val_main_v31,
    val_main_v30, val_main_v29, val_main_v28, val_main_v27, val_main_v26, val_main_v25, val_main_v24, val_main_v23, val_main_v22, val_main_v21, val_main_cst_2,
    val_main_cst_3, val_main_cst_4, query_at]

theorem key_norm_at (b : Fin 8) (s : Fin 8192) (h : Fin 8) (z : Fin 64) :
    val_main_v52 (F := Ideal) x0 x1 x2 x4 (ix4 b s h z)
      = refHead (fun z => refProj x0 x1 x2 b s ⟨512 + (64 * h.val + z.val), by omega⟩) z * x4 (ix1 z) := by
  unfold refHead
  pointwise [val_main_v52, val_main_v51, val_main_v50, val_main_v49, val_main_v48, val_main_v47, val_main_v46, val_main_v45, val_main_v44, val_main_v43,
    val_main_v42, val_main_v41, val_main_v40, val_main_cst_7, val_main_cst_8, val_main_cst_9, key_at]

/-- A row of 512 columns in the array of one row per position. -/
theorem head_index (t : Fin 65536) (h : Fin 8) (z : Fin 64) (y : S8x8192x8x64.Idx → EReal) :
    y (idx_main_v55 (ix2 t ⟨64 * h.val + z.val, by omega⟩)) = y (ix4 ⟨t.val / 8192, by omega⟩ ⟨t.val % 8192, by omega⟩ h z) := by
  refine congrArg y (funext fun a => Fin.ext ?_)
  fin_cases a
  · show (t.val * 512 + (64 * h.val + z.val)) / 4194304 = t.val / 8192
    omega
  · show (t.val * 512 + (64 * h.val + z.val)) / 512 % 8192 = t.val % 8192
    omega
  · show (t.val * 512 + (64 * h.val + z.val)) / 64 % 8 = h.val
    omega
  · show (t.val * 512 + (64 * h.val + z.val)) % 64 = z.val
    omega

theorem lane_index (t : Fin 65536) (j : Fin 512) (y : S8x8192x512.Idx → EReal) :
    y (idx_main_v57 (ix2 t j)) = y (ix3 ⟨t.val / 8192, by omega⟩ ⟨t.val % 8192, by omega⟩ j) := by
  refine congrArg y (funext fun a => Fin.ext ?_)
  fin_cases a
  · show (t.val * 512 + j.val) / 4194304 = t.val / 8192
    omega
  · show (t.val * 512 + j.val) / 512 % 8192 = t.val % 8192
    omega
  · show (t.val * 512 + j.val) % 512 = j.val
    omega

/-- Row `t` of the lanes: a query lane of the first attention. -/
theorem lane_q (t : Fin 65536) (h : Fin 8) (z : Fin 64) :
    val_main_v64 (F := Ideal) x0 x1 x2 x3 x4 (ix2 t ⟨64 * h.val + z.val, by omega⟩)
      = val_main_v38 (F := Ideal) x0 x1 x2 x3 (ix4 ⟨t.val / 8192, by omega⟩ ⟨t.val % 8192, by omega⟩ h z) := by
  pointwise [val_main_v64, val_main_v59]
  rw [dif_pos (by omega), val_main_v55_apply]
  exact head_index t h z _

/-- Row `t` of the lanes: a key lane of the first attention. -/
theorem lane_k (t : Fin 65536) (h : Fin 8) (z : Fin 64) :
    val_main_v64 (F := Ideal) x0 x1 x2 x3 x4 (ix2 t ⟨512 + (64 * h.val + z.val), by omega⟩)
      = val_main_v52 (F := Ideal) x0 x1 x2 x4 (ix4 ⟨t.val / 8192, by omega⟩ ⟨t.val % 8192, by omega⟩ h z) := by
  pointwise [val_main_v64, val_main_v59]
  rw [dif_pos (by omega), val_main_v56_apply]
  exact head_index t h z _

/-- Row `t` of the lanes: a query lane of the second attention. -/
theorem lane_bq (t : Fin 65536) (j : Fin 512) :
    val_main_v64 (F := Ideal) x0 x1 x2 x3 x4 (ix2 t ⟨1024 + j.val, by omega⟩)
      = refProj x0 x1 x2 ⟨t.val / 8192, by omega⟩ ⟨t.val % 8192, by omega⟩ ⟨1536 + j.val, by omega⟩ * Ideal.ofBits FTy.f32 1040187392#32 := by
  pointwise [val_main_v64, val_main_v59]
  rw [dif_neg (by omega), dif_neg (by omega), dif_pos (by omega), val_main_v57_apply,
    show (⟨1024 + j.val - 512 - 512, by omega⟩ : Fin 512) = j from Fin.ext (by dsimp only; omega)]
  refine (lane_index t j _).trans ?_
  pointwise [val_main_v54, val_main_v53, val_main_cst_10, val_main_v17, proj_at]

/-- Row `t` of the lanes: a key lane of the second attention. -/
theorem lane_bk (t : Fin 65536) (j : Fin 512) :
    val_main_v64 (F := Ideal) x0 x1 x2 x3 x4 (ix2 t ⟨1536 + j.val, by omega⟩)
      = refProj x0 x1 x2 ⟨t.val / 8192, by omega⟩ ⟨t.val % 8192, by omega⟩ ⟨2048 + j.val, by omega⟩ := by
  pointwise [val_main_v64, val_main_v59]
  rw [dif_neg (by omega), dif_neg (by omega), dif_neg (by omega), val_main_v58_apply,
    show (⟨1536 + j.val - 512 - 512 - 512, by omega⟩ : Fin 512) = j from Fin.ext (by dsimp only; omega)]
  refine (lane_index t j _).trans ?_
  pointwise [val_main_v18, proj_at]

theorem joined_at (b : Fin 8) (s : Fin 8192) (j : Fin 1024) : val_main_v60 (F := Ideal) x0 x1 x2 (ix3 b s j) = refProj x0 x1 x2 b s (valCol j) := by
  unfold valCol
  pointwise [val_main_v60]
  by_cases e : j.val < 512
  · rw [dif_pos e, if_pos e]
    pointwise [val_main_v16, proj_at]
  · rw [dif_neg e, if_neg e]
    pointwise [val_main_v19, proj_at]
    exact congrArg (refProj x0 x1 x2 b s) (Fin.ext (by dsimp only; omega))

theorem value_at (b : Fin 8) (n : Fin 32) (x : Fin 256) (p : Fin 8) (l : Fin 128) :
    val_main_v61 (F := Ideal) x0 x1 x2 (ix5 b n x p l)
      = refProj x0 x1 x2 b ⟨256 * n.val + x.val, by omega⟩ (valCol ⟨128 * p.val + l.val, by omega⟩) := by
  rw [val_main_v61_apply, ← joined_at]
  refine congrArg _ (funext fun a => Fin.ext ?_)
  fin_cases a
  · show ((((b.val * 32 + n.val) * 256 + x.val) * 8 + p.val) * 128 + l.val) / 8388608 = b.val
    omega
  · show ((((b.val * 32 + n.val) * 256 + x.val) * 8 + p.val) * 128 + l.val) / 1024 % 8192 = 256 * n.val + x.val
    omega
  · show ((((b.val * 32 + n.val) * 256 + x.val) * 8 + p.val) * 128 + l.val) % 1024 = 128 * p.val + l.val
    omega

/-- The second result: a value, or one. -/
theorem tile_at (b p : Fin 8) (n : Fin 32) (l : Fin 144) (x : Fin 256) :
    val_main_v66 (F := Ideal) x0 x1 x2 (ix5 b p n l x)
      = if h : l.val < 128 then refProj x0 x1 x2 b ⟨256 * n.val + x.val, by omega⟩ (valCol ⟨128 * p.val + l.val, by omega⟩) else 1 := by
  pointwise [val_main_v66, val_main_v65]
  by_cases e : l.val < 128
  · rw [dif_pos e, dif_pos e, ← value_at x0 x1 x2 b n x p ⟨l.val, e⟩]
    rw [val_main_v62_apply]
    exact congrArg (val_main_v61 (F := Ideal) x0 x1 x2) (funext fun a => by fin_cases a <;> rfl)
  · rw [dif_neg e, dif_neg e]
    pointwise [val_main_v63, val_main_cst_11]

end

end Cert.NpeRef

end
-- ==== Proof.NpeHost.lean ====
/-
  The arrays that the norm and projection call of an even layer reads, at an index, in terms of the arguments.
-/
module

public import proofs.«01_k».proof.Proof.NpeArray
public import proofs.«01_k».proof.Proof.NpeRef
public import proofs.«01_k».proof.Proof.BandHost
public import Idealize.ShloMosaic.Lib.StableHlo.RunRead

@[expose] public section

set_option maxRecDepth 16384

noncomputable section

namespace Cert.Npe

open Cert.Kernel5Ideal Cert.Kernel5Ideal.Gen Idealize.ShloMosaic Idealize.ShloMosaic.TcCoe Idealize.SL.Sem
open StableHlo
open Cert.NpeRef (valCol)

variable (m : (ℓ : Loc nD τ sig) → Buf (Elt Ideal) ℓ) (c : Dev nD)

/-- The residual stream. -/
abbrev argH : S8x8192x1024.Idx → EReal := m (c.tc.loc main_arg0)
/-- The norm's gain. -/
abbrev argG : S1024.Idx → EReal := m (c.tc.loc main_arg1)
/-- The projection's weight. -/
abbrev argW : S1024x3072.Idx → EReal := m (c.tc.loc main_arg2)
/-- The query norm's gain. -/
abbrev argQ : S64.Idx → EReal := m (c.tc.loc main_arg3)
/-- The key norm's gain. -/
abbrev argK : S64.Idx → EReal := m (c.tc.loc main_arg4)

/-- The weight's column of query or key column `j`. -/
def laneCol (j : Fin 2048) : Fin 3072 := if j.val < 1024 then ⟨j.val, by omega⟩ else ⟨512 + j.val, by omega⟩

theorem host_h (t : Fin 65536) (k : Fin 1024) : V m c main_v23 (ix2 t k) = argH m c (ix3 ⟨t.val / 8192, by omega⟩ ⟨t.val % 8192, by omega⟩ k) := by
  unfold V
  after_reads_simp
  pointwise

theorem host_g (k : Fin 1024) : V m c main_v25 (ix2 0 k) = argG m c (ix1 k) := by
  unfold V
  after_reads_simp
  pointwise

theorem host_w (k : Fin 1024) (j : Fin 2048) : V m c main_v19 (ix2 k j) = argW m c (ix2 k (laneCol j)) := by
  unfold V laneCol
  after_reads_simp
  pointwise
  by_cases e : j.val < 1024
  · rw [dif_pos e, if_pos e]
  · rw [dif_neg e, if_neg e]
    exact congrArg (fun j => argW m c (ix2 k j)) (Fin.ext (show 1536 + (j.val - 1024) = 512 + j.val by omega))

theorem host_wv (a k : Fin 1024) : V m c main_v24 (ix2 a k) = argW m c (ix2 k (valCol a)) := by
  unfold V valCol
  after_reads_simp
  pointwise
  by_cases e : a.val < 512
  · rw [dif_pos e, if_pos e]
    after_reads_simp
    pointwise
  · rw [dif_neg e, if_neg e]
    after_reads_simp
    pointwise
    exact congrArg (fun j => argW m c (ix2 k j)) (Fin.ext (show 2560 + (a.val - 512) = 2048 + a.val by omega))

theorem host_q (h : Fin 8) (z : Fin 64) :
    V m c main_v26 (ix2 0 ⟨64 * h.val + z.val, by omega⟩) = argQ m c (ix1 z) * (Ideal.ofBits FTy.f32 1040187392#32 * Cert.Band.log2e) := by
  unfold V
  after_reads_simp
  pointwise
  rw [dif_pos (by omega)]
  after_reads_simp
  pointwise [Cert.Band.log2e]
  exact congrArg (fun i => argQ m c (ix1 i) * (Ideal.ofBits FTy.f32 1040187392#32 * Ideal.div 1 (Ideal.log (Ideal.ofBits FTy.f32 1073741824#32))))
    (Fin.ext (show (64 * h.val + z.val) % 64 = z.val by omega))

theorem host_k (h : Fin 8) (z : Fin 64) :
    V m c main_v26 (ix2 0 ⟨512 + (64 * h.val + z.val), by omega⟩) = argK m c (ix1 z) := by
  unfold V
  after_reads_simp
  pointwise
  rw [dif_pos (by omega)]
  after_reads_simp
  pointwise

/-- The second attention's queries are scaled. -/
theorem host_bq (j : Fin 512) : V m c main_v26 (ix2 0 ⟨1024 + j.val, by omega⟩) = Ideal.ofBits FTy.f32 1040187392#32 := by
  unfold V
  after_reads_simp
  pointwise
  rw [dif_neg (by omega), dif_neg (by omega), dif_pos (by omega)]
  after_reads_simp
  pointwise

/-- The second attention's keys are not. -/
theorem host_bk (j : Fin 512) : V m c main_v26 (ix2 0 ⟨1536 + j.val, by omega⟩) = (1 : EReal) := by
  unfold V
  after_reads_simp
  pointwise
  rw [dif_neg (by omega), dif_neg (by omega), dif_neg (by omega)]
  after_reads_simp
  pointwise

end Cert.Npe

end
-- ==== Proof.NpeEq.lean ====
/-
  The kernel's two arrays of the norm and projection of an even layer are the reference's.
-/
module

public import proofs.«01_k».proof.Proof.NpeHost
public import proofs.«01_k».proof.Proof.NpeRef
public import proofs.«01_k».proof.Proof.NpEq

@[expose] public section

set_option maxRecDepth 16384

noncomputable section

namespace Cert.Npe

open Cert.Kernel5Ideal Cert.Kernel5Ideal.Gen Cert.NpeRef Idealize.ShloMosaic Idealize.ShloMosaic.TcCoe Idealize.SL.Sem
open Cert.Np (arrU arrTile row_at head_eq div_log headNorm)
open Cert.NpRef (refProj refHead)

section
variable {H : S65536x1024.Idx → EReal} {G : S1x1024.Idx → EReal} {W : S1024x2048.Idx → EReal} {Q : S1x2048.Idx → EReal} {Wv : S1024x1024.Idx → EReal}
  {x0 : S8x8192x1024.Idx → EReal} {x1 : S1024.Idx → EReal} {x2 : S1024x3072.Idx → EReal} {x3 x4 : S64.Idx → EReal}
  (hH : ∀ (t : Fin 65536) (k : Fin 1024), H (ix2 t k) = x0 (ix3 ⟨t.val / 8192, by omega⟩ ⟨t.val % 8192, by omega⟩ k))
  (hG : ∀ k : Fin 1024, G (ix2 0 k) = x1 (ix1 k))
  (hW : ∀ (k : Fin 1024) (j : Fin 2048), W (ix2 k j) = x2 (ix2 k (laneCol j)))
  (hWv : ∀ a k : Fin 1024, Wv (ix2 a k) = x2 (ix2 k (valCol a)))
  (hQ : ∀ (h : Fin 8) (z : Fin 64), Q (ix2 0 ⟨64 * h.val + z.val, by omega⟩) = x3 (ix1 z) * (Ideal.ofBits FTy.f32 1040187392#32 * Cert.Band.log2e))
  (hK : ∀ (h : Fin 8) (z : Fin 64), Q (ix2 0 ⟨512 + (64 * h.val + z.val), by omega⟩) = x4 (ix1 z))
  (hBq : ∀ j : Fin 512, Q (ix2 0 ⟨1024 + j.val, by omega⟩) = Ideal.ofBits FTy.f32 1040187392#32)
  (hBk : ∀ j : Fin 512, Q (ix2 0 ⟨1536 + j.val, by omega⟩) = 1)

include hH hG hW in
theorem proj_eq (t : Fin 65536) (j : Fin 2048) :
    (∑ k : Fin 1024, arrU H G t k * W (ix2 k j)) = refProj x0 x1 x2 ⟨t.val / 8192, by omega⟩ ⟨t.val % 8192, by omega⟩ (laneCol j) := by
  unfold refProj
  exact Finset.sum_congr rfl fun k _ => congrArg₂ (· * ·) (row_at (hH t) hG k) (hW k j)

theorem laneCol_low (j : Fin 2048) (i : Fin 3072) (h : j.val < 1024) (e : i.val = j.val) : laneCol j = i := by
  unfold laneCol
  rw [if_pos h]
  exact Fin.ext e.symm

theorem laneCol_high (j : Fin 2048) (i : Fin 3072) (h : ¬ j.val < 1024) (e : i.val = 512 + j.val) : laneCol j = i := by
  unfold laneCol
  rw [if_neg h]
  exact Fin.ext e.symm

include hH hG hW hQ in
theorem query_eq (t : Fin 65536) (h : Fin 8) (z : Fin 64) :
    arrLane H G W Q t ⟨64 * h.val + z.val, by omega⟩
      = Cert.Reference5Ideal.Read.val_main_v64 (F := Ideal) x0 x1 x2 x3 x4 (ix2 t ⟨64 * h.val + z.val, by omega⟩) := by
  have e : ∀ w : Fin 64, laneCol ⟨64 * h.val + w.val, by omega⟩ = ⟨64 * h.val + w.val, by omega⟩ := fun w =>
    laneCol_low _ _ (by dsimp only; omega) rfl
  rw [lane_q, query_norm_at, div_log]
  unfold arrLane halfNorm
  rw [if_pos (by dsimp only; omega), head_eq _ (fun z : Fin 64 => ⟨64 * h.val + z.val, by omega⟩) ⟨h.val, by omega⟩ (fun _ => rfl), hQ h z]
  simp only [proj_eq hH hG hW, e, mul_assoc]

include hH hG hW hK in
theorem key_eq (t : Fin 65536) (h : Fin 8) (z : Fin 64) :
    arrLane H G W Q t ⟨512 + (64 * h.val + z.val), by omega⟩
      = Cert.Reference5Ideal.Read.val_main_v64 (F := Ideal) x0 x1 x2 x3 x4 (ix2 t ⟨512 + (64 * h.val + z.val), by omega⟩) := by
  have e : ∀ w : Fin 64, laneCol ⟨512 + (64 * h.val + w.val), by omega⟩ = ⟨512 + (64 * h.val + w.val), by omega⟩ := fun w =>
    laneCol_low _ _ (by dsimp only; omega) rfl
  rw [lane_k, key_norm_at]
  unfold arrLane halfNorm
  rw [if_pos (by dsimp only; omega), head_eq _ (fun z : Fin 64 => ⟨512 + (64 * h.val + z.val), by omega⟩) ⟨8 + h.val, by omega⟩ (fun _ => by dsimp only; omega), hK h z]
  simp only [proj_eq hH hG hW, e]

include hH hG hW hBq in
theorem query2_eq (t : Fin 65536) (j : Fin 512) :
    arrLane H G W Q t ⟨1024 + j.val, by omega⟩
      = Cert.Reference5Ideal.Read.val_main_v64 (F := Ideal) x0 x1 x2 x3 x4 (ix2 t ⟨1024 + j.val, by omega⟩) := by
  rw [lane_bq]
  unfold arrLane halfNorm
  rw [if_neg (by dsimp only; omega), hBq]
  dsimp only
  rw [proj_eq hH hG hW, laneCol_high _ ⟨1536 + j.val, by omega⟩ (by dsimp only; omega) (by dsimp only; omega)]

include hH hG hW hBk in
theorem key2_eq (t : Fin 65536) (j : Fin 512) :
    arrLane H G W Q t ⟨1536 + j.val, by omega⟩
      = Cert.Reference5Ideal.Read.val_main_v64 (F := Ideal) x0 x1 x2 x3 x4 (ix2 t ⟨1536 + j.val, by omega⟩) := by
  rw [lane_bk]
  unfold arrLane halfNorm
  rw [if_neg (by dsimp only; omega), hBk, mul_one]
  dsimp only
  rw [proj_eq hH hG hW, laneCol_high _ ⟨2048 + j.val, by omega⟩ (by dsimp only; omega) (by dsimp only; omega)]

include hH hG hW hQ hK hBq hBk in
theorem lane_out (t : Fin 65536) (j : Fin 2048) :
    arrLane H G W Q t j = Cert.Reference5Ideal.Read.val_main_v64 (F := Ideal) x0 x1 x2 x3 x4 (ix2 t j) := by
  rcases (by omega : j.val < 512 ∨ (512 ≤ j.val ∧ j.val < 1024) ∨ (1024 ≤ j.val ∧ j.val < 1536) ∨ 1536 ≤ j.val) with e | e | e | e
  · have hq := query_eq (x4 := x4) hH hG hW hQ t ⟨j.val / 64, by omega⟩ ⟨j.val % 64, by omega⟩
    rwa [show (⟨64 * (j.val / 64) + j.val % 64, by omega⟩ : Fin 2048) = j from Fin.ext (by dsimp only; omega)] at hq
  · have hk := key_eq (x3 := x3) hH hG hW hK t ⟨(j.val - 512) / 64, by omega⟩ ⟨j.val % 64, by omega⟩
    rwa [show (⟨512 + (64 * ((j.val - 512) / 64) + j.val % 64), by omega⟩ : Fin 2048) = j from Fin.ext (by dsimp only; omega)] at hk
  · have hq := query2_eq (x3 := x3) (x4 := x4) hH hG hW hBq t ⟨j.val - 1024, by omega⟩
    rwa [show (⟨1024 + (j.val - 1024), by omega⟩ : Fin 2048) = j from Fin.ext (by dsimp only; omega)] at hq
  · have hk := key2_eq (x3 := x3) (x4 := x4) hH hG hW hBk t ⟨j.val - 1536, by omega⟩
    rwa [show (⟨1536 + (j.val - 1536), by omega⟩ : Fin 2048) = j from Fin.ext (by dsimp only; omega)] at hk

include hH hG hWv in
theorem tile_out (b p : Fin 8) (n : Fin 32) (l : Fin 144) (x : Fin 256) :
    arrTile H G Wv b p n l x = Cert.Reference5Ideal.Read.val_main_v66 (F := Ideal) x0 x1 x2 (ix5 b p n l x) := by
  rw [tile_at]
  unfold arrTile refProj
  by_cases e : l.val < 128
  · rw [dif_pos e, dif_pos e]
    refine Finset.sum_congr rfl fun k _ => ?_
    have eb : (⟨(8192 * b.val + 256 * n.val + x.val) / 8192, by omega⟩ : Fin 8) = b := Fin.ext (by dsimp only; omega)
    have es : (⟨(8192 * b.val + 256 * n.val + x.val) % 8192, by omega⟩ : Fin 8192) = ⟨256 * n.val + x.val, by omega⟩ := Fin.ext (by dsimp only; omega)
    rw [row_at (fun k => (hH _ k).trans (by rw [eb, es])) hG k, hWv, mul_comm]
  · rw [dif_neg e, dif_neg e]

end

/-- What the kernel's first result array holds is what the reference computes from the same arguments. -/
theorem arrAt5_ref (m : (ℓ : Loc nD τ sig) → Buf (Elt Ideal) ℓ) (c : Dev nD) :
    (dats m 0 c).arrAt 5 cfg0.N = Cert.Reference5Ideal.Read.val_main_v64 (F := Ideal) (m (c.tc.loc main_arg0)) (m (c.tc.loc main_arg1)) (m (c.tc.loc main_arg2))
      (m (c.tc.loc main_arg3)) (m (c.tc.loc main_arg4)) := by
  rw [arrAt5_eq]
  funext y
  obtain ⟨a, b, rfl⟩ : ∃ (a : Fin 65536) (b : Fin 2048), y = ix2 a b := ⟨y 0, y 1, by funext i; fin_cases i <;> rfl⟩
  exact lane_out (host_h m c) (host_g m c) (host_w m c) (host_q m c) (host_k m c) (host_bq m c) (host_bk m c) a b

/-- What the kernel's second result array holds is what the reference computes from the same arguments. -/
theorem arrAt6_ref (m : (ℓ : Loc nD τ sig) → Buf (Elt Ideal) ℓ) (c : Dev nD) :
    (dats m 0 c).arrAt 6 cfg0.N = Cert.Reference5Ideal.Read.val_main_v66 (F := Ideal) (m (c.tc.loc main_arg0)) (m (c.tc.loc main_arg1)) (m (c.tc.loc main_arg2)) := by
  rw [arrAt6_eq]
  funext y
  obtain ⟨b, p, n, l, x, rfl⟩ : ∃ (b p : Fin 8) (n : Fin 32) (l : Fin 144) (x : Fin 256), y = ix5 b p n l x :=
    ⟨y 0, y 1, y 2, y 3, y 4, by funext i; fin_cases i <;> rfl⟩
  exact tile_out (host_h m c) (host_g m c) (host_wv m c) b p n l x

end Cert.Npe

end
-- ==== Proof.lean ====
/-
  Five calls of the layers. Chunk-banded attention: the tiled kernel with base two exponentials computes the reference's softmax attention.
  Output projection, norm and convolved gated MLP: the tiled kernel, which computes the rows in front of its tile once more, gives
  the reference's whole-sequence convolution. The same call of the layers with two attentions projects two arrays instead of one.
  Norm and projection of an odd layer: the rows, normalised and projected, queries and keys normalised by head, values transposed in tiles.
  In an even layer, whose second attention's queries and keys are not normalised, the same.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.BandEq
public import proofs.«01_k».proof.Proof.FfnEq
public import proofs.«01_k».proof.Proof.FfeEq
public import proofs.«01_k».proof.Proof.NpEq
public import proofs.«01_k».proof.Proof.NpeEq
public import Idealize.ShloMosaic.Adequacy
public import Idealize.ShloMosaic.Init

@[expose] public section

noncomputable section

namespace Cert.Proof

open Idealize.ShloMosaic Idealize.SL.Sem

theorem pre_facts : Cert.Pre_finite_scores.Facts where
  bcast_S_S8x16x8192x64 := by decide
  bcast_S_S257x16 := by decide

/-- An extended real whose absolute value is below infinity is a real number. -/
theorem real_of_lt (x : EReal) (h : FloatOps.cmpf (F := Ideal) (φ := .f32) .olt (FloatOps.hostAbsf x) (FloatOps.ofBits .f32 0x7F800000#32) = 1#1) :
    ∃ r : ℝ, x = (r : EReal) := by
  have ht : Ideal.ofBits FTy.f32 0x7F800000#32 = ⊤ := by
    simp [Ideal.ofBits, Ideal.ieee]
  have hx : BitVec.ofBool (decide (max x (-x) < Ideal.ofBits FTy.f32 0x7F800000#32)) = 1#1 := h
  rw [ht] at hx
  induction x with
  | bot => exact absurd hx (by simp)
  | top => exact absurd hx (by simp)
  | coe r => exact ⟨r, rfl⟩

theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre hagree
  refine ⟨fun c => (Cert.KernelIdeal.Gen.dats m 0 c).arrAt 4 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨e0, e1, e2, e3⟩ := hagree c
  have hp := hpre c
  rw [Cert.ReferenceIdeal.Read.val_main_v89_eq, e0, e1, e2, e3]
  exact (Cert.BandEq.arrAt_ref m c (fun i => real_of_lt _ (congrFun hp.1 i)) (fun i => real_of_lt _ (congrFun hp.2.1 i))
    (fun i => real_of_lt _ (congrFun hp.2.2 i))).symm

/-- The reference runs and leaves its arguments; it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 10 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨e0, e1, e2, e3, e4, e5, e6, e7⟩ := hagree c
  rw [Cert.Reference2Ideal.Read.val_main_v46_eq, e0, e1, e2, e3, e4, e5, e6, e7]
  exact (Cert.Ffn.arrAt_ref m c).symm

/-- The MLP's reference runs and leaves its arguments; it has no semaphore. -/
theorem frame_reference2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 12 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  obtain ⟨e0, e1, e2, e3, e4, e5, e6, e7, e8⟩ := hagree c
  rw [Cert.Reference3Ideal.Read.val_main_v47_eq, e0, e1, e2, e3, e4, e5, e6, e7, e8]
  exact (Cert.Ffe.arrAt_ref m c).symm

/-- The even layers' MLP reference runs and leaves its arguments; it has no semaphore. -/
theorem frame_reference3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N, Cert.Kernel4Ideal.Value.run_blocks m g, ?_⟩
  refine (θ_run _ _ _).mono (fun r h c => ⟨(h c).1.trans ?_, (h c).2.1.trans ?_, (h c).2.2⟩) (Cert.Reference4Ideal.Value.run m' g')
  · obtain ⟨e0, e1, e2, e3, e4⟩ := hagree c
    rw [Cert.Reference4Ideal.Read.val_main_v56_eq, e0, e1, e2, e3, e4]
    exact (Cert.Np.arrAt5_ref m c).symm
  · obtain ⟨e0, e1, e2, e3, e4⟩ := hagree c
    rw [Cert.Reference4Ideal.Read.val_main_v58_eq, e0, e1, e2]
    exact (Cert.Np.arrAt6_ref m c).symm

/-- The odd layers' norm and projection reference runs and leaves its arguments; it has no semaphore. -/
theorem frame_reference4 : Cert.quiescent_Reference4Ideal (hReference4Ideal := Cert.Reference4Ideal.Gen.facts) := fun m g _ =>
  (θ_run _ _ _).mono (fun r h => ⟨fun c => (h c).2.2, sem_eq_zero_of_no_sems (by decide) r.2⟩) (Cert.Reference4Ideal.Value.run m g)

theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N, Cert.Kernel5Ideal.Value.run_blocks m g, ?_⟩
  refine (θ_run _ _ _).mono (fun r h c => ⟨(h c).1.trans ?_, (h c).2.1.trans ?_, (h c).2.2⟩) (Cert.Reference5Ideal.Value.run m' g')
  · obtain ⟨e0, e1, e2, e3, e4⟩ := hagree c
    rw [Cert.Reference5Ideal.Read.val_main_v64_eq, e0, e1, e2, e3, e4]
    exact (Cert.Npe.arrAt5_ref m c).symm
  · obtain ⟨e0, e1, e2, e3, e4⟩ := hagree c
    rw [Cert.Reference5Ideal.Read.val_main_v66_eq, e0, e1, e2]
    exact (Cert.Npe.arrAt6_ref m c).symm

/-- The even layers' norm and projection reference runs and leaves its arguments; it has no semaphore. -/
theorem frame_reference5 : Cert.quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run m g)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, pre_facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  trivial, algebraic, trivial, algebraic2, trivial, algebraic3, trivial, algebraic4, trivial, algebraic5⟩

end Cert.Proof

end
